-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v12) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v34) = v0 c
          ∧ r.2.mem ((c.tc : Thread Cert.Reference24Ideal.nD Cert.Reference24Ideal.τ).loc Cert.Reference24Ideal.main_v40) = v1 c
          ∧ r.2.mem ((c.tc : Thread Cert.Reference24Ideal.nD Cert.Reference24Ideal.τ).loc Cert.Reference24Ideal.main_v53) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v12) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_v36) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)) (v4 : (c : Dev Cert.Kernel27Ideal.nD) → Buf (Elt Ideal) ((c.tc : Thread Cert.Kernel27Ideal.nD Cert.Kernel27Ideal.τ).loc Cert.Kernel27Ideal.main_v0_4)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_v0_4) = v4 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v35) = v0 c
          ∧ r.2.mem ((c.tc : Thread Cert.Reference27Ideal.nD Cert.Reference27Ideal.τ).loc Cert.Reference27Ideal.main_v36) = v1 c
          ∧ r.2.mem ((c.tc : Thread Cert.Reference27Ideal.nD Cert.Reference27Ideal.τ).loc Cert.Reference27Ideal.main_v37) = v2 c
          ∧ r.2.mem ((c.tc : Thread Cert.Reference27Ideal.nD Cert.Reference27Ideal.τ).loc Cert.Reference27Ideal.main_v38) = v3 c
          ∧ r.2.mem ((c.tc : Thread Cert.Reference27Ideal.nD Cert.Reference27Ideal.τ).loc Cert.Reference27Ideal.main_v39) = v4 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v1_0)) (v1 : (c : Dev Cert.Kernel28Ideal.nD) → Buf (Elt Ideal) ((c.tc : Thread Cert.Kernel28Ideal.nD Cert.Kernel28Ideal.τ).loc Cert.Kernel28Ideal.main_v1_1)) (v2 : (c : Dev Cert.Kernel28Ideal.nD) → Buf (Elt Ideal) ((c.tc : Thread Cert.Kernel28Ideal.nD Cert.Kernel28Ideal.τ).loc Cert.Kernel28Ideal.main_v1_2)) (v3 : (c : Dev Cert.Kernel28Ideal.nD) → Buf (Elt Ideal) ((c.tc : Thread Cert.Kernel28Ideal.nD Cert.Kernel28Ideal.τ).loc Cert.Kernel28Ideal.main_v1_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1_0) = v0 c
          ∧ r.2.mem ((c.tc : Thread Cert.Kernel28Ideal.nD Cert.Kernel28Ideal.τ).loc Cert.Kernel28Ideal.main_v1_1) = v1 c
          ∧ r.2.mem ((c.tc : Thread Cert.Kernel28Ideal.nD Cert.Kernel28Ideal.τ).loc Cert.Kernel28Ideal.main_v1_2) = v2 c
          ∧ r.2.mem ((c.tc : Thread Cert.Kernel28Ideal.nD Cert.Kernel28Ideal.τ).loc Cert.Kernel28Ideal.main_v1_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v61) = v0 c
          ∧ r.2.mem ((c.tc : Thread Cert.Reference28Ideal.nD Cert.Reference28Ideal.τ).loc Cert.Reference28Ideal.main_v62) = v1 c
          ∧ r.2.mem ((c.tc : Thread Cert.Reference28Ideal.nD Cert.Reference28Ideal.τ).loc Cert.Reference28Ideal.main_v63) = v2 c
          ∧ r.2.mem ((c.tc : Thread Cert.Reference28Ideal.nD Cert.Reference28Ideal.τ).loc Cert.Reference28Ideal.main_v45) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
-- ==== Kernel.lean ====
abbrev S8320x1024 : Shape := ⟨2, ![8320, 1024]⟩
abbrev S1024x1024 : Shape := ⟨2, ![1024, 1024]⟩
abbrev S8320x2048 : Shape := ⟨2, ![8320, 2048]⟩
abbrev S2x1024 : Shape := ⟨2, ![2, 1024]⟩
abbrev S416x1024 : Shape := ⟨2, ![416, 1024]⟩
abbrev S416x2048 : Shape := ⟨2, ![416, 2048]⟩
abbrev S416x1 : Shape := ⟨2, ![416, 1]⟩
abbrev S1x1024 : Shape := ⟨2, ![1, 1024]⟩
abbrev S1024 : Shape := ⟨1, ![1024]⟩

abbrev nBuf : Space → Nat
  | .hbm => 10
  | .vmem => 19
  | .smem => 0
  | _ => 0

abbrev bufTy : (tb : Table) → Fin (tcTables nBuf tb) → BufTy
  | .hbm, ⟨0, _⟩ => ⟨S8320x1024, .f32⟩
  | .hbm, ⟨1, _⟩ => ⟨S1024x1024, .bf16⟩
  | .hbm, ⟨2, _⟩ => ⟨S8320x2048, .f32⟩
  | .hbm, ⟨3, _⟩ => ⟨S8320x1024, .bf16⟩
  | .hbm, ⟨4, _⟩ => ⟨S8320x1024, .bf16⟩
  | .hbm, ⟨5, _⟩ => ⟨S2x1024, .f32⟩
  | .hbm, ⟨6, _⟩ => ⟨S8320x1024, .bf16⟩
  | .hbm, ⟨7, _⟩ => ⟨S8320x1024, .bf16⟩
  | .hbm, ⟨8, _⟩ => ⟨S8320x2048, .bf16⟩
  | .hbm, ⟨9, _⟩ => ⟨S2x1024, .f32⟩
  | .local _ .vmem, ⟨0, _⟩ => ⟨S416x1024, .f32⟩
  | .local _ .vmem, ⟨1, _⟩ => ⟨S416x1024, .f32⟩
  | .local _ .vmem, ⟨2, _⟩ => ⟨S1024x1024, .bf16⟩
  | .local _ .vmem, ⟨3, _⟩ => ⟨S416x1024, .f32⟩
  | .local _ .vmem, ⟨4, _⟩ => ⟨S416x1024, .f32⟩
  | .local _ .vmem, ⟨5, _⟩ => ⟨S416x1024, .f32⟩
  | .local _ .vmem, ⟨6, _⟩ => ⟨S416x1024, .f32⟩
  | .local _ .vmem, ⟨7, _⟩ => ⟨S416x1024, .bf16⟩
  | .local _ .vmem, ⟨8, _⟩ => ⟨S416x1024, .bf16⟩
  | .local _ .vmem, ⟨9, _⟩ => ⟨S416x1024, .bf16⟩
  | .local _ .vmem, ⟨10, _⟩ => ⟨S416x1024, .bf16⟩
  | .local _ .vmem, ⟨11, _⟩ => ⟨S2x1024, .f32⟩
  | .local _ .vmem, ⟨12, _⟩ => ⟨S416x1024, .bf16⟩
  | .local _ .vmem, ⟨13, _⟩ => ⟨S416x1024, .bf16⟩
  | .local _ .vmem, ⟨14, _⟩ => ⟨S416x1024, .bf16⟩
  | .local _ .vmem, ⟨15, _⟩ => ⟨S416x1024, .bf16⟩
  | .local _ .vmem, ⟨16, _⟩ => ⟨S416x2048, .bf16⟩
  | .local _ .vmem, ⟨17, _⟩ => ⟨S416x2048, .bf16⟩
  | .local _ .vmem, ⟨18, _⟩ => ⟨S2x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c0_i32 : BitVec 32 := 0#32
  let v65 : BitVec 1 := Scalar.cmpi .eq arg0 c0_i32
  let v66 : BitVec 32 := Scalar.extui v65
  let c0_i32_32 : BitVec 32 := 0#32
  let v67 : BitVec 1 := Scalar.cmpi .ne v66 c0_i32_32
  v67

def k0_cond2 (i : grid0.Coords) : BitVec 1 :=
  let arg0 : BitVec 32 := BitVec.ofNat 32 (i 0).val
  let c0_i32_33 : BitVec 32 := 0#32
  let v68 : BitVec 1 := Scalar.cmpi .sgt arg0 c0_i32_33
  let v69 : BitVec 32 := Scalar.extui v68
  let c0_i32_34 : BitVec 32 := 0#32
  let v70 : BitVec 1 := Scalar.cmpi .ne v69 c0_i32_34
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S416x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S416x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S416x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S416x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S416x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S416x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S416x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8320x1024 : Shape := ⟨2, ![8320, 1024]⟩
abbrev S1024x1024 : Shape := ⟨2, ![1024, 1024]⟩
abbrev S8320x2048 : Shape := ⟨2, ![8320, 2048]⟩
abbrev S2x1024 : Shape := ⟨2, ![2, 1024]⟩
abbrev S8320 : Shape := ⟨1, ![8320]⟩
abbrev S_ : Shape := ⟨0, ![]⟩
abbrev S8320x1 : Shape := ⟨2, ![8320, 1]⟩
abbrev S1x1024 : Shape := ⟨2, ![1, 1024]⟩
abbrev S1024 : Shape := ⟨1, ![1024]⟩

abbrev nBuf : Space → Nat
  | .hbm => 91
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x1024, .bf16⟩
  | .hbm, ⟨2, _⟩ => ⟨S8320x2048, .f32⟩
  | .hbm, ⟨3, _⟩ => ⟨S8320x1024, .bf16⟩
  | .hbm, ⟨4, _⟩ => ⟨S8320x1024, .bf16⟩
  | .hbm, ⟨5, _⟩ => ⟨S2x1024, .f32⟩
  | .hbm, ⟨6, _⟩ => ⟨S8320, .i32⟩
  | .hbm, ⟨7, _⟩ => ⟨S_, .i32⟩
  | .hbm, ⟨8, _⟩ => ⟨S8320, .i32⟩
  | .hbm, ⟨9, _⟩ => ⟨S8320, .i1⟩
  | .hbm, ⟨10, _⟩ => ⟨S8320, .f32⟩
  | .hbm, ⟨11, _⟩ => ⟨S8320x1, .f32⟩
  | .hbm, ⟨12, _⟩ => ⟨S8320x1024, .f32⟩
  | .hbm, ⟨13, _⟩ => ⟨S8320x1024, .f32⟩
  | .hbm, ⟨14, _⟩ => ⟨S8320x1024, .f32⟩
  | .hbm, ⟨15, _⟩ => ⟨S8320x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S_, .f32⟩
  | .hbm, ⟨24, _⟩ => ⟨S8320x1024, .f32⟩
  | .hbm, ⟨25, _⟩ => ⟨S8320x1024, .f32⟩
  | .hbm, ⟨26, _⟩ => ⟨S_, .f32⟩
  | .hbm, ⟨27, _⟩ => ⟨S8320x1024, .f32⟩
  | .hbm, ⟨28, _⟩ => ⟨S8320x1024, .f32⟩
  | .hbm, ⟨29, _⟩ => ⟨S_, .f32⟩
  | .hbm, ⟨30, _⟩ => ⟨S8320x1024, .f32⟩
  | .hbm, ⟨31, _⟩ => ⟨S8320x1024, .f32⟩
  | .hbm, ⟨32, _⟩ => ⟨S8320x1024, .f32⟩
  | .hbm, ⟨33, _⟩ => ⟨S8320x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S8320x1024, .f32⟩
  | .hbm, ⟨38, _⟩ => ⟨S8320x1024, .f32⟩
  | .hbm, ⟨39, _⟩ => ⟨S8320x1024, .f32⟩
  | .hbm, ⟨40, _⟩ => ⟨S8320x1024, .f32⟩
  | .hbm, ⟨41, _⟩ => ⟨S_, .f32⟩
  | .hbm, ⟨42, _⟩ => ⟨S8320x1024, .f32⟩
  | .hbm, ⟨43, _⟩ => ⟨S8320x1024, .f32⟩
  | .hbm, ⟨44, _⟩ => ⟨S_, .f32⟩
  | .hbm, ⟨45, _⟩ => ⟨S8320x1024, .f32⟩
  | .hbm, ⟨46, _⟩ => ⟨S8320x1024, .f32⟩
  | .hbm, ⟨47, _⟩ => ⟨S_, .f32⟩
  | .hbm, ⟨48, _⟩ => ⟨S8320x1024, .f32⟩
  | .hbm, ⟨49, _⟩ => ⟨S8320x1024, .f32⟩
  | .hbm, ⟨50, _⟩ => ⟨S8320x1024, .f32⟩
  | .hbm, ⟨51, _⟩ => ⟨S8320x1024, .f32⟩
  | .hbm, ⟨52, _⟩ => ⟨S8320x1024, .f32⟩
  | .hbm, ⟨53, _⟩ => ⟨S1024x1024, .f32⟩
  | .hbm, ⟨54, _⟩ => ⟨S8320x1024, .f32⟩
  | .hbm, ⟨55, _⟩ => ⟨S8320x1024, .f32⟩
  | .hbm, ⟨56, _⟩ => ⟨S8320x1024, .f32⟩
  | .hbm, ⟨57, _⟩ => ⟨S8320x1024, .f32⟩
  | .hbm, ⟨58, _⟩ => ⟨S8320x1024, .f32⟩
  | .hbm, ⟨59, _⟩ => ⟨S8320x1024, .f32⟩
  | .hbm, ⟨60, _⟩ => ⟨S8320x1024, .f32⟩
  | .hbm, ⟨61, _⟩ => ⟨S8320x1024, .f32⟩
  | .hbm, ⟨62, _⟩ => ⟨S8320x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S2x1024, .f32⟩
  | .hbm, ⟨71, _⟩ => ⟨S8320x1024, .f32⟩
  | .hbm, ⟨72, _⟩ => ⟨S8320x1024, .f32⟩
  | .hbm, ⟨73, _⟩ => ⟨S8320x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S_, .f32⟩
  | .hbm, ⟨81, _⟩ => ⟨S2x1024, .f32⟩
  | .hbm, ⟨82, _⟩ => ⟨S2x1024, .f32⟩
  | .hbm, ⟨83, _⟩ => ⟨S_, .f32⟩
  | .hbm, ⟨84, _⟩ => ⟨S8320x2048, .f32⟩
  | .hbm, ⟨85, _⟩ => ⟨S_, .f32⟩
  | .hbm, ⟨86, _⟩ => ⟨S8320x2048, .f32⟩
  | .hbm, ⟨87, _⟩ => ⟨S8320x2048, .f32⟩
  | .hbm, ⟨88, _⟩ => ⟨S8320x1024, .bf16⟩
  | .hbm, ⟨89, _⟩ => ⟨S8320x1024, .bf16⟩
  | .hbm, ⟨90, _⟩ => ⟨S8320x2048, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_cst_9 : Ref sig .tc := ⟨.hbm, 77, rfl⟩
abbrev main_v60 : Ref sig .tc := ⟨.hbm, 78, rfl⟩
abbrev main_v61 : Ref sig .tc := ⟨.hbm, 79, rfl⟩
abbrev main_cst_10 : Ref sig .tc := ⟨.hbm, 80, rfl⟩
abbrev main_v62 : Ref sig .tc := ⟨.hbm, 81, rfl⟩
abbrev main_v63 : Ref sig .tc := ⟨.hbm, 82, rfl⟩
abbrev main_cst_11 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩

abbrev nD : Nat := 1
abbrev τ : Topo := Topo.v7x

variable {F : FTy → Type} [FloatOps F]
-- ==== Kernel2.lean ====
abbrev S8320x2816 : Shape := ⟨2, ![8320, 2816]⟩
abbrev S1024x5632 : Shape := ⟨2, ![1024, 5632]⟩
abbrev S8320x1024 : Shape := ⟨2, ![8320, 1024]⟩
abbrev S1x1024 : Shape := ⟨2, ![1, 1024]⟩
abbrev S1024x2816 : Shape := ⟨2, ![1024, 2816]⟩
abbrev S416x2816 : Shape := ⟨2, ![416, 2816]⟩
abbrev S416x1024 : Shape := ⟨2, ![416, 1024]⟩
abbrev S416 : Shape := ⟨1, ![416]⟩
abbrev S416x1 : Shape := ⟨2, ![416, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8320x2816, .bf16⟩
  | .hbm, ⟨1, _⟩ => ⟨S8320x2816, .bf16⟩
  | .hbm, ⟨2, _⟩ => ⟨S1024x5632, .bf16⟩
  | .hbm, ⟨3, _⟩ => ⟨S8320x1024, .f32⟩
  | .hbm, ⟨4, _⟩ => ⟨S1x1024, .f32⟩
  | .hbm, ⟨5, _⟩ => ⟨S8320x1024, .f32⟩
  | .hbm, ⟨6, _⟩ => ⟨S1024x2816, .bf16⟩
  | .hbm, ⟨7, _⟩ => ⟨S1024x2816, .bf16⟩
  | .hbm, ⟨8, _⟩ => ⟨S8320x1024, .f32⟩
  | .hbm, ⟨9, _⟩ => ⟨S1x1024, .f32⟩
  | .local _ .vmem, ⟨0, _⟩ => ⟨S416x2816, .bf16⟩
  | .local _ .vmem, ⟨1, _⟩ => ⟨S416x2816, .bf16⟩
  | .local _ .vmem, ⟨2, _⟩ => ⟨S416x2816, .bf16⟩
  | .local _ .vmem, ⟨3, _⟩ => ⟨S416x2816, .bf16⟩
  | .local _ .vmem, ⟨4, _⟩ => ⟨S1024x2816, .bf16⟩
  | .local _ .vmem, ⟨5, _⟩ => ⟨S1024x2816, .bf16⟩
  | .local _ .vmem, ⟨6, _⟩ => ⟨S416x1024, .f32⟩
  | .local _ .vmem, ⟨7, _⟩ => ⟨S416x1024, .f32⟩
  | .local _ .vmem, ⟨8, _⟩ => ⟨S1x1024, .f32⟩
  | .local _ .vmem, ⟨9, _⟩ => ⟨S416x1024, .f32⟩
  | .local _ .vmem, ⟨10, _⟩ => ⟨S416x1024, .f32⟩
  | .local _ .vmem, ⟨11, _⟩ => ⟨S416x1024, .f32⟩
  | .local _ .vmem, ⟨12, _⟩ => ⟨S416x1024, .f32⟩
  | .local _ .vmem, ⟨13, _⟩ => ⟨S1x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_22 : BitVec 32 := 0#32
  let v41 : BitVec 1 := Scalar.cmpi .ne v40 c0_i32_22
  v41

def k0_cond2 (i : grid0.Coords) : BitVec 1 :=
  let arg0 : BitVec 32 := BitVec.ofNat 32 (i 0).val
  let c0_i32_23 : BitVec 32 := 0#32
  let v42 : BitVec 1 := Scalar.cmpi .sgt arg0 c0_i32_23
  let v43 : BitVec 32 := Scalar.extui v42
  let c0_i32_24 : BitVec 32 := 0#32
  let v44 : BitVec 1 := Scalar.cmpi .ne v43 c0_i32_24
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S416x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S416x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S8320x2816 : Shape := ⟨2, ![8320, 2816]⟩
abbrev S1024x5632 : Shape := ⟨2, ![1024, 5632]⟩
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S8320x5632 : Shape := ⟨2, ![8320, 5632]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S8320x2816, .bf16⟩
  | .hbm, ⟨2, _⟩ => ⟨S1024x5632, .bf16⟩
  | .hbm, ⟨3, _⟩ => ⟨S8320x1024, .f32⟩
  | .hbm, ⟨4, _⟩ => ⟨S1x1024, .f32⟩
  | .hbm, ⟨5, _⟩ => ⟨S8320x1024, .f32⟩
  | .hbm, ⟨6, _⟩ => ⟨S8320x1024, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x1, .f32⟩
  | .hbm, ⟨18, _⟩ => ⟨S_, .f32⟩
  | .hbm, ⟨19, _⟩ => ⟨S8320x1, .f32⟩
  | .hbm, ⟨20, _⟩ => ⟨S8320x1, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x1024, .f32⟩
  | .hbm, ⟨25, _⟩ => ⟨S1024x5632, .f32⟩
  | .hbm, ⟨26, _⟩ => ⟨S8320x5632, .f32⟩
  | .hbm, ⟨27, _⟩ => ⟨S8320x2816, .f32⟩
  | .hbm, ⟨28, _⟩ => ⟨S8320x2816, .f32⟩
  | .hbm, ⟨29, _⟩ => ⟨S8320x2816, .f32⟩
  | .hbm, ⟨30, _⟩ => ⟨S8320x2816, .f32⟩
  | .hbm, ⟨31, _⟩ => ⟨S_, .f32⟩
  | .hbm, ⟨32, _⟩ => ⟨S8320x5632, .f32⟩
  | .hbm, ⟨33, _⟩ => ⟨S_, .f32⟩
  | .hbm, ⟨34, _⟩ => ⟨S8320x5632, .f32⟩
  | .hbm, ⟨35, _⟩ => ⟨S8320x5632, .f32⟩
  | .hbm, ⟨36, _⟩ => ⟨S8320x1024, .f32⟩
  | .hbm, ⟨37, _⟩ => ⟨S8320x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8320x1024, .f32⟩
  | .hbm, ⟨42, _⟩ => ⟨S8320x1024, .f32⟩
  | .hbm, ⟨43, _⟩ => ⟨S8320x1024, .f32⟩
  | .hbm, ⟨44, _⟩ => ⟨S_, .f32⟩
  | .hbm, ⟨45, _⟩ => ⟨S8320, .f32⟩
  | .hbm, ⟨46, _⟩ => ⟨S8320x1, .f32⟩
  | .hbm, ⟨47, _⟩ => ⟨S8320x1024, .f32⟩
  | .hbm, ⟨48, _⟩ => ⟨S8320x1024, .f32⟩
  | .hbm, ⟨49, _⟩ => ⟨S8320x1024, .f32⟩
  | .hbm, ⟨50, _⟩ => ⟨S8320x1, .f32⟩
  | .hbm, ⟨51, _⟩ => ⟨S_, .f32⟩
  | .hbm, ⟨52, _⟩ => ⟨S8320x1, .f32⟩
  | .hbm, ⟨53, _⟩ => ⟨S8320x1, .f32⟩
  | .hbm, ⟨54, _⟩ => ⟨S_, .f32⟩
  | .hbm, ⟨55, _⟩ => ⟨S8320, .f32⟩
  | .hbm, ⟨56, _⟩ => ⟨S8320x1024, .f32⟩
  | .hbm, ⟨57, _⟩ => ⟨S8320x1024, .f32⟩
  | .hbm, ⟨58, _⟩ => ⟨S8320x1024, .f32⟩
  | .hbm, ⟨59, _⟩ => ⟨S8320x1024, .f32⟩
  | .hbm, ⟨60, _⟩ => ⟨S8320x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Kernel3.lean ====
abbrev S8320x2048 : Shape := ⟨2, ![8320, 2048]⟩
abbrev S8320x3072 : Shape := ⟨2, ![8320, 3072]⟩
abbrev S8320x512 : Shape := ⟨2, ![8320, 512]⟩
abbrev S8320x1280 : Shape := ⟨2, ![8320, 1280]⟩
abbrev S1024x2048 : Shape := ⟨2, ![1024, 2048]⟩
abbrev S1024x3072 : Shape := ⟨2, ![1024, 3072]⟩
abbrev S1024x512 : Shape := ⟨2, ![1024, 512]⟩
abbrev S1024x1280 : Shape := ⟨2, ![1024, 1280]⟩
abbrev S8320x1024 : Shape := ⟨2, ![8320, 1024]⟩
abbrev S1x1024 : Shape := ⟨2, ![1, 1024]⟩
abbrev S416x2048 : Shape := ⟨2, ![416, 2048]⟩
abbrev S416x3072 : Shape := ⟨2, ![416, 3072]⟩
abbrev S416x512 : Shape := ⟨2, ![416, 512]⟩
abbrev S416x1280 : Shape := ⟨2, ![416, 1280]⟩
abbrev S416x1024 : Shape := ⟨2, ![416, 1024]⟩
abbrev S416 : Shape := ⟨1, ![416]⟩
abbrev S416x1 : Shape := ⟨2, ![416, 1]⟩
abbrev S1024 : Shape := ⟨1, ![1024]⟩

abbrev nBuf : Space → Nat
  | .hbm => 15
  | .vmem => 23
  | .smem => 0
  | _ => 0

abbrev bufTy : (tb : Table) → Fin (tcTables nBuf tb) → BufTy
  | .hbm, ⟨0, _⟩ => ⟨S8320x2048, .bf16⟩
  | .hbm, ⟨1, _⟩ => ⟨S8320x3072, .bf16⟩
  | .hbm, ⟨2, _⟩ => ⟨S8320x512, .bf16⟩
  | .hbm, ⟨3, _⟩ => ⟨S8320x1280, .bf16⟩
  | .hbm, ⟨4, _⟩ => ⟨S8320x2048, .bf16⟩
  | .hbm, ⟨5, _⟩ => ⟨S1024x2048, .bf16⟩
  | .hbm, ⟨6, _⟩ => ⟨S1024x3072, .bf16⟩
  | .hbm, ⟨7, _⟩ => ⟨S1024x512, .bf16⟩
  | .hbm, ⟨8, _⟩ => ⟨S1024x1280, .bf16⟩
  | .hbm, ⟨9, _⟩ => ⟨S1024x2048, .bf16⟩
  | .hbm, ⟨10, _⟩ => ⟨S8320x1024, .f32⟩
  | .hbm, ⟨11, _⟩ => ⟨S1x1024, .f32⟩
  | .hbm, ⟨12, _⟩ => ⟨S8320x1024, .f32⟩
  | .hbm, ⟨13, _⟩ => ⟨S8320x1024, .f32⟩
  | .hbm, ⟨14, _⟩ => ⟨S1x1024, .f32⟩
  | .local _ .vmem, ⟨0, _⟩ => ⟨S416x2048, .bf16⟩
  | .local _ .vmem, ⟨1, _⟩ => ⟨S416x2048, .bf16⟩
  | .local _ .vmem, ⟨2, _⟩ => ⟨S416x3072, .bf16⟩
  | .local _ .vmem, ⟨3, _⟩ => ⟨S416x3072, .bf16⟩
  | .local _ .vmem, ⟨4, _⟩ => ⟨S416x512, .bf16⟩
  | .local _ .vmem, ⟨5, _⟩ => ⟨S416x512, .bf16⟩
  | .local _ .vmem, ⟨6, _⟩ => ⟨S416x1280, .bf16⟩
  | .local _ .vmem, ⟨7, _⟩ => ⟨S416x1280, .bf16⟩
  | .local _ .vmem, ⟨8, _⟩ => ⟨S416x2048, .bf16⟩
  | .local _ .vmem, ⟨9, _⟩ => ⟨S416x2048, .bf16⟩
  | .local _ .vmem, ⟨10, _⟩ => ⟨S1024x2048, .bf16⟩
  | .local _ .vmem, ⟨11, _⟩ => ⟨S1024x3072, .bf16⟩
  | .local _ .vmem, ⟨12, _⟩ => ⟨S1024x512, .bf16⟩
  | .local _ .vmem, ⟨13, _⟩ => ⟨S1024x1280, .bf16⟩
  | .local _ .vmem, ⟨14, _⟩ => ⟨S1024x2048, .bf16⟩
  | .local _ .vmem, ⟨15, _⟩ => ⟨S416x1024, .f32⟩
  | .local _ .vmem, ⟨16, _⟩ => ⟨S416x1024, .f32⟩
  | .local _ .vmem, ⟨17, _⟩ => ⟨S1x1024, .f32⟩
  | .local _ .vmem, ⟨18, _⟩ => ⟨S416x1024, .f32⟩
  | .local _ .vmem, ⟨19, _⟩ => ⟨S416x1024, .f32⟩
  | .local _ .vmem, ⟨20, _⟩ => ⟨S416x1024, .f32⟩
  | .local _ .vmem, ⟨21, _⟩ => ⟨S416x1024, .f32⟩
  | .local _ .vmem, ⟨22, _⟩ => ⟨S1x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c0_i32 : BitVec 32 := 0#32
  let v49 : BitVec 1 := Scalar.cmpi .eq arg0 c0_i32
  let v50 : BitVec 32 := Scalar.extui v49
  let c0_i32_37 : BitVec 32 := 0#32
  let v51 : BitVec 1 := Scalar.cmpi .ne v50 c0_i32_37
  v51

def k0_cond2 (i : grid0.Coords) : BitVec 1 :=
  let arg0 : BitVec 32 := BitVec.ofNat 32 (i 0).val
  let c0_i32_38 : BitVec 32 := 0#32
  let v52 : BitVec 1 := Scalar.cmpi .sgt arg0 c0_i32_38
  let v53 : BitVec 32 := Scalar.extui v52
  let c0_i32_39 : BitVec 32 := 0#32
  let v54 : BitVec 1 := Scalar.cmpi .ne v53 c0_i32_39
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S416x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S416x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1280 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S416x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S416x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S416x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference3Ideal.lean ====
abbrev S8320x2048 : Shape := ⟨2, ![8320, 2048]⟩
abbrev S8320x3072 : Shape := ⟨2, ![8320, 3072]⟩
abbrev S8320x512 : Shape := ⟨2, ![8320, 512]⟩
abbrev S8320x1280 : Shape := ⟨2, ![8320, 1280]⟩
abbrev S1024x2048 : Shape := ⟨2, ![1024, 2048]⟩
abbrev S1024x3072 : Shape := ⟨2, ![1024, 3072]⟩
abbrev S1024x512 : Shape := ⟨2, ![1024, 512]⟩
abbrev S1024x1280 : Shape := ⟨2, ![1024, 1280]⟩
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x3072, .bf16⟩
  | .hbm, ⟨2, _⟩ => ⟨S8320x512, .bf16⟩
  | .hbm, ⟨3, _⟩ => ⟨S8320x1280, .bf16⟩
  | .hbm, ⟨4, _⟩ => ⟨S8320x2048, .bf16⟩
  | .hbm, ⟨5, _⟩ => ⟨S1024x2048, .bf16⟩
  | .hbm, ⟨6, _⟩ => ⟨S1024x3072, .bf16⟩
  | .hbm, ⟨7, _⟩ => ⟨S1024x512, .bf16⟩
  | .hbm, ⟨8, _⟩ => ⟨S1024x1280, .bf16⟩
  | .hbm, ⟨9, _⟩ => ⟨S1024x2048, .bf16⟩
  | .hbm, ⟨10, _⟩ => ⟨S8320x1024, .f32⟩
  | .hbm, ⟨11, _⟩ => ⟨S1x1024, .f32⟩
  | .hbm, ⟨12, _⟩ => ⟨S8320x1024, .f32⟩
  | .hbm, ⟨13, _⟩ => ⟨S8320x1024, .f32⟩
  | .hbm, ⟨14, _⟩ => ⟨S_, .f32⟩
  | .hbm, ⟨15, _⟩ => ⟨S8320, .f32⟩
  | .hbm, ⟨16, _⟩ => ⟨S8320x1, .f32⟩
  | .hbm, ⟨17, _⟩ => ⟨S_, .f32⟩
  | .hbm, ⟨18, _⟩ => ⟨S8320x1, .f32⟩
  | .hbm, ⟨19, _⟩ => ⟨S8320x1, .f32⟩
  | .hbm, ⟨20, _⟩ => ⟨S_, .f32⟩
  | .hbm, ⟨21, _⟩ => ⟨S8320x1, .f32⟩
  | .hbm, ⟨22, _⟩ => ⟨S8320x1, .f32⟩
  | .hbm, ⟨23, _⟩ => ⟨S8320x1, .f32⟩
  | .hbm, ⟨24, _⟩ => ⟨S8320x1, .f32⟩
  | .hbm, ⟨25, _⟩ => ⟨S_, .f32⟩
  | .hbm, ⟨26, _⟩ => ⟨S8320x1, .f32⟩
  | .hbm, ⟨27, _⟩ => ⟨S8320x1, .f32⟩
  | .hbm, ⟨28, _⟩ => ⟨S8320x1024, .f32⟩
  | .hbm, ⟨29, _⟩ => ⟨S8320x1024, .f32⟩
  | .hbm, ⟨30, _⟩ => ⟨S8320x1024, .f32⟩
  | .hbm, ⟨31, _⟩ => ⟨S8320x1024, .f32⟩
  | .hbm, ⟨32, _⟩ => ⟨S1024x2048, .f32⟩
  | .hbm, ⟨33, _⟩ => ⟨S8320x2048, .f32⟩
  | .hbm, ⟨34, _⟩ => ⟨S1024x3072, .f32⟩
  | .hbm, ⟨35, _⟩ => ⟨S8320x3072, .f32⟩
  | .hbm, ⟨36, _⟩ => ⟨S1024x512, .f32⟩
  | .hbm, ⟨37, _⟩ => ⟨S8320x512, .f32⟩
  | .hbm, ⟨38, _⟩ => ⟨S1024x1280, .f32⟩
  | .hbm, ⟨39, _⟩ => ⟨S8320x1280, .f32⟩
  | .hbm, ⟨40, _⟩ => ⟨S1024x2048, .f32⟩
  | .hbm, ⟨41, _⟩ => ⟨S8320x2048, .f32⟩
  | .hbm, ⟨42, _⟩ => ⟨S8320x2048, .f32⟩
  | .hbm, ⟨43, _⟩ => ⟨S8320x3072, .f32⟩
  | .hbm, ⟨44, _⟩ => ⟨S8320x512, .f32⟩
  | .hbm, ⟨45, _⟩ => ⟨S8320x1280, .f32⟩
  | .hbm, ⟨46, _⟩ => ⟨S8320x2048, .f32⟩
  | .hbm, ⟨47, _⟩ => ⟨S8320x1024, .f32⟩
  | .hbm, ⟨48, _⟩ => ⟨S8320x1024, .f32⟩
  | .hbm, ⟨49, _⟩ => ⟨S8320x1024, .f32⟩
  | .hbm, ⟨50, _⟩ => ⟨S8320x1024, .f32⟩
  | .hbm, ⟨51, _⟩ => ⟨S8320x1024, .f32⟩
  | .hbm, ⟨52, _⟩ => ⟨S8320x1024, .f32⟩
  | .hbm, ⟨53, _⟩ => ⟨S8320x1024, .f32⟩
  | .hbm, ⟨54, _⟩ => ⟨S8320x1024, .f32⟩
  | .hbm, ⟨55, _⟩ => ⟨S8320x1024, .f32⟩
  | .hbm, ⟨56, _⟩ => ⟨S8320x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8320x1024, .f32⟩
  | .hbm, ⟨61, _⟩ => ⟨S8320x1024, .f32⟩
  | .hbm, ⟨62, _⟩ => ⟨S8320x1024, .f32⟩
  | .hbm, ⟨63, _⟩ => ⟨S_, .f32⟩
  | .hbm, ⟨64, _⟩ => ⟨S8320, .f32⟩
  | .hbm, ⟨65, _⟩ => ⟨S8320x1, .f32⟩
  | .hbm, ⟨66, _⟩ => ⟨S8320x1024, .f32⟩
  | .hbm, ⟨67, _⟩ => ⟨S8320x1024, .f32⟩
  | .hbm, ⟨68, _⟩ => ⟨S8320x1024, .f32⟩
  | .hbm, ⟨69, _⟩ => ⟨S8320x1, .f32⟩
  | .hbm, ⟨70, _⟩ => ⟨S_, .f32⟩
  | .hbm, ⟨71, _⟩ => ⟨S8320x1, .f32⟩
  | .hbm, ⟨72, _⟩ => ⟨S8320x1, .f32⟩
  | .hbm, ⟨73, _⟩ => ⟨S_, .f32⟩
  | .hbm, ⟨74, _⟩ => ⟨S8320, .f32⟩
  | .hbm, ⟨75, _⟩ => ⟨S8320x1024, .f32⟩
  | .hbm, ⟨76, _⟩ => ⟨S8320x1024, .f32⟩
  | .hbm, ⟨77, _⟩ => ⟨S8320x1024, .f32⟩
  | .hbm, ⟨78, _⟩ => ⟨S8320x1024, .f32⟩
  | .hbm, ⟨79, _⟩ => ⟨S8320x1024, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_3 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_4 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_5 : Ref sig .tc := ⟨.hbm, 70, rfl⟩
abbrev main_v51 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Kernel4.lean ====
abbrev S8320x1024 : Shape := ⟨2, ![8320, 1024]⟩
abbrev S8320x2816 : Shape := ⟨2, ![8320, 2816]⟩
abbrev S1024x2816 : Shape := ⟨2, ![1024, 2816]⟩
abbrev S2080x1024 : Shape := ⟨2, ![2080, 1024]⟩
abbrev S2080x1408 : Shape := ⟨2, ![2080, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x2816, .bf16⟩
  | .hbm, ⟨2, _⟩ => ⟨S1024x2816, .bf16⟩
  | .local _ .vmem, ⟨0, _⟩ => ⟨S2080x1024, .bf16⟩
  | .local _ .vmem, ⟨1, _⟩ => ⟨S2080x1024, .bf16⟩
  | .local _ .vmem, ⟨2, _⟩ => ⟨S2080x1408, .bf16⟩
  | .local _ .vmem, ⟨3, _⟩ => ⟨S2080x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8320x1024 : Shape := ⟨2, ![8320, 1024]⟩
abbrev S8320x2816 : Shape := ⟨2, ![8320, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x2816, .bf16⟩
  | .hbm, ⟨2, _⟩ => ⟨S_, .f32⟩
  | .hbm, ⟨3, _⟩ => ⟨S1024x2816, .f32⟩
  | .hbm, ⟨4, _⟩ => ⟨S8320x1024, .f32⟩
  | .hbm, ⟨5, _⟩ => ⟨S8320x2816, .f32⟩
  | .hbm, ⟨6, _⟩ => ⟨S8320x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8320x2816 : Shape := ⟨2, ![8320, 2816]⟩
abbrev S8320x1024 : Shape := ⟨2, ![8320, 1024]⟩
abbrev S2816x1024 : Shape := ⟨2, ![2816, 1024]⟩
abbrev S2080x1408 : Shape := ⟨2, ![2080, 1408]⟩
abbrev S2080x1024 : Shape := ⟨2, ![2080, 1024]⟩
abbrev S1408x1024 : Shape := ⟨2, ![1408, 1024]⟩
abbrev S2080x1 : Shape := ⟨2, ![2080, 1]⟩

abbrev nBuf : Space → Nat
  | .hbm => 3
  | .vmem => 7
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .bf16⟩
  | .hbm, ⟨2, _⟩ => ⟨S2816x1024, .bf16⟩
  | .local _ .vmem, ⟨0, _⟩ => ⟨S2080x1408, .bf16⟩
  | .local _ .vmem, ⟨1, _⟩ => ⟨S2080x1408, .bf16⟩
  | .local _ .vmem, ⟨2, _⟩ => ⟨S2080x1024, .bf16⟩
  | .local _ .vmem, ⟨3, _⟩ => ⟨S2080x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_7 : BitVec 32 := 0#32
  let v21 : BitVec 1 := Scalar.cmpi .ne v20 c0_i32_7
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8320x2816 : Shape := ⟨2, ![8320, 2816]⟩
abbrev S8320x1024 : Shape := ⟨2, ![8320, 1024]⟩
abbrev S8320 : Shape := ⟨1, ![8320]⟩
abbrev S_ : Shape := ⟨0, ![]⟩
abbrev S8320x1 : Shape := ⟨2, ![8320, 1]⟩
abbrev S2816x1024 : Shape := ⟨2, ![2816, 1024]⟩
abbrev S1024x2816 : Shape := ⟨2, ![1024, 2816]⟩

abbrev nBuf : Space → Nat
  | .hbm => 20
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .bf16⟩
  | .hbm, ⟨2, _⟩ => ⟨S8320, .i32⟩
  | .hbm, ⟨3, _⟩ => ⟨S_, .i32⟩
  | .hbm, ⟨4, _⟩ => ⟨S8320, .i32⟩
  | .hbm, ⟨5, _⟩ => ⟨S8320, .i1⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S2816x1024, .f32⟩
  | .hbm, ⟨10, _⟩ => ⟨S8320x2816, .f32⟩
  | .hbm, ⟨11, _⟩ => ⟨S8320x1024, .f32⟩
  | .hbm, ⟨12, _⟩ => ⟨S8320x1024, .f32⟩
  | .hbm, ⟨13, _⟩ => ⟨S8320x1024, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S1024x2816, .f32⟩
  | .hbm, ⟨18, _⟩ => ⟨S2816x1024, .f32⟩
  | .hbm, ⟨19, _⟩ => ⟨S2816x1024, .bf16⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel6.lean ====
abbrev S8320x1024 : Shape := ⟨2, ![8320, 1024]⟩
abbrev S8320x2048 : Shape := ⟨2, ![8320, 2048]⟩
abbrev S1024x2048 : Shape := ⟨2, ![1024, 2048]⟩
abbrev S1664x1024 : Shape := ⟨2, ![1664, 1024]⟩
abbrev S1664x2048 : Shape := ⟨2, ![1664, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x2048, .bf16⟩
  | .hbm, ⟨2, _⟩ => ⟨S1024x2048, .bf16⟩
  | .local _ .vmem, ⟨0, _⟩ => ⟨S1664x1024, .bf16⟩
  | .local _ .vmem, ⟨1, _⟩ => ⟨S1664x1024, .bf16⟩
  | .local _ .vmem, ⟨2, _⟩ => ⟨S1664x2048, .bf16⟩
  | .local _ .vmem, ⟨3, _⟩ => ⟨S1664x2048, .bf16⟩
  | .local _ .vmem, ⟨4, _⟩ => ⟨S1024x2048, .bf16⟩
  | .local _ .vmem, ⟨5, _⟩ => ⟨S1024x2048, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8320x1024 : Shape := ⟨2, ![8320, 1024]⟩
abbrev S8320x2048 : Shape := ⟨2, ![8320, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x2048, .bf16⟩
  | .hbm, ⟨2, _⟩ => ⟨S_, .f32⟩
  | .hbm, ⟨3, _⟩ => ⟨S1024x2048, .f32⟩
  | .hbm, ⟨4, _⟩ => ⟨S8320x1024, .f32⟩
  | .hbm, ⟨5, _⟩ => ⟨S8320x2048, .f32⟩
  | .hbm, ⟨6, _⟩ => ⟨S8320x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8320x1024 : Shape := ⟨2, ![8320, 1024]⟩
abbrev S8320x3072 : Shape := ⟨2, ![8320, 3072]⟩
abbrev S1024x3072 : Shape := ⟨2, ![1024, 3072]⟩
abbrev S2080x1024 : Shape := ⟨2, ![2080, 1024]⟩
abbrev S2080x1536 : Shape := ⟨2, ![2080, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x3072, .bf16⟩
  | .hbm, ⟨2, _⟩ => ⟨S1024x3072, .bf16⟩
  | .local _ .vmem, ⟨0, _⟩ => ⟨S2080x1024, .bf16⟩
  | .local _ .vmem, ⟨1, _⟩ => ⟨S2080x1024, .bf16⟩
  | .local _ .vmem, ⟨2, _⟩ => ⟨S2080x1536, .bf16⟩
  | .local _ .vmem, ⟨3, _⟩ => ⟨S2080x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8320x1024 : Shape := ⟨2, ![8320, 1024]⟩
abbrev S8320x3072 : Shape := ⟨2, ![8320, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x3072, .bf16⟩
  | .hbm, ⟨2, _⟩ => ⟨S_, .f32⟩
  | .hbm, ⟨3, _⟩ => ⟨S1024x3072, .f32⟩
  | .hbm, ⟨4, _⟩ => ⟨S8320x1024, .f32⟩
  | .hbm, ⟨5, _⟩ => ⟨S8320x3072, .f32⟩
  | .hbm, ⟨6, _⟩ => ⟨S8320x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8320x1024 : Shape := ⟨2, ![8320, 1024]⟩
abbrev S8320x1280 : Shape := ⟨2, ![8320, 1280]⟩
abbrev S1024x1280 : Shape := ⟨2, ![1024, 1280]⟩
abbrev S2080x1024 : Shape := ⟨2, ![2080, 1024]⟩
abbrev S2080x1280 : Shape := ⟨2, ![2080, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x1280, .bf16⟩
  | .hbm, ⟨2, _⟩ => ⟨S1024x1280, .bf16⟩
  | .local _ .vmem, ⟨0, _⟩ => ⟨S2080x1024, .bf16⟩
  | .local _ .vmem, ⟨1, _⟩ => ⟨S2080x1024, .bf16⟩
  | .local _ .vmem, ⟨2, _⟩ => ⟨S2080x1280, .bf16⟩
  | .local _ .vmem, ⟨3, _⟩ => ⟨S2080x1280, .bf16⟩
  | .local _ .vmem, ⟨4, _⟩ => ⟨S1024x1280, .bf16⟩
  | .local _ .vmem, ⟨5, _⟩ => ⟨S1024x1280, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8320x1024 : Shape := ⟨2, ![8320, 1024]⟩
abbrev S8320x1280 : Shape := ⟨2, ![8320, 1280]⟩
abbrev S_ : Shape := ⟨0, ![]⟩
abbrev S1024x1280 : Shape := ⟨2, ![1024, 1280]⟩
abbrev S1280x1024 : Shape := ⟨2, ![1280, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1280, .bf16⟩
  | .hbm, ⟨2, _⟩ => ⟨S_, .f32⟩
  | .hbm, ⟨3, _⟩ => ⟨S1024x1280, .f32⟩
  | .hbm, ⟨4, _⟩ => ⟨S8320x1024, .f32⟩
  | .hbm, ⟨5, _⟩ => ⟨S8320x1280, .f32⟩
  | .hbm, ⟨6, _⟩ => ⟨S8320x1280, .f32⟩
  | .hbm, ⟨7, _⟩ => ⟨S1280x1024, .f32⟩
  | .hbm, ⟨8, _⟩ => ⟨S1024x1280, .f32⟩
  | .hbm, ⟨9, _⟩ => ⟨S1024x1280, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8320x1024 : Shape := ⟨2, ![8320, 1024]⟩
abbrev S8320x512 : Shape := ⟨2, ![8320, 512]⟩
abbrev S1024x512 : Shape := ⟨2, ![1024, 512]⟩
abbrev S2080x1024 : Shape := ⟨2, ![2080, 1024]⟩
abbrev S2080x512 : Shape := ⟨2, ![2080, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x512, .bf16⟩
  | .hbm, ⟨2, _⟩ => ⟨S1024x512, .bf16⟩
  | .local _ .vmem, ⟨0, _⟩ => ⟨S2080x1024, .bf16⟩
  | .local _ .vmem, ⟨1, _⟩ => ⟨S2080x1024, .bf16⟩
  | .local _ .vmem, ⟨2, _⟩ => ⟨S2080x512, .bf16⟩
  | .local _ .vmem, ⟨3, _⟩ => ⟨S2080x512, .bf16⟩
  | .local _ .vmem, ⟨4, _⟩ => ⟨S1024x512, .bf16⟩
  | .local _ .vmem, ⟨5, _⟩ => ⟨S1024x512, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8320x1024 : Shape := ⟨2, ![8320, 1024]⟩
abbrev S8320x512 : Shape := ⟨2, ![8320, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x512, .bf16⟩
  | .hbm, ⟨2, _⟩ => ⟨S_, .f32⟩
  | .hbm, ⟨3, _⟩ => ⟨S1024x512, .f32⟩
  | .hbm, ⟨4, _⟩ => ⟨S8320x1024, .f32⟩
  | .hbm, ⟨5, _⟩ => ⟨S8320x512, .f32⟩
  | .hbm, ⟨6, _⟩ => ⟨S8320x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8320x2048 : Shape := ⟨2, ![8320, 2048]⟩
abbrev S8320x1024 : Shape := ⟨2, ![8320, 1024]⟩
abbrev S2048x1024 : Shape := ⟨2, ![2048, 1024]⟩
abbrev S2080x1024 : Shape := ⟨2, ![2080, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x1024, .bf16⟩
  | .hbm, ⟨2, _⟩ => ⟨S2048x1024, .bf16⟩
  | .local _ .vmem, ⟨0, _⟩ => ⟨S2080x1024, .bf16⟩
  | .local _ .vmem, ⟨1, _⟩ => ⟨S2080x1024, .bf16⟩
  | .local _ .vmem, ⟨2, _⟩ => ⟨S2080x1024, .bf16⟩
  | .local _ .vmem, ⟨3, _⟩ => ⟨S2080x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8320x2048 : Shape := ⟨2, ![8320, 2048]⟩
abbrev S8320x1024 : Shape := ⟨2, ![8320, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x1024, .bf16⟩
  | .hbm, ⟨2, _⟩ => ⟨S_, .f32⟩
  | .hbm, ⟨3, _⟩ => ⟨S2048x1024, .f32⟩
  | .hbm, ⟨4, _⟩ => ⟨S8320x2048, .f32⟩
  | .hbm, ⟨5, _⟩ => ⟨S8320x1024, .f32⟩
  | .hbm, ⟨6, _⟩ => ⟨S8320x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8320x1024 : Shape := ⟨2, ![8320, 1024]⟩
abbrev S1024x1024 : Shape := ⟨2, ![1024, 1024]⟩
abbrev S2080x1024 : Shape := ⟨2, ![2080, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S1024x1024, .bf16⟩
  | .local _ .vmem, ⟨0, _⟩ => ⟨S2080x1024, .bf16⟩
  | .local _ .vmem, ⟨1, _⟩ => ⟨S2080x1024, .bf16⟩
  | .local _ .vmem, ⟨2, _⟩ => ⟨S2080x1024, .bf16⟩
  | .local _ .vmem, ⟨3, _⟩ => ⟨S2080x1024, .bf16⟩
  | .local _ .vmem, ⟨4, _⟩ => ⟨S1024x1024, .bf16⟩
  | .local _ .vmem, ⟨5, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8320x1024 : Shape := ⟨2, ![8320, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S_, .f32⟩
  | .hbm, ⟨3, _⟩ => ⟨S1024x1024, .f32⟩
  | .hbm, ⟨4, _⟩ => ⟨S8320x1024, .f32⟩
  | .hbm, ⟨5, _⟩ => ⟨S8320x1024, .f32⟩
  | .hbm, ⟨6, _⟩ => ⟨S8320x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8320x1024 : Shape := ⟨2, ![8320, 1024]⟩
abbrev S1024x1024 : Shape := ⟨2, ![1024, 1024]⟩
abbrev S2080x1024 : Shape := ⟨2, ![2080, 1024]⟩
abbrev S2080x1 : Shape := ⟨2, ![2080, 1]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .f32⟩
  | .hbm, ⟨2, _⟩ => ⟨S1024x1024, .bf16⟩
  | .local _ .vmem, ⟨0, _⟩ => ⟨S2080x1024, .bf16⟩
  | .local _ .vmem, ⟨1, _⟩ => ⟨S2080x1024, .bf16⟩
  | .local _ .vmem, ⟨2, _⟩ => ⟨S2080x1024, .f32⟩
  | .local _ .vmem, ⟨3, _⟩ => ⟨S2080x1024, .f32⟩
  | .local _ .vmem, ⟨4, _⟩ => ⟨S1024x1024, .bf16⟩
  | .local _ .vmem, ⟨5, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_7 : BitVec 32 := 0#32
  let v22 : BitVec 1 := Scalar.cmpi .ne v21 c0_i32_7
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8320x1024 : Shape := ⟨2, ![8320, 1024]⟩
abbrev S8320 : Shape := ⟨1, ![8320]⟩
abbrev S_ : Shape := ⟨0, ![]⟩
abbrev S8320x1 : Shape := ⟨2, ![8320, 1]⟩
abbrev S1024x1024 : Shape := ⟨2, ![1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .f32⟩
  | .hbm, ⟨2, _⟩ => ⟨S8320, .i32⟩
  | .hbm, ⟨3, _⟩ => ⟨S_, .i32⟩
  | .hbm, ⟨4, _⟩ => ⟨S8320, .i32⟩
  | .hbm, ⟨5, _⟩ => ⟨S8320, .i1⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S1024x1024, .f32⟩
  | .hbm, ⟨10, _⟩ => ⟨S8320x1024, .f32⟩
  | .hbm, ⟨11, _⟩ => ⟨S8320x1024, .f32⟩
  | .hbm, ⟨12, _⟩ => ⟨S8320x1024, .f32⟩
  | .hbm, ⟨13, _⟩ => ⟨S8320x1024, .f32⟩
  | .hbm, ⟨14, _⟩ => ⟨S8320x1024, .f32⟩
  | .hbm, ⟨15, _⟩ => ⟨S8320x1024, .f32⟩
  | .hbm, ⟨16, _⟩ => ⟨S1024x1024, .f32⟩
  | .hbm, ⟨17, _⟩ => ⟨S1024x1024, .f32⟩
  | .hbm, ⟨18, _⟩ => ⟨S1024x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel13.lean ====
abbrev S8320x1024 : Shape := ⟨2, ![8320, 1024]⟩
abbrev S2048x1024 : Shape := ⟨2, ![2048, 1024]⟩
abbrev S8320x2048 : Shape := ⟨2, ![8320, 2048]⟩
abbrev S2080x1024 : Shape := ⟨2, ![2080, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S2048x1024, .bf16⟩
  | .hbm, ⟨2, _⟩ => ⟨S8320x2048, .f32⟩
  | .local _ .vmem, ⟨0, _⟩ => ⟨S2080x1024, .bf16⟩
  | .local _ .vmem, ⟨1, _⟩ => ⟨S2080x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2080x1024, .f32⟩
  | .local _ .vmem, ⟨5, _⟩ => ⟨S2080x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2080x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8320x1024 : Shape := ⟨2, ![8320, 1024]⟩
abbrev S2048x1024 : Shape := ⟨2, ![2048, 1024]⟩
abbrev S_ : Shape := ⟨0, ![]⟩
abbrev S8320x2048 : Shape := ⟨2, ![8320, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S2048x1024, .bf16⟩
  | .hbm, ⟨2, _⟩ => ⟨S_, .f32⟩
  | .hbm, ⟨3, _⟩ => ⟨S8320x2048, .f32⟩
  | .hbm, ⟨4, _⟩ => ⟨S2048x1024, .f32⟩
  | .hbm, ⟨5, _⟩ => ⟨S8320x1024, .f32⟩
  | .hbm, ⟨6, _⟩ => ⟨S8320x1024, .f32⟩
  | .hbm, ⟨7, _⟩ => ⟨S8320x2048, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8320x1024 : Shape := ⟨2, ![8320, 1024]⟩
abbrev S1024x1024 : Shape := ⟨2, ![1024, 1024]⟩
abbrev S2080x1024 : Shape := ⟨2, ![2080, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .bf16⟩
  | .local _ .vmem, ⟨0, _⟩ => ⟨S2080x1024, .bf16⟩
  | .local _ .vmem, ⟨1, _⟩ => ⟨S2080x1024, .bf16⟩
  | .local _ .vmem, ⟨2, _⟩ => ⟨S1024x1024, .bf16⟩
  | .local _ .vmem, ⟨3, _⟩ => ⟨S2080x1024, .bf16⟩
  | .local _ .vmem, ⟨4, _⟩ => ⟨S2080x1024, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2080x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8320x1024 : Shape := ⟨2, ![8320, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S_, .f32⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S8320x1024, .f32⟩
  | .hbm, ⟨7, _⟩ => ⟨S8320x1024, .f32⟩
  | .hbm, ⟨8, _⟩ => ⟨S8320x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S8320x1024 : Shape := ⟨2, ![8320, 1024]⟩
abbrev S1024x2048 : Shape := ⟨2, ![1024, 2048]⟩
abbrev S8320x2048 : Shape := ⟨2, ![8320, 2048]⟩
abbrev S2080x1024 : Shape := ⟨2, ![2080, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x2048, .bf16⟩
  | .hbm, ⟨2, _⟩ => ⟨S8320x2048, .f32⟩
  | .local _ .vmem, ⟨0, _⟩ => ⟨S2080x1024, .bf16⟩
  | .local _ .vmem, ⟨1, _⟩ => ⟨S2080x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2080x1024, .f32⟩
  | .local _ .vmem, ⟨5, _⟩ => ⟨S2080x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2080x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S8320x1024 : Shape := ⟨2, ![8320, 1024]⟩
abbrev S1024x2048 : Shape := ⟨2, ![1024, 2048]⟩
abbrev S8320x2048 : Shape := ⟨2, ![8320, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x2048, .bf16⟩
  | .hbm, ⟨2, _⟩ => ⟨S8320x1024, .f32⟩
  | .hbm, ⟨3, _⟩ => ⟨S1024x2048, .f32⟩
  | .hbm, ⟨4, _⟩ => ⟨S8320x2048, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S8320x1024 : Shape := ⟨2, ![8320, 1024]⟩
abbrev S1024x1280 : Shape := ⟨2, ![1024, 1280]⟩
abbrev S8320x1280 : Shape := ⟨2, ![8320, 1280]⟩
abbrev S2080x1024 : Shape := ⟨2, ![2080, 1024]⟩
abbrev S2080x1280 : Shape := ⟨2, ![2080, 1280]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x1280, .bf16⟩
  | .hbm, ⟨2, _⟩ => ⟨S8320x1280, .bf16⟩
  | .local _ .vmem, ⟨0, _⟩ => ⟨S2080x1024, .bf16⟩
  | .local _ .vmem, ⟨1, _⟩ => ⟨S2080x1024, .bf16⟩
  | .local _ .vmem, ⟨2, _⟩ => ⟨S1024x1280, .bf16⟩
  | .local _ .vmem, ⟨3, _⟩ => ⟨S2080x1280, .bf16⟩
  | .local _ .vmem, ⟨4, _⟩ => ⟨S2080x1280, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2080x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S8320x1024 : Shape := ⟨2, ![8320, 1024]⟩
abbrev S1024x1280 : Shape := ⟨2, ![1024, 1280]⟩
abbrev S8320x1280 : Shape := ⟨2, ![8320, 1280]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1280, .bf16⟩
  | .hbm, ⟨2, _⟩ => ⟨S8320x1024, .f32⟩
  | .hbm, ⟨3, _⟩ => ⟨S1024x1280, .f32⟩
  | .hbm, ⟨4, _⟩ => ⟨S8320x1280, .f32⟩
  | .hbm, ⟨5, _⟩ => ⟨S8320x1280, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S8320x1024 : Shape := ⟨2, ![8320, 1024]⟩
abbrev S1024x512 : Shape := ⟨2, ![1024, 512]⟩
abbrev S8320x512 : Shape := ⟨2, ![8320, 512]⟩
abbrev S2080x1024 : Shape := ⟨2, ![2080, 1024]⟩
abbrev S2080x512 : Shape := ⟨2, ![2080, 512]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x512, .bf16⟩
  | .hbm, ⟨2, _⟩ => ⟨S8320x512, .f32⟩
  | .local _ .vmem, ⟨0, _⟩ => ⟨S2080x1024, .bf16⟩
  | .local _ .vmem, ⟨1, _⟩ => ⟨S2080x1024, .bf16⟩
  | .local _ .vmem, ⟨2, _⟩ => ⟨S1024x512, .bf16⟩
  | .local _ .vmem, ⟨3, _⟩ => ⟨S2080x512, .f32⟩
  | .local _ .vmem, ⟨4, _⟩ => ⟨S2080x512, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2080x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S8320x1024 : Shape := ⟨2, ![8320, 1024]⟩
abbrev S1024x512 : Shape := ⟨2, ![1024, 512]⟩
abbrev S8320x512 : Shape := ⟨2, ![8320, 512]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x512, .bf16⟩
  | .hbm, ⟨2, _⟩ => ⟨S8320x1024, .f32⟩
  | .hbm, ⟨3, _⟩ => ⟨S1024x512, .f32⟩
  | .hbm, ⟨4, _⟩ => ⟨S8320x512, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S8320x2048 : Shape := ⟨2, ![8320, 2048]⟩
abbrev S2048x1024 : Shape := ⟨2, ![2048, 1024]⟩
abbrev S8320x1024 : Shape := ⟨2, ![8320, 1024]⟩
abbrev S2080x2048 : Shape := ⟨2, ![2080, 2048]⟩
abbrev S2080x1024 : Shape := ⟨2, ![2080, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x2048, .bf16⟩
  | .hbm, ⟨1, _⟩ => ⟨S2048x1024, .bf16⟩
  | .hbm, ⟨2, _⟩ => ⟨S8320x1024, .bf16⟩
  | .local _ .vmem, ⟨0, _⟩ => ⟨S2080x2048, .bf16⟩
  | .local _ .vmem, ⟨1, _⟩ => ⟨S2080x2048, .bf16⟩
  | .local _ .vmem, ⟨2, _⟩ => ⟨S2048x1024, .bf16⟩
  | .local _ .vmem, ⟨3, _⟩ => ⟨S2080x1024, .bf16⟩
  | .local _ .vmem, ⟨4, _⟩ => ⟨S2080x1024, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2080x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2080x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S8320x2048 : Shape := ⟨2, ![8320, 2048]⟩
abbrev S2048x1024 : Shape := ⟨2, ![2048, 1024]⟩
abbrev S8320x1024 : Shape := ⟨2, ![8320, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x1024, .bf16⟩
  | .hbm, ⟨2, _⟩ => ⟨S8320x2048, .f32⟩
  | .hbm, ⟨3, _⟩ => ⟨S2048x1024, .f32⟩
  | .hbm, ⟨4, _⟩ => ⟨S8320x1024, .f32⟩
  | .hbm, ⟨5, _⟩ => ⟨S8320x1024, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S8320x1024 : Shape := ⟨2, ![8320, 1024]⟩
abbrev S1024x1024 : Shape := ⟨2, ![1024, 1024]⟩
abbrev S2080x1024 : Shape := ⟨2, ![2080, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .bf16⟩
  | .local _ .vmem, ⟨0, _⟩ => ⟨S2080x1024, .bf16⟩
  | .local _ .vmem, ⟨1, _⟩ => ⟨S2080x1024, .bf16⟩
  | .local _ .vmem, ⟨2, _⟩ => ⟨S1024x1024, .bf16⟩
  | .local _ .vmem, ⟨3, _⟩ => ⟨S2080x1024, .bf16⟩
  | .local _ .vmem, ⟨4, _⟩ => ⟨S2080x1024, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2080x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S8320x1024 : Shape := ⟨2, ![8320, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S1024x1024, .f32⟩
  | .hbm, ⟨4, _⟩ => ⟨S8320x1024, .f32⟩
  | .hbm, ⟨5, _⟩ => ⟨S8320x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S1024x704 : Shape := ⟨2, ![1024, 704]⟩
abbrev S8x1024x704 : Shape := ⟨3, ![8, 1024, 704]⟩
abbrev S128x704 : Shape := ⟨2, ![128, 704]⟩
abbrev S8x128x704 : Shape := ⟨3, ![8, 128, 704]⟩
abbrev S1x128x704 : Shape := ⟨3, ![1, 128, 704]⟩

abbrev nBuf : Space → Nat
  | .hbm => 8
  | .vmem => 16
  | .smem => 0
  | _ => 0

abbrev bufTy : (tb : Table) → Fin (tcTables nBuf tb) → BufTy
  | .hbm, ⟨0, _⟩ => ⟨S1024x704, .f32⟩
  | .hbm, ⟨1, _⟩ => ⟨S8x1024x704, .bf16⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S128x704, .f32⟩
  | .local _ .vmem, ⟨1, _⟩ => ⟨S128x704, .f32⟩
  | .local _ .vmem, ⟨2, _⟩ => ⟨S8x128x704, .bf16⟩
  | .local _ .vmem, ⟨3, _⟩ => ⟨S8x128x704, .bf16⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S1024x704 : Shape := ⟨2, ![1024, 704]⟩
abbrev S8x1024x704 : Shape := ⟨3, ![8, 1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S8x1024x704, .bf16⟩
  | .hbm, ⟨2, _⟩ => ⟨S1024x704, .f32⟩
  | .hbm, ⟨3, _⟩ => ⟨S1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S1024x1060 : Shape := ⟨2, ![1024, 1060]⟩
abbrev S8x1024x1060 : Shape := ⟨3, ![8, 1024, 1060]⟩
abbrev S128x1060 : Shape := ⟨2, ![128, 1060]⟩
abbrev S8x128x1060 : Shape := ⟨3, ![8, 128, 1060]⟩
abbrev S1x128x1060 : Shape := ⟨3, ![1, 128, 1060]⟩

abbrev nBuf : Space → Nat
  | .hbm => 8
  | .vmem => 16
  | .smem => 0
  | _ => 0

abbrev bufTy : (tb : Table) → Fin (tcTables nBuf tb) → BufTy
  | .hbm, ⟨0, _⟩ => ⟨S1024x1060, .f32⟩
  | .hbm, ⟨1, _⟩ => ⟨S8x1024x1060, .bf16⟩
  | .hbm, ⟨2, _⟩ => ⟨S1024x1060, .f32⟩
  | .hbm, ⟨3, _⟩ => ⟨S1024x1060, .f32⟩
  | .hbm, ⟨4, _⟩ => ⟨S1024x1060, .f32⟩
  | .hbm, ⟨5, _⟩ => ⟨S1024x1060, .f32⟩
  | .hbm, ⟨6, _⟩ => ⟨S1024x1060, .f32⟩
  | .hbm, ⟨7, _⟩ => ⟨S1024x1060, .f32⟩
  | .local _ .vmem, ⟨0, _⟩ => ⟨S128x1060, .f32⟩
  | .local _ .vmem, ⟨1, _⟩ => ⟨S128x1060, .f32⟩
  | .local _ .vmem, ⟨2, _⟩ => ⟨S8x128x1060, .bf16⟩
  | .local _ .vmem, ⟨3, _⟩ => ⟨S8x128x1060, .bf16⟩
  | .local _ .vmem, ⟨4, _⟩ => ⟨S128x1060, .f32⟩
  | .local _ .vmem, ⟨5, _⟩ => ⟨S128x1060, .f32⟩
  | .local _ .vmem, ⟨6, _⟩ => ⟨S128x1060, .f32⟩
  | .local _ .vmem, ⟨7, _⟩ => ⟨S128x1060, .f32⟩
  | .local _ .vmem, ⟨8, _⟩ => ⟨S128x1060, .f32⟩
  | .local _ .vmem, ⟨9, _⟩ => ⟨S128x1060, .f32⟩
  | .local _ .vmem, ⟨10, _⟩ => ⟨S128x1060, .f32⟩
  | .local _ .vmem, ⟨11, _⟩ => ⟨S128x1060, .f32⟩
  | .local _ .vmem, ⟨12, _⟩ => ⟨S128x1060, .f32⟩
  | .local _ .vmem, ⟨13, _⟩ => ⟨S128x1060, .f32⟩
  | .local _ .vmem, ⟨14, _⟩ => ⟨S128x1060, .f32⟩
  | .local _ .vmem, ⟨15, _⟩ => ⟨S128x1060, .f32⟩
  | _, _ => ⟨S1024x1060, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1060 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1060 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1060 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1060 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1060 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1060 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1060 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1060 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S1024x1060 : Shape := ⟨2, ![1024, 1060]⟩
abbrev S8x1024x1060 : Shape := ⟨3, ![8, 1024, 1060]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x1060, .f32⟩
  | .hbm, ⟨1, _⟩ => ⟨S8x1024x1060, .bf16⟩
  | .hbm, ⟨2, _⟩ => ⟨S1024x1060, .f32⟩
  | .hbm, ⟨3, _⟩ => ⟨S1024x1060, .f32⟩
  | .hbm, ⟨4, _⟩ => ⟨S8x1024x1060, .f32⟩
  | .hbm, ⟨5, _⟩ => ⟨S_, .f32⟩
  | .hbm, ⟨6, _⟩ => ⟨S1024x1060, .f32⟩
  | .hbm, ⟨7, _⟩ => ⟨S_, .f32⟩
  | .hbm, ⟨8, _⟩ => ⟨S1024x1060, .f32⟩
  | .hbm, ⟨9, _⟩ => ⟨S1024x1060, .f32⟩
  | .hbm, ⟨10, _⟩ => ⟨S_, .f32⟩
  | .hbm, ⟨11, _⟩ => ⟨S1024x1060, .f32⟩
  | .hbm, ⟨12, _⟩ => ⟨S1024x1060, .f32⟩
  | .hbm, ⟨13, _⟩ => ⟨S1024x1060, .f32⟩
  | .hbm, ⟨14, _⟩ => ⟨S_, .f32⟩
  | .hbm, ⟨15, _⟩ => ⟨S1024x1060, .f32⟩
  | .hbm, ⟨16, _⟩ => ⟨S1024x1060, .f32⟩
  | .hbm, ⟨17, _⟩ => ⟨S1024x1060, .f32⟩
  | .hbm, ⟨18, _⟩ => ⟨S_, .f32⟩
  | .hbm, ⟨19, _⟩ => ⟨S1024x1060, .f32⟩
  | .hbm, ⟨20, _⟩ => ⟨S1024x1060, .f32⟩
  | .hbm, ⟨21, _⟩ => ⟨S1024x1060, .f32⟩
  | .hbm, ⟨22, _⟩ => ⟨S_, .f32⟩
  | .hbm, ⟨23, _⟩ => ⟨S1024x1060, .f32⟩
  | .hbm, ⟨24, _⟩ => ⟨S1024x1060, .f32⟩
  | .hbm, ⟨25, _⟩ => ⟨S_, .f32⟩
  | .hbm, ⟨26, _⟩ => ⟨S1024x1060, .f32⟩
  | .hbm, ⟨27, _⟩ => ⟨S1024x1060, .f32⟩
  | .hbm, ⟨28, _⟩ => ⟨S1024x1060, .f32⟩
  | .hbm, ⟨29, _⟩ => ⟨S_, .f32⟩
  | .hbm, ⟨30, _⟩ => ⟨S1024x1060, .f32⟩
  | .hbm, ⟨31, _⟩ => ⟨S1024x1060, .f32⟩
  | .hbm, ⟨32, _⟩ => ⟨S1024x1060, .f32⟩
  | .hbm, ⟨33, _⟩ => ⟨S_, .f32⟩
  | .hbm, ⟨34, _⟩ => ⟨S1024x1060, .f32⟩
  | .hbm, ⟨35, _⟩ => ⟨S1024x1060, .f32⟩
  | .hbm, ⟨36, _⟩ => ⟨S1024x1060, .f32⟩
  | .hbm, ⟨37, _⟩ => ⟨S_, .f32⟩
  | .hbm, ⟨38, _⟩ => ⟨S1024x1060, .f32⟩
  | .hbm, ⟨39, _⟩ => ⟨S1024x1060, .f32⟩
  | _, _ => ⟨S1024x1060, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S864x1024 : Shape := ⟨2, ![864, 1024]⟩
abbrev S8x864x1024 : Shape := ⟨3, ![8, 864, 1024]⟩
abbrev S96x1024 : Shape := ⟨2, ![96, 1024]⟩
abbrev S8x96x1024 : Shape := ⟨3, ![8, 96, 1024]⟩
abbrev S1x96x1024 : Shape := ⟨3, ![1, 96, 1024]⟩

abbrev nBuf : Space → Nat
  | .hbm => 8
  | .vmem => 16
  | .smem => 0
  | _ => 0

abbrev bufTy : (tb : Table) → Fin (tcTables nBuf tb) → BufTy
  | .hbm, ⟨0, _⟩ => ⟨S864x1024, .f32⟩
  | .hbm, ⟨1, _⟩ => ⟨S8x864x1024, .bf16⟩
  | .hbm, ⟨2, _⟩ => ⟨S864x1024, .f32⟩
  | .hbm, ⟨3, _⟩ => ⟨S864x1024, .f32⟩
  | .hbm, ⟨4, _⟩ => ⟨S864x1024, .f32⟩
  | .hbm, ⟨5, _⟩ => ⟨S864x1024, .f32⟩
  | .hbm, ⟨6, _⟩ => ⟨S864x1024, .f32⟩
  | .hbm, ⟨7, _⟩ => ⟨S864x1024, .f32⟩
  | .local _ .vmem, ⟨0, _⟩ => ⟨S96x1024, .f32⟩
  | .local _ .vmem, ⟨1, _⟩ => ⟨S96x1024, .f32⟩
  | .local _ .vmem, ⟨2, _⟩ => ⟨S8x96x1024, .bf16⟩
  | .local _ .vmem, ⟨3, _⟩ => ⟨S8x96x1024, .bf16⟩
  | .local _ .vmem, ⟨4, _⟩ => ⟨S96x1024, .f32⟩
  | .local _ .vmem, ⟨5, _⟩ => ⟨S96x1024, .f32⟩
  | .local _ .vmem, ⟨6, _⟩ => ⟨S96x1024, .f32⟩
  | .local _ .vmem, ⟨7, _⟩ => ⟨S96x1024, .f32⟩
  | .local _ .vmem, ⟨8, _⟩ => ⟨S96x1024, .f32⟩
  | .local _ .vmem, ⟨9, _⟩ => ⟨S96x1024, .f32⟩
  | .local _ .vmem, ⟨10, _⟩ => ⟨S96x1024, .f32⟩
  | .local _ .vmem, ⟨11, _⟩ => ⟨S96x1024, .f32⟩
  | .local _ .vmem, ⟨12, _⟩ => ⟨S96x1024, .f32⟩
  | .local _ .vmem, ⟨13, _⟩ => ⟨S96x1024, .f32⟩
  | .local _ .vmem, ⟨14, _⟩ => ⟨S96x1024, .f32⟩
  | .local _ .vmem, ⟨15, _⟩ => ⟨S96x1024, .f32⟩
  | _, _ => ⟨S864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S96x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x96x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S96x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S864x1024 : Shape := ⟨2, ![864, 1024]⟩
abbrev S8x864x1024 : Shape := ⟨3, ![8, 864, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S864x1024, .f32⟩
  | .hbm, ⟨1, _⟩ => ⟨S8x864x1024, .bf16⟩
  | .hbm, ⟨2, _⟩ => ⟨S864x1024, .f32⟩
  | .hbm, ⟨3, _⟩ => ⟨S864x1024, .f32⟩
  | .hbm, ⟨4, _⟩ => ⟨S8x864x1024, .f32⟩
  | .hbm, ⟨5, _⟩ => ⟨S_, .f32⟩
  | .hbm, ⟨6, _⟩ => ⟨S864x1024, .f32⟩
  | .hbm, ⟨7, _⟩ => ⟨S_, .f32⟩
  | .hbm, ⟨8, _⟩ => ⟨S864x1024, .f32⟩
  | .hbm, ⟨9, _⟩ => ⟨S864x1024, .f32⟩
  | .hbm, ⟨10, _⟩ => ⟨S_, .f32⟩
  | .hbm, ⟨11, _⟩ => ⟨S864x1024, .f32⟩
  | .hbm, ⟨12, _⟩ => ⟨S864x1024, .f32⟩
  | .hbm, ⟨13, _⟩ => ⟨S864x1024, .f32⟩
  | .hbm, ⟨14, _⟩ => ⟨S_, .f32⟩
  | .hbm, ⟨15, _⟩ => ⟨S864x1024, .f32⟩
  | .hbm, ⟨16, _⟩ => ⟨S864x1024, .f32⟩
  | .hbm, ⟨17, _⟩ => ⟨S864x1024, .f32⟩
  | .hbm, ⟨18, _⟩ => ⟨S_, .f32⟩
  | .hbm, ⟨19, _⟩ => ⟨S864x1024, .f32⟩
  | .hbm, ⟨20, _⟩ => ⟨S864x1024, .f32⟩
  | .hbm, ⟨21, _⟩ => ⟨S864x1024, .f32⟩
  | .hbm, ⟨22, _⟩ => ⟨S_, .f32⟩
  | .hbm, ⟨23, _⟩ => ⟨S864x1024, .f32⟩
  | .hbm, ⟨24, _⟩ => ⟨S864x1024, .f32⟩
  | .hbm, ⟨25, _⟩ => ⟨S_, .f32⟩
  | .hbm, ⟨26, _⟩ => ⟨S864x1024, .f32⟩
  | .hbm, ⟨27, _⟩ => ⟨S864x1024, .f32⟩
  | .hbm, ⟨28, _⟩ => ⟨S864x1024, .f32⟩
  | .hbm, ⟨29, _⟩ => ⟨S_, .f32⟩
  | .hbm, ⟨30, _⟩ => ⟨S864x1024, .f32⟩
  | .hbm, ⟨31, _⟩ => ⟨S864x1024, .f32⟩
  | .hbm, ⟨32, _⟩ => ⟨S864x1024, .f32⟩
  | .hbm, ⟨33, _⟩ => ⟨S_, .f32⟩
  | .hbm, ⟨34, _⟩ => ⟨S864x1024, .f32⟩
  | .hbm, ⟨35, _⟩ => ⟨S864x1024, .f32⟩
  | .hbm, ⟨36, _⟩ => ⟨S864x1024, .f32⟩
  | .hbm, ⟨37, _⟩ => ⟨S_, .f32⟩
  | .hbm, ⟨38, _⟩ => ⟨S864x1024, .f32⟩
  | .hbm, ⟨39, _⟩ => ⟨S864x1024, .f32⟩
  | _, _ => ⟨S864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel23.lean ====
abbrev S496x128 : Shape := ⟨2, ![496, 128]⟩
abbrev S8x496x128 : Shape := ⟨3, ![8, 496, 128]⟩
abbrev S16x128 : Shape := ⟨2, ![16, 128]⟩
abbrev S8x16x128 : Shape := ⟨3, ![8, 16, 128]⟩
abbrev S1x16x128 : Shape := ⟨3, ![1, 16, 128]⟩

abbrev nBuf : Space → Nat
  | .hbm => 8
  | .vmem => 16
  | .smem => 0
  | _ => 0

abbrev bufTy : (tb : Table) → Fin (tcTables nBuf tb) → BufTy
  | .hbm, ⟨0, _⟩ => ⟨S496x128, .f32⟩
  | .hbm, ⟨1, _⟩ => ⟨S8x496x128, .f32⟩
  | .hbm, ⟨2, _⟩ => ⟨S496x128, .f32⟩
  | .hbm, ⟨3, _⟩ => ⟨S496x128, .f32⟩
  | .hbm, ⟨4, _⟩ => ⟨S496x128, .f32⟩
  | .hbm, ⟨5, _⟩ => ⟨S496x128, .f32⟩
  | .hbm, ⟨6, _⟩ => ⟨S496x128, .f32⟩
  | .hbm, ⟨7, _⟩ => ⟨S496x128, .f32⟩
  | .local _ .vmem, ⟨0, _⟩ => ⟨S16x128, .f32⟩
  | .local _ .vmem, ⟨1, _⟩ => ⟨S16x128, .f32⟩
  | .local _ .vmem, ⟨2, _⟩ => ⟨S8x16x128, .f32⟩
  | .local _ .vmem, ⟨3, _⟩ => ⟨S8x16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S16x128, .f32⟩
  | _, _ => ⟨S496x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S496x128 : Shape := ⟨2, ![496, 128]⟩
abbrev S8x496x128 : Shape := ⟨3, ![8, 496, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S496x128, .f32⟩
  | .hbm, ⟨1, _⟩ => ⟨S8x496x128, .f32⟩
  | .hbm, ⟨2, _⟩ => ⟨S496x128, .f32⟩
  | .hbm, ⟨3, _⟩ => ⟨S496x128, .f32⟩
  | .hbm, ⟨4, _⟩ => ⟨S_, .f32⟩
  | .hbm, ⟨5, _⟩ => ⟨S496x128, .f32⟩
  | .hbm, ⟨6, _⟩ => ⟨S_, .f32⟩
  | .hbm, ⟨7, _⟩ => ⟨S496x128, .f32⟩
  | .hbm, ⟨8, _⟩ => ⟨S496x128, .f32⟩
  | .hbm, ⟨9, _⟩ => ⟨S_, .f32⟩
  | .hbm, ⟨10, _⟩ => ⟨S496x128, .f32⟩
  | .hbm, ⟨11, _⟩ => ⟨S496x128, .f32⟩
  | .hbm, ⟨12, _⟩ => ⟨S496x128, .f32⟩
  | .hbm, ⟨13, _⟩ => ⟨S_, .f32⟩
  | .hbm, ⟨14, _⟩ => ⟨S496x128, .f32⟩
  | .hbm, ⟨15, _⟩ => ⟨S496x128, .f32⟩
  | .hbm, ⟨16, _⟩ => ⟨S496x128, .f32⟩
  | .hbm, ⟨17, _⟩ => ⟨S_, .f32⟩
  | .hbm, ⟨18, _⟩ => ⟨S496x128, .f32⟩
  | .hbm, ⟨19, _⟩ => ⟨S496x128, .f32⟩
  | .hbm, ⟨20, _⟩ => ⟨S496x128, .f32⟩
  | .hbm, ⟨21, _⟩ => ⟨S_, .f32⟩
  | .hbm, ⟨22, _⟩ => ⟨S496x128, .f32⟩
  | .hbm, ⟨23, _⟩ => ⟨S496x128, .f32⟩
  | .hbm, ⟨24, _⟩ => ⟨S_, .f32⟩
  | .hbm, ⟨25, _⟩ => ⟨S496x128, .f32⟩
  | .hbm, ⟨26, _⟩ => ⟨S496x128, .f32⟩
  | .hbm, ⟨27, _⟩ => ⟨S496x128, .f32⟩
  | .hbm, ⟨28, _⟩ => ⟨S_, .f32⟩
  | .hbm, ⟨29, _⟩ => ⟨S496x128, .f32⟩
  | .hbm, ⟨30, _⟩ => ⟨S496x128, .f32⟩
  | .hbm, ⟨31, _⟩ => ⟨S496x128, .f32⟩
  | .hbm, ⟨32, _⟩ => ⟨S_, .f32⟩
  | .hbm, ⟨33, _⟩ => ⟨S496x128, .f32⟩
  | .hbm, ⟨34, _⟩ => ⟨S496x128, .f32⟩
  | .hbm, ⟨35, _⟩ => ⟨S496x128, .f32⟩
  | .hbm, ⟨36, _⟩ => ⟨S_, .f32⟩
  | .hbm, ⟨37, _⟩ => ⟨S496x128, .f32⟩
  | .hbm, ⟨38, _⟩ => ⟨S496x128, .f32⟩
  | _, _ => ⟨S496x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel24.lean ====
abbrev S8320x2048 : Shape := ⟨2, ![8320, 2048]⟩
abbrev S8320x1024 : Shape := ⟨2, ![8320, 1024]⟩
abbrev S2x1024 : Shape := ⟨2, ![2, 1024]⟩
abbrev S1024x1024 : Shape := ⟨2, ![1024, 1024]⟩
abbrev S1x1024 : Shape := ⟨2, ![1, 1024]⟩
abbrev S416x1024 : Shape := ⟨2, ![416, 1024]⟩
abbrev S416x1 : Shape := ⟨2, ![416, 1]⟩
abbrev S416 : Shape := ⟨1, ![416]⟩

abbrev nBuf : Space → Nat
  | .hbm => 10
  | .vmem => 19
  | .smem => 0
  | _ => 0

abbrev bufTy : (tb : Table) → Fin (tcTables nBuf tb) → BufTy
  | .hbm, ⟨0, _⟩ => ⟨S8320x2048, .f32⟩
  | .hbm, ⟨1, _⟩ => ⟨S8320x1024, .bf16⟩
  | .hbm, ⟨2, _⟩ => ⟨S8320x1024, .bf16⟩
  | .hbm, ⟨3, _⟩ => ⟨S2x1024, .f32⟩
  | .hbm, ⟨4, _⟩ => ⟨S1024x1024, .bf16⟩
  | .hbm, ⟨5, _⟩ => ⟨S8320x1024, .f32⟩
  | .hbm, ⟨6, _⟩ => ⟨S1x1024, .f32⟩
  | .hbm, ⟨7, _⟩ => ⟨S8320x1024, .bf16⟩
  | .hbm, ⟨8, _⟩ => ⟨S8320x1024, .f32⟩
  | .hbm, ⟨9, _⟩ => ⟨S8320x1024, .bf16⟩
  | .local _ .vmem, ⟨0, _⟩ => ⟨S416x1024, .f32⟩
  | .local _ .vmem, ⟨1, _⟩ => ⟨S416x1024, .f32⟩
  | .local _ .vmem, ⟨2, _⟩ => ⟨S416x1024, .f32⟩
  | .local _ .vmem, ⟨3, _⟩ => ⟨S416x1024, .f32⟩
  | .local _ .vmem, ⟨4, _⟩ => ⟨S416x1024, .bf16⟩
  | .local _ .vmem, ⟨5, _⟩ => ⟨S416x1024, .bf16⟩
  | .local _ .vmem, ⟨6, _⟩ => ⟨S416x1024, .bf16⟩
  | .local _ .vmem, ⟨7, _⟩ => ⟨S416x1024, .bf16⟩
  | .local _ .vmem, ⟨8, _⟩ => ⟨S2x1024, .f32⟩
  | .local _ .vmem, ⟨9, _⟩ => ⟨S1024x1024, .bf16⟩
  | .local _ .vmem, ⟨10, _⟩ => ⟨S416x1024, .f32⟩
  | .local _ .vmem, ⟨11, _⟩ => ⟨S416x1024, .f32⟩
  | .local _ .vmem, ⟨12, _⟩ => ⟨S1x1024, .f32⟩
  | .local _ .vmem, ⟨13, _⟩ => ⟨S416x1024, .bf16⟩
  | .local _ .vmem, ⟨14, _⟩ => ⟨S416x1024, .bf16⟩
  | .local _ .vmem, ⟨15, _⟩ => ⟨S416x1024, .f32⟩
  | .local _ .vmem, ⟨16, _⟩ => ⟨S416x1024, .f32⟩
  | .local _ .vmem, ⟨17, _⟩ => ⟨S416x1024, .bf16⟩
  | .local _ .vmem, ⟨18, _⟩ => ⟨S416x1024, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S416x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S416x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S416x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S416x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S416x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference24Ideal.lean ====
abbrev S8320x2048 : Shape := ⟨2, ![8320, 2048]⟩
abbrev S8320x1024 : Shape := ⟨2, ![8320, 1024]⟩
abbrev S2x1024 : Shape := ⟨2, ![2, 1024]⟩
abbrev S1024x1024 : Shape := ⟨2, ![1024, 1024]⟩
abbrev S1x1024 : Shape := ⟨2, ![1, 1024]⟩
abbrev S8320 : Shape := ⟨1, ![8320]⟩
abbrev S_ : Shape := ⟨0, ![]⟩
abbrev S8320x1 : Shape := ⟨2, ![8320, 1]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x1024, .bf16⟩
  | .hbm, ⟨2, _⟩ => ⟨S8320x1024, .bf16⟩
  | .hbm, ⟨3, _⟩ => ⟨S2x1024, .f32⟩
  | .hbm, ⟨4, _⟩ => ⟨S1024x1024, .bf16⟩
  | .hbm, ⟨5, _⟩ => ⟨S8320x1024, .f32⟩
  | .hbm, ⟨6, _⟩ => ⟨S1x1024, .f32⟩
  | .hbm, ⟨7, _⟩ => ⟨S8320, .i32⟩
  | .hbm, ⟨8, _⟩ => ⟨S_, .i32⟩
  | .hbm, ⟨9, _⟩ => ⟨S8320, .i32⟩
  | .hbm, ⟨10, _⟩ => ⟨S8320, .i1⟩
  | .hbm, ⟨11, _⟩ => ⟨S8320, .f32⟩
  | .hbm, ⟨12, _⟩ => ⟨S8320x1, .f32⟩
  | .hbm, ⟨13, _⟩ => ⟨S8320x1024, .f32⟩
  | .hbm, ⟨14, _⟩ => ⟨S8320x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S8320x1024, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S_, .f32⟩
  | .hbm, ⟨23, _⟩ => ⟨S8320x1024, .f32⟩
  | .hbm, ⟨24, _⟩ => ⟨S8320x1024, .f32⟩
  | .hbm, ⟨25, _⟩ => ⟨S_, .f32⟩
  | .hbm, ⟨26, _⟩ => ⟨S8320x1024, .f32⟩
  | .hbm, ⟨27, _⟩ => ⟨S8320x1024, .f32⟩
  | .hbm, ⟨28, _⟩ => ⟨S8320x1024, .f32⟩
  | .hbm, ⟨29, _⟩ => ⟨S8320x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S8320x1024, .f32⟩
  | .hbm, ⟨34, _⟩ => ⟨S8320x1024, .f32⟩
  | .hbm, ⟨35, _⟩ => ⟨S8320x1024, .f32⟩
  | .hbm, ⟨36, _⟩ => ⟨S8320x1024, .f32⟩
  | .hbm, ⟨37, _⟩ => ⟨S_, .f32⟩
  | .hbm, ⟨38, _⟩ => ⟨S8320x1024, .f32⟩
  | .hbm, ⟨39, _⟩ => ⟨S8320x1024, .f32⟩
  | .hbm, ⟨40, _⟩ => ⟨S_, .f32⟩
  | .hbm, ⟨41, _⟩ => ⟨S8320x1024, .f32⟩
  | .hbm, ⟨42, _⟩ => ⟨S8320x1024, .f32⟩
  | .hbm, ⟨43, _⟩ => ⟨S8320x1024, .f32⟩
  | .hbm, ⟨44, _⟩ => ⟨S8320x1024, .f32⟩
  | .hbm, ⟨45, _⟩ => ⟨S8320x1024, .f32⟩
  | .hbm, ⟨46, _⟩ => ⟨S8320x1024, .bf16⟩
  | .hbm, ⟨47, _⟩ => ⟨S8320x1024, .f32⟩
  | .hbm, ⟨48, _⟩ => ⟨S1024x1024, .f32⟩
  | .hbm, ⟨49, _⟩ => ⟨S8320x1024, .f32⟩
  | .hbm, ⟨50, _⟩ => ⟨S8320x1024, .f32⟩
  | .hbm, ⟨51, _⟩ => ⟨S8320x1024, .f32⟩
  | .hbm, ⟨52, _⟩ => ⟨S8320x1024, .f32⟩
  | .hbm, ⟨53, _⟩ => ⟨S8320x1024, .f32⟩
  | .hbm, ⟨54, _⟩ => ⟨S_, .f32⟩
  | .hbm, ⟨55, _⟩ => ⟨S8320, .f32⟩
  | .hbm, ⟨56, _⟩ => ⟨S8320x1, .f32⟩
  | .hbm, ⟨57, _⟩ => ⟨S_, .f32⟩
  | .hbm, ⟨58, _⟩ => ⟨S8320x1, .f32⟩
  | .hbm, ⟨59, _⟩ => ⟨S8320x1, .f32⟩
  | .hbm, ⟨60, _⟩ => ⟨S_, .f32⟩
  | .hbm, ⟨61, _⟩ => ⟨S8320x1, .f32⟩
  | .hbm, ⟨62, _⟩ => ⟨S8320x1, .f32⟩
  | .hbm, ⟨63, _⟩ => ⟨S8320x1, .f32⟩
  | .hbm, ⟨64, _⟩ => ⟨S8320x1024, .f32⟩
  | .hbm, ⟨65, _⟩ => ⟨S8320x1024, .f32⟩
  | .hbm, ⟨66, _⟩ => ⟨S8320x1024, .f32⟩
  | .hbm, ⟨67, _⟩ => ⟨S8320x1024, .f32⟩
  | .hbm, ⟨68, _⟩ => ⟨S8320x1024, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Kernel25.lean ====
abbrev S8320x1024 : Shape := ⟨2, ![8320, 1024]⟩
abbrev S1x1024 : Shape := ⟨2, ![1, 1024]⟩
abbrev S832x1024 : Shape := ⟨2, ![832, 1024]⟩
abbrev S832 : Shape := ⟨1, ![832]⟩
abbrev S832x1 : Shape := ⟨2, ![832, 1]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .bf16⟩
  | .local _ .vmem, ⟨0, _⟩ => ⟨S832x1024, .f32⟩
  | .local _ .vmem, ⟨1, _⟩ => ⟨S832x1024, .f32⟩
  | .local _ .vmem, ⟨2, _⟩ => ⟨S1x1024, .f32⟩
  | .local _ .vmem, ⟨3, _⟩ => ⟨S832x1024, .bf16⟩
  | .local _ .vmem, ⟨4, _⟩ => ⟨S832x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S832x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference25Ideal.lean ====
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩

abbrev nBuf : Space → Nat
  | .hbm => 18
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x1024, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel26.lean ====
abbrev S8320x1024 : Shape := ⟨2, ![8320, 1024]⟩
abbrev S1024x3072 : Shape := ⟨2, ![1024, 3072]⟩
abbrev S4x3072 : Shape := ⟨2, ![4, 3072]⟩
abbrev S1x3072 : Shape := ⟨2, ![1, 3072]⟩
abbrev S8320x3072 : Shape := ⟨2, ![8320, 3072]⟩
abbrev S832x1024 : Shape := ⟨2, ![832, 1024]⟩
abbrev S1024x512 : Shape := ⟨2, ![1024, 512]⟩
abbrev S4x512 : Shape := ⟨2, ![4, 512]⟩
abbrev S1x512 : Shape := ⟨2, ![1, 512]⟩
abbrev S832x512 : Shape := ⟨2, ![832, 512]⟩
abbrev S8x512 : Shape := ⟨2, ![8, 512]⟩
abbrev S840x512 : Shape := ⟨2, ![840, 512]⟩

abbrev nBuf : Space → Nat
  | .hbm => 6
  | .vmem => 14
  | .smem => 0
  | _ => 0

abbrev bufTy : (tb : Table) → Fin (tcTables nBuf tb) → BufTy
  | .hbm, ⟨0, _⟩ => ⟨S8320x1024, .bf16⟩
  | .hbm, ⟨1, _⟩ => ⟨S1024x3072, .bf16⟩
  | .hbm, ⟨2, _⟩ => ⟨S4x3072, .f32⟩
  | .hbm, ⟨3, _⟩ => ⟨S1x3072, .f32⟩
  | .hbm, ⟨4, _⟩ => ⟨S8320x3072, .bf16⟩
  | .hbm, ⟨5, _⟩ => ⟨S8320x3072, .f32⟩
  | .local _ .vmem, ⟨0, _⟩ => ⟨S832x1024, .bf16⟩
  | .local _ .vmem, ⟨1, _⟩ => ⟨S832x1024, .bf16⟩
  | .local _ .vmem, ⟨2, _⟩ => ⟨S1024x512, .bf16⟩
  | .local _ .vmem, ⟨3, _⟩ => ⟨S1024x512, .bf16⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S832x512, .bf16⟩
  | .local _ .vmem, ⟨9, _⟩ => ⟨S832x512, .bf16⟩
  | .local _ .vmem, ⟨10, _⟩ => ⟨S832x512, .f32⟩
  | .local _ .vmem, ⟨11, _⟩ => ⟨S832x512, .f32⟩
  | .local _ .vmem, ⟨12, _⟩ => ⟨S832x512, .f32⟩
  | .local _ .vmem, ⟨13, _⟩ => ⟨S8x512, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 11], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S832x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S832x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference26Ideal.lean ====
abbrev S8320x1024 : Shape := ⟨2, ![8320, 1024]⟩
abbrev S1024x3072 : Shape := ⟨2, ![1024, 3072]⟩
abbrev S4x3072 : Shape := ⟨2, ![4, 3072]⟩
abbrev S1x3072 : Shape := ⟨2, ![1, 3072]⟩
abbrev S8320x3072 : Shape := ⟨2, ![8320, 3072]⟩
abbrev S_ : Shape := ⟨0, ![]⟩
abbrev S3x3072 : Shape := ⟨2, ![3, 3072]⟩
abbrev S8323x3072 : Shape := ⟨2, ![8323, 3072]⟩
abbrev S3072 : Shape := ⟨1, ![3072]⟩

abbrev nBuf : Space → Nat
  | .hbm => 43
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x3072, .bf16⟩
  | .hbm, ⟨2, _⟩ => ⟨S4x3072, .f32⟩
  | .hbm, ⟨3, _⟩ => ⟨S1x3072, .f32⟩
  | .hbm, ⟨4, _⟩ => ⟨S8320x1024, .f32⟩
  | .hbm, ⟨5, _⟩ => ⟨S1024x3072, .f32⟩
  | .hbm, ⟨6, _⟩ => ⟨S8320x3072, .f32⟩
  | .hbm, ⟨7, _⟩ => ⟨S8320x3072, .bf16⟩
  | .hbm, ⟨8, _⟩ => ⟨S_, .f32⟩
  | .hbm, ⟨9, _⟩ => ⟨S3x3072, .f32⟩
  | .hbm, ⟨10, _⟩ => ⟨S8323x3072, .f32⟩
  | .hbm, ⟨11, _⟩ => ⟨S1x3072, .f32⟩
  | .hbm, ⟨12, _⟩ => ⟨S3072, .f32⟩
  | .hbm, ⟨13, _⟩ => ⟨S8320x3072, .f32⟩
  | .hbm, ⟨14, _⟩ => ⟨S1x3072, .f32⟩
  | .hbm, ⟨15, _⟩ => ⟨S8320x3072, .f32⟩
  | .hbm, ⟨16, _⟩ => ⟨S8320x3072, .f32⟩
  | .hbm, ⟨17, _⟩ => ⟨S_, .f32⟩
  | .hbm, ⟨18, _⟩ => ⟨S8320x3072, .f32⟩
  | .hbm, ⟨19, _⟩ => ⟨S8320x3072, .f32⟩
  | .hbm, ⟨20, _⟩ => ⟨S1x3072, .f32⟩
  | .hbm, ⟨21, _⟩ => ⟨S3072, .f32⟩
  | .hbm, ⟨22, _⟩ => ⟨S8320x3072, .f32⟩
  | .hbm, ⟨23, _⟩ => ⟨S1x3072, .f32⟩
  | .hbm, ⟨24, _⟩ => ⟨S8320x3072, .f32⟩
  | .hbm, ⟨25, _⟩ => ⟨S8320x3072, .f32⟩
  | .hbm, ⟨26, _⟩ => ⟨S8320x3072, .f32⟩
  | .hbm, ⟨27, _⟩ => ⟨S1x3072, .f32⟩
  | .hbm, ⟨28, _⟩ => ⟨S3072, .f32⟩
  | .hbm, ⟨29, _⟩ => ⟨S8320x3072, .f32⟩
  | .hbm, ⟨30, _⟩ => ⟨S1x3072, .f32⟩
  | .hbm, ⟨31, _⟩ => ⟨S8320x3072, .f32⟩
  | .hbm, ⟨32, _⟩ => ⟨S8320x3072, .f32⟩
  | .hbm, ⟨33, _⟩ => ⟨S8320x3072, .f32⟩
  | .hbm, ⟨34, _⟩ => ⟨S1x3072, .f32⟩
  | .hbm, ⟨35, _⟩ => ⟨S3072, .f32⟩
  | .hbm, ⟨36, _⟩ => ⟨S8320x3072, .f32⟩
  | .hbm, ⟨37, _⟩ => ⟨S1x3072, .f32⟩
  | .hbm, ⟨38, _⟩ => ⟨S8320x3072, .f32⟩
  | .hbm, ⟨39, _⟩ => ⟨S8320x3072, .f32⟩
  | .hbm, ⟨40, _⟩ => ⟨S8320x3072, .f32⟩
  | .hbm, ⟨41, _⟩ => ⟨S8320x3072, .f32⟩
  | .hbm, ⟨42, _⟩ => ⟨S8320x3072, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== Kernel27.lean ====
abbrev S8320x1024 : Shape := ⟨2, ![8320, 1024]⟩
abbrev S1024x5632 : Shape := ⟨2, ![1024, 5632]⟩
abbrev S3x5632 : Shape := ⟨2, ![3, 5632]⟩
abbrev S1x5632 : Shape := ⟨2, ![1, 5632]⟩
abbrev S8320x2816 : Shape := ⟨2, ![8320, 2816]⟩
abbrev S832x1024 : Shape := ⟨2, ![832, 1024]⟩
abbrev S1024x256 : Shape := ⟨2, ![1024, 256]⟩
abbrev S3x256 : Shape := ⟨2, ![3, 256]⟩
abbrev S1x256 : Shape := ⟨2, ![1, 256]⟩
abbrev S832x256 : Shape := ⟨2, ![832, 256]⟩
abbrev S2x832x256 : Shape := ⟨3, ![2, 832, 256]⟩
abbrev S2x8x256 : Shape := ⟨3, ![2, 8, 256]⟩
abbrev S1x832x256 : Shape := ⟨3, ![1, 832, 256]⟩
abbrev S1x8x256 : Shape := ⟨3, ![1, 8, 256]⟩
abbrev S8x256 : Shape := ⟨2, ![8, 256]⟩
abbrev S840x256 : Shape := ⟨2, ![840, 256]⟩

abbrev nBuf : Space → Nat
  | .hbm => 9
  | .vmem => 26
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .bf16⟩
  | .hbm, ⟨2, _⟩ => ⟨S3x5632, .f32⟩
  | .hbm, ⟨3, _⟩ => ⟨S1x5632, .f32⟩
  | .hbm, ⟨4, _⟩ => ⟨S8320x2816, .bf16⟩
  | .hbm, ⟨5, _⟩ => ⟨S8320x2816, .bf16⟩
  | .hbm, ⟨6, _⟩ => ⟨S8320x2816, .bf16⟩
  | .hbm, ⟨7, _⟩ => ⟨S8320x2816, .bf16⟩
  | .hbm, ⟨8, _⟩ => ⟨S8320x2816, .bf16⟩
  | .local _ .vmem, ⟨0, _⟩ => ⟨S832x1024, .bf16⟩
  | .local _ .vmem, ⟨1, _⟩ => ⟨S832x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S832x256, .bf16⟩
  | .local _ .vmem, ⟨15, _⟩ => ⟨S832x256, .bf16⟩
  | .local _ .vmem, ⟨16, _⟩ => ⟨S832x256, .bf16⟩
  | .local _ .vmem, ⟨17, _⟩ => ⟨S832x256, .bf16⟩
  | .local _ .vmem, ⟨18, _⟩ => ⟨S832x256, .bf16⟩
  | .local _ .vmem, ⟨19, _⟩ => ⟨S832x256, .bf16⟩
  | .local _ .vmem, ⟨20, _⟩ => ⟨S832x256, .bf16⟩
  | .local _ .vmem, ⟨21, _⟩ => ⟨S832x256, .bf16⟩
  | .local _ .vmem, ⟨22, _⟩ => ⟨S832x256, .bf16⟩
  | .local _ .vmem, ⟨23, _⟩ => ⟨S832x256, .bf16⟩
  | .local _ .vmem, ⟨24, _⟩ => ⟨S2x832x256, .f32⟩
  | .local _ .vmem, ⟨25, _⟩ => ⟨S2x8x256, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![11, 11], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S832x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S832x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S832x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S832x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S832x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference27Ideal.lean ====
abbrev S8320x1024 : Shape := ⟨2, ![8320, 1024]⟩
abbrev S1024x5632 : Shape := ⟨2, ![1024, 5632]⟩
abbrev S3x5632 : Shape := ⟨2, ![3, 5632]⟩
abbrev S1x5632 : Shape := ⟨2, ![1, 5632]⟩
abbrev S8320x5632 : Shape := ⟨2, ![8320, 5632]⟩
abbrev S_ : Shape := ⟨0, ![]⟩
abbrev S2x5632 : Shape := ⟨2, ![2, 5632]⟩
abbrev S8322x5632 : Shape := ⟨2, ![8322, 5632]⟩
abbrev S5632 : Shape := ⟨1, ![5632]⟩
abbrev S8320x2816 : Shape := ⟨2, ![8320, 2816]⟩

abbrev nBuf : Space → Nat
  | .hbm => 54
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .bf16⟩
  | .hbm, ⟨2, _⟩ => ⟨S3x5632, .f32⟩
  | .hbm, ⟨3, _⟩ => ⟨S1x5632, .f32⟩
  | .hbm, ⟨4, _⟩ => ⟨S8320x1024, .f32⟩
  | .hbm, ⟨5, _⟩ => ⟨S1024x5632, .f32⟩
  | .hbm, ⟨6, _⟩ => ⟨S8320x5632, .f32⟩
  | .hbm, ⟨7, _⟩ => ⟨S_, .f32⟩
  | .hbm, ⟨8, _⟩ => ⟨S2x5632, .f32⟩
  | .hbm, ⟨9, _⟩ => ⟨S8322x5632, .f32⟩
  | .hbm, ⟨10, _⟩ => ⟨S1x5632, .f32⟩
  | .hbm, ⟨11, _⟩ => ⟨S5632, .f32⟩
  | .hbm, ⟨12, _⟩ => ⟨S8320x5632, .f32⟩
  | .hbm, ⟨13, _⟩ => ⟨S1x5632, .f32⟩
  | .hbm, ⟨14, _⟩ => ⟨S8320x5632, .f32⟩
  | .hbm, ⟨15, _⟩ => ⟨S8320x5632, .f32⟩
  | .hbm, ⟨16, _⟩ => ⟨S_, .f32⟩
  | .hbm, ⟨17, _⟩ => ⟨S8320x5632, .f32⟩
  | .hbm, ⟨18, _⟩ => ⟨S8320x5632, .f32⟩
  | .hbm, ⟨19, _⟩ => ⟨S1x5632, .f32⟩
  | .hbm, ⟨20, _⟩ => ⟨S5632, .f32⟩
  | .hbm, ⟨21, _⟩ => ⟨S8320x5632, .f32⟩
  | .hbm, ⟨22, _⟩ => ⟨S1x5632, .f32⟩
  | .hbm, ⟨23, _⟩ => ⟨S8320x5632, .f32⟩
  | .hbm, ⟨24, _⟩ => ⟨S8320x5632, .f32⟩
  | .hbm, ⟨25, _⟩ => ⟨S8320x5632, .f32⟩
  | .hbm, ⟨26, _⟩ => ⟨S1x5632, .f32⟩
  | .hbm, ⟨27, _⟩ => ⟨S5632, .f32⟩
  | .hbm, ⟨28, _⟩ => ⟨S8320x5632, .f32⟩
  | .hbm, ⟨29, _⟩ => ⟨S1x5632, .f32⟩
  | .hbm, ⟨30, _⟩ => ⟨S8320x5632, .f32⟩
  | .hbm, ⟨31, _⟩ => ⟨S8320x5632, .f32⟩
  | .hbm, ⟨32, _⟩ => ⟨S8320x5632, .f32⟩
  | .hbm, ⟨33, _⟩ => ⟨S8320x5632, .f32⟩
  | .hbm, ⟨34, _⟩ => ⟨S8320x5632, .f32⟩
  | .hbm, ⟨35, _⟩ => ⟨S8320x2816, .f32⟩
  | .hbm, ⟨36, _⟩ => ⟨S8320x2816, .f32⟩
  | .hbm, ⟨37, _⟩ => ⟨S8320x2816, .f32⟩
  | .hbm, ⟨38, _⟩ => ⟨S8320x2816, .f32⟩
  | .hbm, ⟨39, _⟩ => ⟨S8320x2816, .f32⟩
  | .hbm, ⟨40, _⟩ => ⟨S8320x2816, .f32⟩
  | .hbm, ⟨41, _⟩ => ⟨S_, .f32⟩
  | .hbm, ⟨42, _⟩ => ⟨S8320x2816, .f32⟩
  | .hbm, ⟨43, _⟩ => ⟨S8320x2816, .f32⟩
  | .hbm, ⟨44, _⟩ => ⟨S_, .f32⟩
  | .hbm, ⟨45, _⟩ => ⟨S8320x2816, .f32⟩
  | .hbm, ⟨46, _⟩ => ⟨S8320x2816, .f32⟩
  | .hbm, ⟨47, _⟩ => ⟨S8320x2816, .f32⟩
  | .hbm, ⟨48, _⟩ => ⟨S8320x2816, .f32⟩
  | .hbm, ⟨49, _⟩ => ⟨S8320x2816, .bf16⟩
  | .hbm, ⟨50, _⟩ => ⟨S8320x2816, .bf16⟩
  | .hbm, ⟨51, _⟩ => ⟨S8320x2816, .bf16⟩
  | .hbm, ⟨52, _⟩ => ⟨S8320x2816, .bf16⟩
  | .hbm, ⟨53, _⟩ => ⟨S8320x2816, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel28.lean ====
abbrev S8320x2816 : Shape := ⟨2, ![8320, 2816]⟩
abbrev S2816x1024 : Shape := ⟨2, ![2816, 1024]⟩
abbrev S8320x1024 : Shape := ⟨2, ![8320, 1024]⟩
abbrev S1x1024 : Shape := ⟨2, ![1, 1024]⟩
abbrev S8192x1024 : Shape := ⟨2, ![8192, 1024]⟩
abbrev S64x128x1024 : Shape := ⟨3, ![64, 128, 1024]⟩
abbrev S1x128 : Shape := ⟨2, ![1, 128]⟩
abbrev S640x2816 : Shape := ⟨2, ![640, 2816]⟩
abbrev S640x1024 : Shape := ⟨2, ![640, 1024]⟩
abbrev S1x128x1024 : Shape := ⟨3, ![1, 128, 1024]⟩
abbrev S640x1 : Shape := ⟨2, ![640, 1]⟩
abbrev S640 : Shape := ⟨1, ![640]⟩
abbrev S128x1024 : Shape := ⟨2, ![128, 1024]⟩
abbrev S1 : Shape := ⟨1, ![1]⟩
abbrev S1x1 : Shape := ⟨2, ![1, 1]⟩
abbrev S1024 : Shape := ⟨1, ![1024]⟩

abbrev nBuf : Space → Nat
  | .hbm => 10
  | .vmem => 22
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .hbm, ⟨3, _⟩ => ⟨S1x1024, .f32⟩
  | .hbm, ⟨4, _⟩ => ⟨S8192x1024, .f32⟩
  | .hbm, ⟨5, _⟩ => ⟨S64x128x1024, .f32⟩
  | .hbm, ⟨6, _⟩ => ⟨S8320x1024, .f32⟩
  | .hbm, ⟨7, _⟩ => ⟨S8320x1024, .bf16⟩
  | .hbm, ⟨8, _⟩ => ⟨S1x128, .f32⟩
  | .hbm, ⟨9, _⟩ => ⟨S1x1024, .f32⟩
  | .local _ .vmem, ⟨0, _⟩ => ⟨S640x2816, .bf16⟩
  | .local _ .vmem, ⟨1, _⟩ => ⟨S640x2816, .bf16⟩
  | .local _ .vmem, ⟨2, _⟩ => ⟨S2816x1024, .bf16⟩
  | .local _ .vmem, ⟨3, _⟩ => ⟨S640x1024, .f32⟩
  | .local _ .vmem, ⟨4, _⟩ => ⟨S640x1024, .f32⟩
  | .local _ .vmem, ⟨5, _⟩ => ⟨S1x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S640x1024, .f32⟩
  | .local _ .vmem, ⟨17, _⟩ => ⟨S640x1024, .f32⟩
  | .local _ .vmem, ⟨18, _⟩ => ⟨S640x1024, .bf16⟩
  | .local _ .vmem, ⟨19, _⟩ => ⟨S640x1024, .bf16⟩
  | .local _ .vmem, ⟨20, _⟩ => ⟨S1x128, .f32⟩
  | .local _ .vmem, ⟨21, _⟩ => ⟨S1x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![13], ![false]⟩

def k0_cond1 (i : grid0.Coords) : BitVec 1 :=
  let arg0 : BitVec 32 := BitVec.ofNat 32 (i 0).val
  let c0_i32 : BitVec 32 := 0#32
  let v77 : BitVec 1 := Scalar.cmpi .eq arg0 c0_i32
  let v78 : BitVec 32 := Scalar.extui v77
  let c0_i32_39 : BitVec 32 := 0#32
  let v79 : BitVec 1 := Scalar.cmpi .ne v78 c0_i32_39
  v79

def k0_cond2 (i : grid0.Coords) : BitVec 1 :=
  let arg0 : BitVec 32 := BitVec.ofNat 32 (i 0).val
  let c0_i32_40 : BitVec 32 := 0#32
  let v80 : BitVec 1 := Scalar.cmpi .sgt arg0 c0_i32_40
  let v81 : BitVec 32 := Scalar.extui v80
  let c0_i32_41 : BitVec 32 := 0#32
  let v82 : BitVec 1 := Scalar.cmpi .ne v81 c0_i32_41
  v82

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.subi v0 c1_i32
  let c0_i32 : BitVec 32 := 0#32
  let v2 : BitVec 32 := Scalar.addi v1 c0_i32
  let c0_i32_0 : BitVec 32 := 0#32
  let c63_i32 : BitVec 32 := 63#32
  let v3 : BitVec 32 := Scalar.maxsi c0_i32_0 v2
  let v4 : BitVec 32 := Scalar.minsi c63_i32 v3
  let c0_i32_1 : BitVec 32 := 0#32
  let c0_i32_2 : BitVec 32 := 0#32
  let c0_i32_3 : BitVec 32 := 0#32
  ![v4.toNat, c0_i32_1.toNat, c0_i32_2.toNat]

def cc0_transform_5 (i : grid0.Coords) : Fin 3 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.subi v0 c1_i32
  let c1_i32_0 : BitVec 32 := 1#32
  let v2 : BitVec 32 := Scalar.addi v1 c1_i32_0
  let c0_i32 : BitVec 32 := 0#32
  let c63_i32 : BitVec 32 := 63#32
  let v3 : BitVec 32 := Scalar.maxsi c0_i32 v2
  let v4 : BitVec 32 := Scalar.minsi c63_i32 v3
  let c0_i32_1 : BitVec 32 := 0#32
  let c0_i32_2 : BitVec 32 := 0#32
  let c0_i32_3 : BitVec 32 := 0#32
  ![v4.toNat, c0_i32_1.toNat, c0_i32_2.toNat]

def cc0_transform_6 (i : grid0.Coords) : Fin 3 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.subi v0 c1_i32
  let c2_i32 : BitVec 32 := 2#32
  let v2 : BitVec 32 := Scalar.addi v1 c2_i32
  let c0_i32 : BitVec 32 := 0#32
  let c63_i32 : BitVec 32 := 63#32
  let v3 : BitVec 32 := Scalar.maxsi c0_i32 v2
  let v4 : BitVec 32 := Scalar.minsi c63_i32 v3
  let c0_i32_0 : BitVec 32 := 0#32
  let c0_i32_1 : BitVec 32 := 0#32
  let c0_i32_2 : BitVec 32 := 0#32
  ![v4.toNat, c0_i32_0.toNat, c0_i32_1.toNat]

def cc0_transform_7 (i : grid0.Coords) : Fin 3 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.subi v0 c1_i32
  let c3_i32 : BitVec 32 := 3#32
  let v2 : BitVec 32 := Scalar.addi v1 c3_i32
  let c0_i32 : BitVec 32 := 0#32
  let c63_i32 : BitVec 32 := 63#32
  let v3 : BitVec 32 := Scalar.maxsi c0_i32 v2
  let v4 : BitVec 32 := Scalar.minsi c63_i32 v3
  let c0_i32_0 : BitVec 32 := 0#32
  let c0_i32_1 : BitVec 32 := 0#32
  let c0_i32_2 : BitVec 32 := 0#32
  ![v4.toNat, c0_i32_0.toNat, c0_i32_1.toNat]

def cc0_transform_8 (i : grid0.Coords) : Fin 3 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.subi v0 c1_i32
  let c4_i32 : BitVec 32 := 4#32
  let v2 : BitVec 32 := Scalar.addi v1 c4_i32
  let c0_i32 : BitVec 32 := 0#32
  let c63_i32 : BitVec 32 := 63#32
  let v3 : BitVec 32 := Scalar.maxsi c0_i32 v2
  let v4 : BitVec 32 := Scalar.minsi c63_i32 v3
  let c0_i32_0 : BitVec 32 := 0#32
  let c0_i32_1 : BitVec 32 := 0#32
  let c0_i32_2 : BitVec 32 := 0#32
  ![v4.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S640x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S640x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference28Ideal.lean ====
abbrev S8320x2816 : Shape := ⟨2, ![8320, 2816]⟩
abbrev S2816x1024 : Shape := ⟨2, ![2816, 1024]⟩
abbrev S8320x1024 : Shape := ⟨2, ![8320, 1024]⟩
abbrev S1x1024 : Shape := ⟨2, ![1, 1024]⟩
abbrev S8192x1024 : Shape := ⟨2, ![8192, 1024]⟩
abbrev S8320 : Shape := ⟨1, ![8320]⟩
abbrev S_ : Shape := ⟨0, ![]⟩
abbrev S8320x1 : Shape := ⟨2, ![8320, 1]⟩
abbrev S8192 : Shape := ⟨1, ![8192]⟩
abbrev S1024 : Shape := ⟨1, ![1024]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .hbm, ⟨3, _⟩ => ⟨S1x1024, .f32⟩
  | .hbm, ⟨4, _⟩ => ⟨S8192x1024, .f32⟩
  | .hbm, ⟨5, _⟩ => ⟨S8320, .i32⟩
  | .hbm, ⟨6, _⟩ => ⟨S_, .i32⟩
  | .hbm, ⟨7, _⟩ => ⟨S8320, .i32⟩
  | .hbm, ⟨8, _⟩ => ⟨S8320, .i1⟩
  | .hbm, ⟨9, _⟩ => ⟨S8320, .f32⟩
  | .hbm, ⟨10, _⟩ => ⟨S8320x1, .f32⟩
  | .hbm, ⟨11, _⟩ => ⟨S8320x2816, .f32⟩
  | .hbm, ⟨12, _⟩ => ⟨S2816x1024, .f32⟩
  | .hbm, ⟨13, _⟩ => ⟨S8320x1024, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S_, .f32⟩
  | .hbm, ⟨19, _⟩ => ⟨S8320, .f32⟩
  | .hbm, ⟨20, _⟩ => ⟨S8320x1, .f32⟩
  | .hbm, ⟨21, _⟩ => ⟨S_, .f32⟩
  | .hbm, ⟨22, _⟩ => ⟨S8320x1, .f32⟩
  | .hbm, ⟨23, _⟩ => ⟨S8320x1, .f32⟩
  | .hbm, ⟨24, _⟩ => ⟨S_, .f32⟩
  | .hbm, ⟨25, _⟩ => ⟨S8320x1, .f32⟩
  | .hbm, ⟨26, _⟩ => ⟨S8320x1, .f32⟩
  | .hbm, ⟨27, _⟩ => ⟨S8320x1, .f32⟩
  | .hbm, ⟨28, _⟩ => ⟨S8320x1, .f32⟩
  | .hbm, ⟨29, _⟩ => ⟨S_, .f32⟩
  | .hbm, ⟨30, _⟩ => ⟨S8320x1, .f32⟩
  | .hbm, ⟨31, _⟩ => ⟨S8320x1, .f32⟩
  | .hbm, ⟨32, _⟩ => ⟨S8320x1024, .f32⟩
  | .hbm, ⟨33, _⟩ => ⟨S8320x1024, .f32⟩
  | .hbm, ⟨34, _⟩ => ⟨S8320x1024, .f32⟩
  | .hbm, ⟨35, _⟩ => ⟨S8320x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8320x1024, .f32⟩
  | .hbm, ⟨62, _⟩ => ⟨S8320x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8320x1024, .f32⟩
  | .hbm, ⟨67, _⟩ => ⟨S8320x1024, .f32⟩
  | .hbm, ⟨68, _⟩ => ⟨S8320x1024, .f32⟩
  | .hbm, ⟨69, _⟩ => ⟨S_, .f32⟩
  | .hbm, ⟨70, _⟩ => ⟨S8320, .f32⟩
  | .hbm, ⟨71, _⟩ => ⟨S8320x1, .f32⟩
  | .hbm, ⟨72, _⟩ => ⟨S8320x1024, .f32⟩
  | .hbm, ⟨73, _⟩ => ⟨S8320x1024, .f32⟩
  | .hbm, ⟨74, _⟩ => ⟨S8320x1, .f32⟩
  | .hbm, ⟨75, _⟩ => ⟨S_, .f32⟩
  | .hbm, ⟨76, _⟩ => ⟨S8320x1, .f32⟩
  | .hbm, ⟨77, _⟩ => ⟨S8320x1, .f32⟩
  | .hbm, ⟨78, _⟩ => ⟨S_, .f32⟩
  | .hbm, ⟨79, _⟩ => ⟨S8320, .f32⟩
  | .hbm, ⟨80, _⟩ => ⟨S8320x1024, .f32⟩
  | .hbm, ⟨81, _⟩ => ⟨S8320x1024, .f32⟩
  | .hbm, ⟨82, _⟩ => ⟨S8320x1024, .f32⟩
  | .hbm, ⟨83, _⟩ => ⟨S8320x1024, .f32⟩
  | .hbm, ⟨84, _⟩ => ⟨S8320x1024, .f32⟩
  | .hbm, ⟨85, _⟩ => ⟨S8320x1024, .bf16⟩
  | .hbm, ⟨86, _⟩ => ⟨S1x128, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_cst_8 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_13 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Proof.Scalars.lean ====
/- Facts about extended reals that the value claims share: the logistic function written with `tanh`. -/
module

public import Idealize.ShloMosaic.Lib.Pointwise
public import Idealize.ShloMosaic.Lib.IdealHost

@[expose] public section

noncomputable section

namespace Cert.Scalars

open Idealize.ShloMosaic

/-- The pattern of `0.5`. -/
theorem half_bits : Ideal.ofBits .f32 0x3F000000#32 = ((1 / 2 : ℝ) : EReal) := by
  simp [Ideal.ofBits, Ideal.ieee]
  norm_cast
  norm_num

/-- Over the reals `tanh (x / 2) / 2 + 1 / 2` is the logistic function. -/
theorem real_logistic (x : ℝ) : 1 / 2 * Real.tanh (1 / 2 * x) + 1 / 2 = 1 / (1 + Real.exp (-x)) := by
  have h : Real.exp (-x) = Real.exp (-(1 / 2 * x)) * Real.exp (-(1 / 2 * x)) := by
    rw [← Real.exp_add]; ring_nf
  rw [Real.tanh_eq_sinh_div_cosh, Real.sinh_eq, Real.cosh_eq, h, Real.exp_neg (1 / 2 * x)]
  have hp := Real.exp_pos (1 / 2 * x)
  generalize Real.exp (1 / 2 * x) = e at hp
  field_simp
  ring

/-- The same at every extended real. -/
theorem logistic (x : EReal) :
    Ideal.ofBits .f32 0x3F000000#32 * Ideal.tanh (Ideal.ofBits .f32 0x3F000000#32 * x)
      + Ideal.ofBits .f32 0x3F000000#32 = Ideal.div 1 (1 + Ideal.exp (-x)) := by
  rw [half_bits]
  induction x using EReal.rec with
  | bot =>
    rw [EReal.coe_mul_bot_of_pos (by norm_num)]
    rw [show Ideal.div 1 (1 + Ideal.exp (-⊥)) = 0 from Ideal.logistic_bot, Ideal.tanh_bot]
    rw [show (-1 : EReal) = ((-1 : ℝ) : EReal) by simp]
    norm_cast
    norm_num
  | top =>
    rw [EReal.coe_mul_top_of_pos (by norm_num)]
    rw [show Ideal.div 1 (1 + Ideal.exp (-⊤)) = 1 from Ideal.logistic_top, Ideal.tanh_top]
    rw [show (1 : EReal) = ((1 : ℝ) : EReal) by simp]
    norm_cast
    norm_num
  | coe r =>
    have h1 : (1 : EReal) + Ideal.exp (-(r : EReal)) = ((1 + Real.exp (-r) : ℝ) : EReal) := by
      rw [← EReal.coe_neg]; rw [Ideal.exp_coe]; norm_cast
    have hne : (1 + Real.exp (-r) : ℝ) ≠ 0 := by positivity
    rw [h1, Ideal.div_coe hne, one_mul, ← EReal.coe_mul]
    show ((1 / 2 : ℝ) : EReal) * ((Real.tanh (1 / 2 * r) : ℝ) : EReal) + _ = _
    rw [← EReal.coe_mul, ← EReal.coe_add, real_logistic]

/-- The pattern of `-0.5`. -/
theorem neg_half_bits : Ideal.ofBits .f32 0xBF000000#32 = ((-(1 / 2) : ℝ) : EReal) := by
  simp [Ideal.ofBits, Ideal.ieee, -EReal.coe_mul, -EReal.coe_neg]; norm_num

/-- The pattern of `1024`. -/
theorem width_bits : Ideal.ofBits .f32 0x44800000#32 = ((1024 : ℝ) : EReal) := by
  simp [Ideal.ofBits, Ideal.ieee, -EReal.coe_mul]; norm_num

/-- The constant added to a mean square is a positive real. -/
theorem eps_bits : ∃ e : ℝ, 0 < e ∧ Ideal.ofBits .f32 0x358637BD#32 = (e : EReal) := by
  refine ⟨8796093 * 2 ^ (-43 : Int), by positivity, ?_⟩
  simp [Ideal.ofBits, Ideal.ieee, -EReal.coe_mul]

/-- A nonnegative real factor goes into a finite sum. -/
theorem mul_sum {n : ℕ} {a : EReal} (h0 : 0 ≤ a) (h1 : a ≠ ⊤) (f : Fin n → EReal) : a * ∑ k, f k = ∑ k, a * f k := by
  induction n with
  | zero => simp
  | succ n ih =>
    rw [Fin.sum_univ_succ, Fin.sum_univ_succ, EReal.left_distrib_of_nonneg_of_ne_top h0 h1, ih]

/-- A square is not negative. -/
theorem sq_nonneg (x : EReal) : 0 ≤ x * x := by
  induction x using EReal.rec with
  | bot => simp
  | top => simp
  | coe r => rw [← EReal.coe_mul]; exact EReal.coe_nonneg.mpr (mul_self_nonneg r)

/-- The mean square plus the constant is a positive real, with every entry a real, or infinite. -/
theorem mean_sq {n : ℕ} (x : Fin n → EReal) :
    (∃ v : ℝ, 0 < v ∧ (∀ k, ∃ r : ℝ, x k = r) ∧
        Ideal.div (∑ k, x k * x k) (Ideal.ofBits .f32 0x44800000#32) + Ideal.ofBits .f32 0x358637BD#32 = (v : EReal))
      ∨ Ideal.div (∑ k, x k * x k) (Ideal.ofBits .f32 0x44800000#32) + Ideal.ofBits .f32 0x358637BD#32 = ⊤ := by
  obtain ⟨e, he, hb⟩ := eps_bits
  rw [width_bits, hb, Ideal.div_coe (by norm_num)]
  have hs : 0 ≤ ∑ k, x k * x k := Finset.sum_nonneg fun k _ => sq_nonneg (x k)
  by_cases ht : ∑ k, x k * x k = ⊤
  · right
    rw [ht, EReal.top_mul_coe_of_pos (by norm_num), EReal.top_add_coe]
  · left
    have hk : ∀ k, ∃ r : ℝ, x k = r := by
      intro k
      have hle : x k * x k ≤ ∑ k, x k * x k := Finset.single_le_sum (f := fun k => x k * x k) (fun i _ => sq_nonneg (x i)) (Finset.mem_univ k)
      generalize x k = y at hle
      induction y using EReal.rec with
      | bot => exact absurd (top_le_iff.mp (by simpa using hle)) ht
      | top => exact absurd (top_le_iff.mp (by simpa using hle)) ht
      | coe r => exact ⟨r, rfl⟩
    have hb : ∑ k, x k * x k ≠ ⊥ := fun h => by rw [h] at hs; simp at hs
    obtain ⟨s, hsr⟩ : ∃ s : ℝ, ∑ k, x k * x k = s := ⟨_, (EReal.coe_toReal ht hb).symm⟩
    rw [hsr] at hs ⊢
    have hs0 : 0 ≤ s := EReal.coe_nonneg.mp hs
    exact ⟨s * (1 / 1024) + e, by positivity, hk, by norm_cast⟩

/-- Twice the same. -/
theorem add_self (a : EReal) : a + a = 2 * a := by
  induction a using EReal.rec with
  | bot => rw [EReal.mul_bot_of_pos (by norm_num)]; rfl
  | top => rw [EReal.mul_top_of_pos (by norm_num)]; rfl
  | coe r => rw [show (2 : EReal) = ((2 : ℝ) : EReal) from rfl]; norm_cast; ring

/-- The gradient of `x ↦ x · rsqrt (mean x² + e)` in the fused form and in the form differentiation gives, with the gradient of
    what is added to it. -/
theorem rms_grad {n : ℕ} (x g : Fin n → EReal) (d : EReal) (v : EReal)
    (hv : v = Ideal.div (∑ k, x k * x k) (Ideal.ofBits .f32 0x44800000#32) + Ideal.ofBits .f32 0x358637BD#32) (j : Fin n) :
    Ideal.rsqrt v * (g j - x j * Ideal.rsqrt v * Ideal.div (∑ k, g k * (x k * Ideal.rsqrt v)) (Ideal.ofBits .f32 0x44800000#32)) + d
      = d + g j * Ideal.rsqrt v
        + x j * Ideal.div ((∑ k, x k * g k) * (Ideal.ofBits .f32 0xBF000000#32 * Ideal.div (Ideal.rsqrt v) v)) (Ideal.ofBits .f32 0x44800000#32)
        + Ideal.div ((∑ k, x k * g k) * (Ideal.ofBits .f32 0xBF000000#32 * Ideal.div (Ideal.rsqrt v) v)) (Ideal.ofBits .f32 0x44800000#32) * x j := by
  rw [neg_half_bits, width_bits]
  simp only [Ideal.div_coe (show (1024 : ℝ) ≠ 0 by norm_num)]
  rcases mean_sq x with ⟨r, hr, hx, h⟩ | h
  · rw [← hv] at h
    rw [h]
    have hq : Ideal.rsqrt (r : EReal) = (((Real.sqrt r)⁻¹ : ℝ) : EReal) := by
      rw [Ideal.rsqrt_coe, if_neg (not_lt.mpr hr.le), if_neg hr.ne']
    have hp : 0 < (Real.sqrt r)⁻¹ := inv_pos.mpr (Real.sqrt_pos.mpr hr)
    have hsq : r * ((Real.sqrt r)⁻¹ * (Real.sqrt r)⁻¹) = 1 := by
      rw [← mul_inv, Real.mul_self_sqrt hr.le, mul_inv_cancel₀ hr.ne']
    rw [hq, Ideal.div_coe hr.ne']
    generalize (Real.sqrt r)⁻¹ = q at hp hsq
    have hqr : q * (1 / r) = q * q * q := by
      have : 1 / r = q * q := by field_simp; linarith
      rw [this]; ring
    have hS : ∑ k, g k * (x k * (q : EReal)) = (q : EReal) * ∑ k, x k * g k := by
      rw [mul_sum (EReal.coe_nonneg.mpr hp.le) (EReal.coe_ne_top q)]
      refine Finset.sum_congr rfl fun k _ => ?_
      rw [mul_comm (q : EReal), mul_comm (x k) (g k), mul_assoc]
    rw [hS]
    obtain ⟨b, hb⟩ := hx j
    rw [hb]
    generalize ∑ k, x k * g k = S
    generalize g j = G
    rw [sub_eq_add_neg, EReal.left_distrib_of_nonneg_of_ne_top (EReal.coe_nonneg.mpr hp.le) (EReal.coe_ne_top q)]
    have e1 : (q : EReal) * -((b : EReal) * q * (q * S * ((1 / 1024 : ℝ) : EReal))) = S * ((-(q * b * q * q * (1 / 1024)) : ℝ) : EReal) := by
      rw [show (b : EReal) * q * (q * S * ((1 / 1024 : ℝ) : EReal)) = S * ((b * q * q * (1 / 1024) : ℝ) : EReal) by
        simp only [EReal.coe_mul]; ac_rfl]
      rw [← mul_neg, ← EReal.coe_neg, mul_left_comm, ← EReal.coe_mul]
      congr 2; ring
    have e2 : (b : EReal) * (S * (((-(1 / 2) : ℝ) : EReal) * ((q : EReal) * ((1 / r : ℝ) : EReal))) * ((1 / 1024 : ℝ) : EReal))
        = S * ((b * (-(1 / 2)) * (q * q * q) * (1 / 1024) : ℝ) : EReal) := by
      rw [← hqr]
      simp only [EReal.coe_mul]; ac_rfl
    rw [e1, mul_comm _ (b : EReal), e2, add_assoc (d + _), add_self, mul_left_comm]
    rw [show (2 : EReal) = ((2 : ℝ) : EReal) from rfl, ← EReal.coe_mul]
    rw [show (2 * (b * (-(1 / 2)) * (q * q * q) * (1 / 1024)) : ℝ) = -(q * b * q * q * (1 / 1024)) by ring]
    rw [mul_comm G]
    ac_rfl
  · rw [← hv] at h
    rw [h, Ideal.rsqrt_top]
    rw [show Ideal.div 0 ⊤ = 0 by unfold Ideal.div; rw [if_neg (by simp)]; simp]
    simp

end Cert.Scalars

end
-- ==== Proof.Merge.lean ====
/- The gradient of the gated merge and its output projection: what the kernel leaves in each result. -/
module

public import proofs.«01_k».proof.Proof.Gen.KernelIdeal.Value
public import proofs.«01_k».proof.Proof.Gen.ReferenceIdeal.Read
public import proofs.«01_k».proof.Proof.Scalars
public import Idealize.ShloMosaic.Lib.Pointwise
public import Idealize.ShloMosaic.Lib.WordCmp
public import Idealize.ShloMosaic.Lib.Pipeline.ValueKit

@[expose] public section

set_option maxRecDepth 16384

noncomputable section

namespace Cert.KernelIdeal.Merge

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The cotangent of the merged rows: the padding rows have none. -/
def dmv (X0 : FVec Ideal S8320x1024 .f32) (X1 : FVec Ideal S1024x1024 .bf16) (r : Fin 8320) (c : Fin 1024) : EReal :=
  if 112 ≤ r.val then ∑ k : Fin 1024, X0 (ix2 r k) * X1 (ix2 c k) else 0

/-- One of the two gates, at a row and a column. -/
def gate (X2 : FVec Ideal S8320x2048 .f32) (X5 : FVec Ideal S2x1024 .f32) (g : Fin 2) (r : Fin 8320) (c : Fin 1024) : EReal :=
  Ideal.logistic (X2 (ix2 r ⟨g.val * 1024 + c.val, by omega⟩) + X5 (ix2 g c))

/-- The gradient of a gate's preactivation. -/
def dgate (X0 : FVec Ideal S8320x1024 .f32) (X1 : FVec Ideal S1024x1024 .bf16) (X2 : FVec Ideal S8320x2048 .f32)
    (Y : FVec Ideal S8320x1024 .bf16) (X5 : FVec Ideal S2x1024 .f32) (g : Fin 2) (r : Fin 8320) (c : Fin 1024) : EReal :=
  dmv X0 X1 r c * Y (ix2 r c) * (gate X2 X5 g r c * (1 - gate X2 X5 g r c))

theorem idx : ∀ t : Fin cfg0.N, win0_0.index t = ![t.val, 0] ∧ win0_1.index t = ![0, 0] ∧ win0_2.index t = ![t.val, 0]
    ∧ win0_3.index t = ![t.val, 1] ∧ win0_4.index t = ![t.val, 0] ∧ win0_5.index t = ![t.val, 0] ∧ win0_6.index t = ![0, 0]
    ∧ win0_7.index t = ![t.val, 0] ∧ win0_8.index t = ![t.val, 0] ∧ win0_9.index t = ![t.val, 0] ∧ win0_10.index t = ![0, 0]
    ∧ (grid0.coords t 0).val = t.val :=
  (by decide +kernel : ∀ t : Fin grid0.N, _)

theorem dmv_at (i : grid0.Coords) (x0 : FVec Ideal S416x1024 .f32) (x1 : FVec Ideal S1024x1024 .bf16) (r : Fin 416) (c : Fin 1024) :
    k0_pay1 (F := Ideal) i x0 x1 (ix2 r c)
      = if 112 ≤ (i 0).val * 416 + r.val then ∑ k : Fin 1024, x0 (ix2 r k) * x1 (ix2 c k) else 0 := by
  pointwise [k0_pay1]
  have hi : (i 0).val < 20 := (i 0).isLt
  generalize (i 0).val = a at hi ⊢
  have hw := r.isLt
  have he : IntOp.cmpi CmpIPredicate.sge (IntOp.addi (Scalar.muli (BitVec.ofNat 32 a) 416#32) (BitVec.ofNat 32 ↑r)) 112#32
      = BitVec.ofBool (decide (112 ≤ a * 416 + r.val)) := by
    unfold Scalar.muli
    rw [WordCmp.muli_ofNat, WordCmp.addi_ofNat, WordCmp.cmpi_sge_ofNat (by omega) (by omega)]
  rw [he]
  by_cases h : 112 ≤ a * 416 + r.val
  · rw [if_pos h, decide_eq_true h]; rfl
  · rw [if_neg h, decide_eq_false h]; rfl

theorem gate0_at (x : FVec Ideal S416x1024 .f32) (b : FVec Ideal S1x1024 .f32) (r : Fin 416) (c : Fin 1024) :
    k0_pay2 (F := Ideal) x b (ix2 r c) = Ideal.logistic (x (ix2 r c) + b (ix2 0 c)) := by
  pointwise [k0_pay2]
  exact Scalars.logistic _

theorem gate1_at (x : FVec Ideal S416x1024 .f32) (b : FVec Ideal S1x1024 .f32) (r : Fin 416) (c : Fin 1024) :
    k0_pay3 (F := Ideal) x b (ix2 r c) = Ideal.logistic (x (ix2 r c) + b (ix2 0 c)) := by
  pointwise [k0_pay3]
  exact Scalars.logistic _

section Points
variable (c : Dev nD) (t : Fin cfg0.N)

theorem outs7 : (outsAt0 m c t.val t.isLt).1 = k0_pay5 (k0_pay4 (grid0.coords t) (iblk m c 0 t) (iblk m c 1 t) (iblk m c 2 t)
    (View.ld (iblk m c 6 t) (Rect.unit ![0, 0] ![1, 1024] inb_S2x1024_S1x1024_0_0))) := by
  by_cases h0 : t.val % 20 = 0
  · have h1 : ¬ 1 ≤ t.val := by have := lt_of_lt_of_eq t.isLt N_0; omega
    rw [outsAt0_A m c t h0 h1]
    frame_out; rfl
  · rw [outsAt0_B m c t h0 (by omega)]
    frame_out; rfl

/-- The products of the merged rows' cotangent, read where the point's block sits. -/
theorem dmv_blk (R : Fin 8320) (C : Fin 1024) (r : Fin 416) (k : Fin 1024) (h0 : R.val = t.val * 416 + r.val) (h1 : C.val = k.val) :
    k0_pay1 (F := Ideal) (grid0.coords t) (iblk m c 0 t) (iblk m c 1 t) (ix2 r k)
      = dmv (m ((c : Thread nD τ).loc main_arg0)) (m ((c : Thread nD τ).loc main_arg1)) R C := by
  rw [dmv_at]
  unfold dmv
  rw [(idx t).2.2.2.2.2.2.2.2.2.2.2, h0]
  refine if_congr Iff.rfl ?_ rfl
  blk_point [iblk, V, idx t]

theorem outs8 : (outsAt0 m c t.val t.isLt).2.1 = k0_pay6 (k0_pay1 (grid0.coords t) (iblk m c 0 t) (iblk m c 1 t)) (k0_pay3 (iblk m c 3 t)
    (View.ld (iblk m c 6 t) (Rect.unit ![1, 0] ![1, 1024] inb_S2x1024_S1x1024_1_0))) := by
  by_cases h0 : t.val % 20 = 0
  · have h1 : ¬ 1 ≤ t.val := by have := lt_of_lt_of_eq t.isLt N_0; omega
    rw [outsAt0_A m c t h0 h1]
    frame_out; rfl
  · rw [outsAt0_B m c t h0 (by omega)]
    frame_out; rfl

/-- The first gate, read where the point's block sits. -/
theorem gate0_blk (R : Fin 8320) (C : Fin 1024) (r : Fin 416) (k : Fin 1024) (h0 : R.val = t.val * 416 + r.val) (h1 : C.val = k.val) :
    k0_pay2 (F := Ideal) (iblk m c 2 t) (View.ld (iblk m c 6 t) (Rect.unit ![0, 0] ![1, 1024] inb_S2x1024_S1x1024_0_0)) (ix2 r k)
      = gate (m ((c : Thread nD τ).loc main_arg2)) (m ((c : Thread nD τ).loc main_arg5)) 0 R C := by
  rw [gate0_at]
  unfold gate
  pointwise
  blk_point [iblk, V, idx t]

/-- The second gate, read where the point's block sits. -/
theorem gate1_blk (R : Fin 8320) (C : Fin 1024) (r : Fin 416) (k : Fin 1024) (h0 : R.val = t.val * 416 + r.val) (h1 : C.val = k.val) :
    k0_pay3 (F := Ideal) (iblk m c 3 t) (View.ld (iblk m c 6 t) (Rect.unit ![1, 0] ![1, 1024] inb_S2x1024_S1x1024_1_0)) (ix2 r k)
      = gate (m ((c : Thread nD τ).loc main_arg2)) (m ((c : Thread nD τ).loc main_arg5)) 1 R C := by
  rw [gate1_at]
  unfold gate
  pointwise
  blk_point [iblk, V, idx t]

/-- The gradient of the first gate's preactivation, read where the point's block sits. -/
theorem dgate0_blk (R : Fin 8320) (C : Fin 1024) (r : Fin 416) (k : Fin 1024) (h0 : R.val = t.val * 416 + r.val) (h1 : C.val = k.val) :
    k0_pay7 (F := Ideal) (k0_pay1 (grid0.coords t) (iblk m c 0 t) (iblk m c 1 t))
      (k0_pay2 (iblk m c 2 t) (View.ld (iblk m c 6 t) (Rect.unit ![0, 0] ![1, 1024] inb_S2x1024_S1x1024_0_0))) (iblk m c 4 t) (ix2 r k)
      = dgate (m ((c : Thread nD τ).loc main_arg0)) (m ((c : Thread nD τ).loc main_arg1)) (m ((c : Thread nD τ).loc main_arg2))
          (m ((c : Thread nD τ).loc main_arg3)) (m ((c : Thread nD τ).loc main_arg5)) 0 R C := by
  pointwise [k0_pay7]
  rw [dmv_blk m c t R C r k h0 h1, gate0_blk m c t R C r k h0 h1]
  unfold dgate
  rw [mul_assoc (_ * _)]
  refine Ideal.mul_congr (Ideal.mul_congr rfl ?_) ?_
  · blk_point [iblk, V, idx t]
  · rfl

/-- The gradient of the second gate's preactivation, read where the point's block sits. -/
theorem dgate1_blk (R : Fin 8320) (C : Fin 1024) (r : Fin 416) (k : Fin 1024) (h0 : R.val = t.val * 416 + r.val) (h1 : C.val = k.val) :
    k0_pay8 (F := Ideal) (k0_pay1 (grid0.coords t) (iblk m c 0 t) (iblk m c 1 t))
      (k0_pay3 (iblk m c 3 t) (View.ld (iblk m c 6 t) (Rect.unit ![1, 0] ![1, 1024] inb_S2x1024_S1x1024_1_0))) (iblk m c 5 t) (ix2 r k)
      = dgate (m ((c : Thread nD τ).loc main_arg0)) (m ((c : Thread nD τ).loc main_arg1)) (m ((c : Thread nD τ).loc main_arg2))
          (m ((c : Thread nD τ).loc main_arg4)) (m ((c : Thread nD τ).loc main_arg5)) 1 R C := by
  pointwise [k0_pay8]
  rw [dmv_blk m c t R C r k h0 h1, gate1_blk m c t R C r k h0 h1]
  unfold dgate
  rw [mul_assoc (_ * _)]
  refine Ideal.mul_congr (Ideal.mul_congr rfl ?_) ?_
  · blk_point [iblk, V, idx t]
  · rfl

end Points

theorem final7 (c : Dev nD) : (dats m 0 c).arrAt 7 (cfgs 0).N
    = fun j : S8320x1024.Idx => dmv (m ((c : Thread nD τ).loc main_arg0)) (m ((c : Thread nD τ).loc main_arg1)) (j 0) (j 1)
        * gate (m ((c : Thread nD τ).loc main_arg2)) (m ((c : Thread nD τ).loc main_arg5)) 0 (j 0) (j 1) := by
  refine (dats m 0 c).arrAt_eq_of_covers 7 _ (by decide +kernel) fun t _ y => ?_
  blk_simp
  rw [after0_7, outs7]
  pointwise [k0_pay5, k0_pay4]
  rw [eq_ix2 y]
  refine Ideal.mul_congr (dmv_blk m c t _ _ (y 0) (y 1) ?_ ?_) (gate0_blk m c t _ _ (y 0) (y 1) ?_ ?_) <;> blk_simp [idx t] <;> rfl

theorem final8 (c : Dev nD) : (dats m 0 c).arrAt 8 (cfgs 0).N
    = fun j : S8320x1024.Idx => dmv (m ((c : Thread nD τ).loc main_arg0)) (m ((c : Thread nD τ).loc main_arg1)) (j 0) (j 1)
        * gate (m ((c : Thread nD τ).loc main_arg2)) (m ((c : Thread nD τ).loc main_arg5)) 1 (j 0) (j 1) := by
  refine (dats m 0 c).arrAt_eq_of_covers 8 _ (by decide +kernel) fun t _ y => ?_
  blk_simp
  rw [after0_8, outs8]
  pointwise [k0_pay6]
  rw [eq_ix2 y]
  refine Ideal.mul_congr (dmv_blk m c t _ _ (y 0) (y 1) ?_ ?_) (gate1_blk m c t _ _ (y 0) (y 1) ?_ ?_) <;> blk_simp [idx t] <;> rfl

theorem final9 (c : Dev nD) : (dats m 0 c).arrAt 9 (cfgs 0).N
    = fun j : S8320x2048.Idx => if h : (j 1).val < 1024
        then dgate (m ((c : Thread nD τ).loc main_arg0)) (m ((c : Thread nD τ).loc main_arg1)) (m ((c : Thread nD τ).loc main_arg2))
          (m ((c : Thread nD τ).loc main_arg3)) (m ((c : Thread nD τ).loc main_arg5)) 0 (j 0) ⟨(j 1).val, h⟩
        else dgate (m ((c : Thread nD τ).loc main_arg0)) (m ((c : Thread nD τ).loc main_arg1)) (m ((c : Thread nD τ).loc main_arg2))
          (m ((c : Thread nD τ).loc main_arg4)) (m ((c : Thread nD τ).loc main_arg5)) 1 (j 0) ⟨(j 1).val - 1024, by have : (j 1).val < 2048 := (j 1).isLt; omega⟩ := by
  refine (dats m 0 c).arrAt_eq_of_covers 9 _ (by decide +kernel) fun t _ y => ?_
  blk_simp
  rw [after0_9]
  by_cases h0 : t.val % 20 = 0
  · have h1 : ¬ 1 ≤ t.val := by have := lt_of_lt_of_eq t.isLt N_0; omega
    rw [outsAt0_A m c t h0 h1]
    frame_out
    canon_tiles x h
    · blk_simp [idx t]
      rw [dif_neg (by omega)]
      pointwise [k0_pay10]
      exact (congrArg (k0_pay8 (F := Ideal) _ _ _) (eq_ix2 x)).trans (dgate1_blk m c t _ _ (x 0) (x 1) (by blk_simp [idx t]; omega) (by simp only []; omega))
    · blk_simp [idx t]
      rw [dif_pos (by omega)]
      pointwise [k0_pay9]
      exact (congrArg (k0_pay7 (F := Ideal) _ _ _) (eq_ix2 x)).trans (dgate0_blk m c t _ _ (x 0) (x 1) (by blk_simp [idx t]; omega) (by simp only []; omega))
  · rw [outsAt0_B m c t h0 (by omega)]
    frame_out
    canon_tiles x h
    · blk_simp [idx t]
      rw [dif_neg (by omega)]
      pointwise [k0_pay10]
      exact (congrArg (k0_pay8 (F := Ideal) _ _ _) (eq_ix2 x)).trans (dgate1_blk m c t _ _ (x 0) (x 1) (by blk_simp [idx t]; omega) (by simp only []; omega))
    · blk_simp [idx t]
      rw [dif_pos (by omega)]
      pointwise [k0_pay9]
      exact (congrArg (k0_pay7 (F := Ideal) _ _ _) (eq_ix2 x)).trans (dgate0_blk m c t _ _ (x 0) (x 1) (by blk_simp [idx t]; omega) (by simp only []; omega))

/-- One point's contribution to the bias gradient: column sums of the two gates' gradients over the point's rows. -/
theorem part_at (v13 v24 v35 : FVec Ideal S416x1024 .f32) (v42 v49 : Vec Ideal S416x1024 .bf16) (y : S2x1024.Idx) :
    k0_pay11 v13 v24 v35 v42 v49 y = if (y 0).val < 1 then ∑ r : Fin 416, k0_pay7 v13 v24 v42 (ix2 r (y 1))
      else ∑ r : Fin 416, k0_pay8 v13 v35 v49 (ix2 r (y 1)) := by
  pointwise [k0_pay11]
  rfl

/-- What point `t` adds to the bias gradient. -/
noncomputable def part (m : (ℓ : Loc nD τ sig) → Buf (Elt Ideal) ℓ) (c : Dev nD) (t : Fin cfg0.N) : FVec Ideal S2x1024 .f32 :=
  k0_pay11 (F := Ideal) (k0_pay1 (grid0.coords t) (iblk m c 0 t) (iblk m c 1 t))
    (k0_pay2 (iblk m c 2 t) (View.ld (iblk m c 6 t) (Rect.unit ![0, 0] ![1, 1024] inb_S2x1024_S1x1024_0_0)))
    (k0_pay3 (iblk m c 3 t) (View.ld (iblk m c 6 t) (Rect.unit ![1, 0] ![1, 1024] inb_S2x1024_S1x1024_1_0))) (iblk m c 4 t) (iblk m c 5 t)

theorem acc_reset (m : (ℓ : Loc nD τ sig) → Buf (Elt Ideal) ℓ) (c : Dev nD) (t : Fin cfg0.N) (h : t.val % 20 = 0) (y : S2x1024.Idx) :
    (outsAt0 m c t.val t.isLt).2.2.2 y = (fun _ => 0 : S2x1024.Idx → EReal) y + part m c t y := by
  rw [outsAt0_A m c t h (by have := lt_of_lt_of_eq t.isLt N_0; omega)]
  frame_out
  exact (zero_add _).symm

theorem acc_step (m : (ℓ : Loc nD τ sig) → Buf (Elt Ideal) ℓ) (c : Dev nD) (t : Fin cfg0.N) (h : ¬ t.val % 20 = 0) (y : S2x1024.Idx) :
    (outsAt0 m c t.val t.isLt).2.2.2 y
      = (outsAt0 m c (t.val - 1) (Nat.lt_of_le_of_lt (Nat.sub_le _ _) t.isLt)).2.2.2 y + part m c t y := by
  rw [outsAt0_B m c t h (by omega)]
  frame_out
  pointwise [k0_pay12]
  rfl

/-- Column sums of the gates' gradients, in one array of two rows. -/
theorem final10 (c : Dev nD) : (dats m 0 c).arrAt 10 (cfgs 0).N
    = fun j : S2x1024.Idx => if (j 0).val < 1
        then ∑ r : Fin 8320, dgate (m ((c : Thread nD τ).loc main_arg0)) (m ((c : Thread nD τ).loc main_arg1)) (m ((c : Thread nD τ).loc main_arg2))
          (m ((c : Thread nD τ).loc main_arg3)) (m ((c : Thread nD τ).loc main_arg5)) 0 r (j 1)
        else ∑ r : Fin 8320, dgate (m ((c : Thread nD τ).loc main_arg0)) (m ((c : Thread nD τ).loc main_arg1)) (m ((c : Thread nD τ).loc main_arg2))
          (m ((c : Thread nD τ).loc main_arg4)) (m ((c : Thread nD τ).loc main_arg5)) 1 r (j 1) := by
  refine (dats m 0 c).arrAt_eq_of_covers 10 _ (by decide +kernel) fun t hf y => ?_
  blk_simp
  rw [after0_10]
  refine (Pipeline.eq_sum_fin_of_reset_step_apply_of_flush (fun n h => (outsAt0 m c n h).2.2.2) 20 (fun _ => 0) (part m c)
    (acc_reset m c) (acc_step m c) t ((flush0_10 t).mp hf) y).trans ?_
  have hN : t.val < 20 := lt_of_lt_of_eq t.isLt N_0
  rw [zero_add]
  blk_simp [idx t]
  by_cases hy : (y 0).val < 1
  · rw [if_pos (by omega)]
    refine (Finset.sum_congr rfl fun s _ => (part_at _ _ _ _ _ y).trans (if_pos hy)).trans ?_
    refine Fin.sum_mul_add_congr fun s k hl => dgate0_blk m c _ _ _ k (y 1) ?_ ?_
    · simp only []; omega
    · blk_simp [idx t]
  · rw [if_neg (by omega)]
    refine (Finset.sum_congr rfl fun s _ => (part_at _ _ _ _ _ y).trans (if_neg hy)).trans ?_
    refine Fin.sum_mul_add_congr fun s k hl => dgate1_blk m c _ _ _ k (y 1) ?_ ?_
    · simp only []; omega
    · blk_simp [idx t]

end Cert.KernelIdeal.Merge

end
-- ==== Proof.MergeRef.lean ====
/- The gradient of the gated merge and its output projection: what the reference computes, in the same closed forms. -/
module

public import proofs.«01_k».proof.Proof.Merge
public import Idealize.ShloMosaic.Lib.WordCmp

@[expose] public section

set_option maxRecDepth 16384

noncomputable section

namespace Cert.ReferenceIdeal.MergeRef

open Cert.ReferenceIdeal Cert.ReferenceIdeal.Gen Cert.ReferenceIdeal.Read Idealize.ShloMosaic Idealize.ShloMosaic.TcCoe Idealize.SL.Sem
open Cert.KernelIdeal.Merge (dmv gate dgate)

variable (x0 : FVec Ideal S8320x1024 .f32) (x1 : FVec Ideal S1024x1024 .bf16) (x2 : FVec Ideal S8320x2048 .f32)
  (x3 x4 : FVec Ideal S8320x1024 .bf16) (x5 : FVec Ideal S2x1024 .f32)

theorem gate0 (r : Fin 8320) (c : Fin 1024) : val_main_v19 (F := Ideal) x2 x5 (ix2 r c) = gate x2 x5 0 r c := by
  unfold gate
  pointwise [val_main_v19, val_main_v18, val_main_v17, val_main_v16, val_main_v15, val_main_v14, val_main_v13, val_main_v12, val_main_v11,
    val_main_v10, val_main_v9, val_main_v7, val_main_cst, val_main_cst_0]
  rfl

theorem gate1 (r : Fin 8320) (c : Fin 1024) : val_main_v34 (F := Ideal) x2 x5 (ix2 r c) = gate x2 x5 1 r c := by
  unfold gate
  pointwise [val_main_v34, val_main_v33, val_main_v32, val_main_v31, val_main_v30, val_main_v29, val_main_v28, val_main_v27, val_main_v26,
    val_main_v25, val_main_v24, val_main_v8, val_main_cst_2, val_main_cst_3]
  rfl

theorem one_of_true : (FloatOps.uitofp (F := Ideal) FTy.f32 (BitVec.ofBool true) : EReal) = 1 := by
  show (((_ : ℕ) : ℝ) : EReal) = _
  simp

theorem zero_of_false : (FloatOps.uitofp (F := Ideal) FTy.f32 (BitVec.ofBool false) : EReal) = 0 := by
  show (((_ : ℕ) : ℝ) : EReal) = _
  simp

theorem dmv_eq (r : Fin 8320) (c : Fin 1024) : val_main_v46 (F := Ideal) x0 x1 (ix2 r c) = dmv x0 x1 r c := by
  unfold dmv
  pointwise [val_main_v46, val_main_v45, val_main_v44, val_main_v40, val_main_v4, val_main_v3, val_main_v2, val_main_v1, val_main_v0,
    val_main_c]
  rw [show (112#32 : BitVec 32) = BitVec.ofNat 32 112 from rfl, WordCmp.cmpi_sge_ofNat (by omega) (by omega)]
  by_cases h : 112 ≤ r.val
  · rw [if_pos h, decide_eq_true h]
    refine Finset.sum_congr rfl fun k _ => ?_
    refine Ideal.mul_congr ?_ rfl
    exact (Ideal.mul_congr one_of_true rfl).trans (one_mul _)
  · rw [if_neg h, decide_eq_false h]
    refine Finset.sum_eq_zero fun k _ => ?_
    exact (Ideal.mul_congr ((Ideal.mul_congr zero_of_false rfl).trans (zero_mul _)) rfl).trans (zero_mul _)

theorem res7 (j : S8320x1024.Idx) : val_main_v67 (F := Ideal) x0 x1 x2 x5 j = dmv x0 x1 (j 0) (j 1) * gate x2 x5 0 (j 0) (j 1) := by
  obtain ⟨r, c, rfl⟩ : ∃ r c, j = ix2 r c := ⟨j 0, j 1, eq_ix2 j⟩
  pointwise [val_main_v67, val_main_v55]
  rw [gate0, dmv_eq]
  exact mul_comm _ _

theorem res8 (j : S8320x1024.Idx) : val_main_v68 (F := Ideal) x0 x1 x2 x5 j = dmv x0 x1 (j 0) (j 1) * gate x2 x5 1 (j 0) (j 1) := by
  obtain ⟨r, c, rfl⟩ : ∃ r c, j = ix2 r c := ⟨j 0, j 1, eq_ix2 j⟩
  pointwise [val_main_v68, val_main_v47]
  rw [gate1, dmv_eq]
  exact mul_comm _ _

theorem dgate0 (r : Fin 8320) (c : Fin 1024) : val_main_v57 (F := Ideal) x0 x1 x2 x3 x5 (ix2 r c) = dgate x0 x1 x2 x3 x5 0 r c := by
  unfold dgate
  pointwise [val_main_v57, val_main_v56, val_main_v22, val_main_v21, val_main_v20, val_main_cst_1, val_main_v5]
  rw [gate0, dmv_eq]

theorem dgate1 (r : Fin 8320) (c : Fin 1024) : val_main_v49 (F := Ideal) x0 x1 x2 x4 x5 (ix2 r c) = dgate x0 x1 x2 x4 x5 1 r c := by
  unfold dgate
  pointwise [val_main_v49, val_main_v48, val_main_v37, val_main_v36, val_main_v35, val_main_cst_4, val_main_v6]
  rw [gate1, dmv_eq]

theorem res9 (j : S8320x2048.Idx) : val_main_v69 (F := Ideal) x0 x1 x2 x3 x4 x5 j
    = if h : (j 1).val < 1024 then dgate x0 x1 x2 x3 x5 0 (j 0) ⟨(j 1).val, h⟩
      else dgate x0 x1 x2 x4 x5 1 (j 0) ⟨(j 1).val - 1024, by have : (j 1).val < 2048 := (j 1).isLt; omega⟩ := by
  obtain ⟨r, c, rfl⟩ : ∃ r c, j = ix2 r c := ⟨j 0, j 1, eq_ix2 j⟩
  pointwise [val_main_v69, val_main_v66, val_main_v65, val_main_v64, val_main_cst_11, val_main_cst_12]
  by_cases h : c.val < 1024
  · rw [dif_pos h, dif_pos h, dif_neg (by omega), dgate0, zero_add]
  · rw [dif_neg h, dif_neg h, dif_pos ⟨by omega, by omega⟩, dgate1, add_zero]

theorem res10 (j : S2x1024.Idx) : val_main_v63 (F := Ideal) x0 x1 x2 x3 x4 x5 j
    = if (j 0).val < 1 then ∑ r : Fin 8320, dgate x0 x1 x2 x3 x5 0 r (j 1) else ∑ r : Fin 8320, dgate x0 x1 x2 x4 x5 1 r (j 1) := by
  obtain ⟨r, c, rfl⟩ : ∃ r c, j = ix2 r c := ⟨j 0, j 1, eq_ix2 j⟩
  pointwise [val_main_v63, val_main_v62, val_main_v61, val_main_v60, val_main_v59, val_main_v58, val_main_v54, val_main_v53, val_main_v52,
    val_main_v51, val_main_v50, val_main_cst_5, val_main_cst_6, val_main_cst_7, val_main_cst_8, val_main_cst_9, val_main_cst_10]
  by_cases h : r.val < 1
  · rw [dif_pos h, if_pos h, dif_neg (by omega), zero_add, Fin.sum_univ_one]
    exact Finset.sum_congr rfl fun k _ => dgate0 _ _ _ _ _ _ _
  · rw [dif_neg h, if_neg h, dif_pos ⟨by omega, by omega⟩, add_zero, Fin.sum_univ_one]
    exact Finset.sum_congr rfl fun k _ => dgate1 _ _ _ _ _ _ _

end Cert.ReferenceIdeal.MergeRef

end
-- ==== Proof.MergeClaim.lean ====
/- The claims of the gated merge's gradient. -/
module

public import proofs.«01_k».proof.Defs
public import proofs.«01_k».proof.Proof.MergeRef
public import proofs.«01_k».proof.Proof.Gen.ReferenceIdeal.Run
public import Idealize.ShloMosaic.Adequacy
public import Idealize.ShloMosaic.Init

@[expose] public section

noncomputable section

namespace Cert.Merge

open Idealize.ShloMosaic Idealize.ShloMosaic.TcCoe Idealize.SL.Sem

theorem reference_no_semaphore : ∀ s : SemLoc Cert.ReferenceIdeal.sig, False := by decide

/-- The reference runs to the end on every input. -/
theorem reference_frame : Cert.quiescent_ReferenceIdeal := fun m ρ _ =>
  (θ_run _ _ _).mono (fun _ h => ⟨fun c => (h c).2.2.2.2, funext fun s => (reference_no_semaphore s.2).elim⟩)
    (Cert.ReferenceIdeal.Value.run m ρ)

/-- The kernel's four results are the reference's gradients. -/
theorem algebraic : Cert.algebraic_KernelIdeal_ReferenceIdeal := by
  intro m g m' g' _ hag
  refine ⟨_, _, _, _, Cert.KernelIdeal.Value.run_blocks m g, (θ_run _ _ _).mono (fun r h c => ?_) (Cert.ReferenceIdeal.Value.run m' g')⟩
  obtain ⟨e0, e1, e2, e3, e4, e5⟩ := hag c
  obtain ⟨h0, h1, h2, h3, hrest⟩ := h c
  refine ⟨h0.trans ?_, h1.trans ?_, h2.trans ?_, h3.trans ?_, hrest⟩
  · rw [Cert.ReferenceIdeal.Read.val_main_v67_eq, e0, e1, e2, e5]
    exact (funext fun j => Cert.ReferenceIdeal.MergeRef.res7 _ _ _ _ j).trans (Cert.KernelIdeal.Merge.final7 m c).symm
  · rw [Cert.ReferenceIdeal.Read.val_main_v68_eq, e0, e1, e2, e5]
    exact (funext fun j => Cert.ReferenceIdeal.MergeRef.res8 _ _ _ _ j).trans (Cert.KernelIdeal.Merge.final8 m c).symm
  · rw [Cert.ReferenceIdeal.Read.val_main_v69_eq, e0, e1, e2, e3, e4, e5]
    exact (funext fun j => Cert.ReferenceIdeal.MergeRef.res9 _ _ _ _ _ _ j).trans (Cert.KernelIdeal.Merge.final9 m c).symm
  · rw [Cert.ReferenceIdeal.Read.val_main_v63_eq, e0, e1, e2, e3, e4, e5]
    exact (funext fun j => Cert.ReferenceIdeal.MergeRef.res10 _ _ _ _ _ _ j).trans (Cert.KernelIdeal.Merge.final10 m c).symm

end Cert.Merge

end
-- ==== Proof.Rms2.lean ====
/- The gradient of the second normalisation and the two products of the feed-forward's entry: what the kernel leaves in each result. -/
module

public import proofs.«01_k».proof.Proof.Gen.Kernel2Ideal.Value
public import proofs.«01_k».proof.Proof.Gen.Reference2Ideal.Read
public import proofs.«01_k».proof.Proof.Scalars
public import Idealize.ShloMosaic.Lib.Pointwise
public import Idealize.ShloMosaic.Lib.Claim
public import Idealize.ShloMosaic.Lib.Pipeline.ValueKit

@[expose] public section

set_option maxRecDepth 16384

noncomputable section

namespace Cert.Kernel2Ideal.Rms

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The cotangent of the normalised rows: both products' parts. -/
def dy (A0 A1 : FVec Ideal S8320x2816 .bf16) (W : FVec Ideal S1024x5632 .bf16) (r : Fin 8320) (c : Fin 1024) : EReal :=
  (∑ k : Fin 2816, A0 (ix2 r k) * W (ix2 c ⟨k.val, by omega⟩)) + ∑ k : Fin 2816, A1 (ix2 r k) * W (ix2 c ⟨2816 + k.val, by omega⟩)

/-- A row's mean square plus the constant. -/
def ms (X : FVec Ideal S8320x1024 .f32) (r : Fin 8320) : EReal :=
  Ideal.div (∑ k : Fin 1024, X (ix2 r k) * X (ix2 r k)) (Ideal.ofBits .f32 0x44800000#32) + Ideal.ofBits .f32 0x358637BD#32

/-- The gradient of the rows, in the fused form. -/
def dx (A0 A1 : FVec Ideal S8320x2816 .bf16) (W : FVec Ideal S1024x5632 .bf16) (X : FVec Ideal S8320x1024 .f32)
    (N : FVec Ideal S1x1024 .f32) (D : FVec Ideal S8320x1024 .f32) (r : Fin 8320) (c : Fin 1024) : EReal :=
  Ideal.rsqrt (ms X r) * (dy A0 A1 W r c * N (ix2 0 c) - X (ix2 r c) * Ideal.rsqrt (ms X r)
      * Ideal.div (∑ k : Fin 1024, dy A0 A1 W r k * N (ix2 0 k) * (X (ix2 r k) * Ideal.rsqrt (ms X r))) (Ideal.ofBits .f32 0x44800000#32))
    + D (ix2 r c)

/-- One row's part of the gradient of the normalisation's weights. -/
def dw (A0 A1 : FVec Ideal S8320x2816 .bf16) (W : FVec Ideal S1024x5632 .bf16) (X : FVec Ideal S8320x1024 .f32) (r : Fin 8320) (c : Fin 1024) : EReal :=
  dy A0 A1 W r c * (X (ix2 r c) * Ideal.rsqrt (ms X r))

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0] :=
  (by decide +kernel : ∀ t : Fin grid0.N, _)

section Points
variable (c : Dev nD) (t : Fin cfg0.N)

theorem dy_blk (R : Fin 8320) (C : Fin 1024) (r : Fin 416) (k : Fin 1024) (h0 : R.val = t.val * 416 + r.val) (h1 : C.val = k.val) :
    k0_pay3 (F := Ideal) (iblk m c 0 t) (iblk m c 2 t) (iblk m c 1 t) (iblk m c 3 t) (ix2 r k)
      = dy (m ((c : Thread nD τ).loc main_arg0)) (m ((c : Thread nD τ).loc main_arg1)) (m ((c : Thread nD τ).loc main_arg2)) R C := by
  pointwise [k0_pay3, dy]
  blk_point [iblk, V, idx t]

theorem rsqrt_blk (R : Fin 8320) (r : Fin 416) (h0 : R.val = t.val * 416 + r.val) :
    k0_pay4 (F := Ideal) (iblk m c 4 t) (ix2 r 0) = Ideal.rsqrt (ms (m ((c : Thread nD τ).loc main_arg3)) R) := by
  pointwise [k0_pay4, ms]
  blk_point [iblk, V, idx t]

theorem outs7 : (outsAt0 m c t.val t.isLt).1
    = k0_pay6 (iblk m c 0 t) (iblk m c 2 t) (iblk m c 1 t) (iblk m c 3 t) (iblk m c 4 t) (iblk m c 5 t) (iblk m c 6 t) := by
  by_cases h0 : t.val % 20 = 0
  · have h1 : ¬ 1 ≤ t.val := by have := lt_of_lt_of_eq t.isLt N_0; omega
    rw [outsAt0_A m c t h0 h1]
    frame_out
  · rw [outsAt0_B m c t h0 (by omega)]
    frame_out

/-- The rows' gradient, read where the point's block sits. -/
theorem dx_blk (R : Fin 8320) (C : Fin 1024) (r : Fin 416) (k : Fin 1024) (h0 : R.val = t.val * 416 + r.val) (h1 : C.val = k.val) :
    k0_pay6 (F := Ideal) (iblk m c 0 t) (iblk m c 2 t) (iblk m c 1 t) (iblk m c 3 t) (iblk m c 4 t) (iblk m c 5 t) (iblk m c 6 t) (ix2 r k)
      = dx (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) R C := by
  pointwise [k0_pay6, k0_pay5, dx]
  rw [dy_blk m c t R C r k h0 h1, rsqrt_blk m c t R r h0]
  refine Ideal.add_congr (Ideal.mul_congr rfl (congrArg₂ (· - ·) (Ideal.mul_congr rfl ?_) (Ideal.mul_congr (Ideal.mul_congr ?_ rfl) ?_))) ?_
  · blk_point [iblk, V, idx t]
  · blk_point [iblk, V, idx t]
  · refine congrArg₂ Ideal.div (Finset.sum_congr rfl fun q _ => ?_) rfl
    rw [dy_blk m c t R q r q h0 rfl]
    refine Ideal.mul_congr (Ideal.mul_congr rfl ?_) (Ideal.mul_congr ?_ rfl)
    · blk_point [iblk, V, idx t]
    · blk_point [iblk, V, idx t]
  · blk_point [iblk, V, idx t]

/-- One row's part of the weights' gradient, read where the point's block sits. -/
theorem dw_blk (R : Fin 8320) (C : Fin 1024) (r : Fin 416) (k : Fin 1024) (h0 : R.val = t.val * 416 + r.val) (h1 : C.val = k.val) :
    k0_pay3 (F := Ideal) (iblk m c 0 t) (iblk m c 2 t) (iblk m c 1 t) (iblk m c 3 t) (ix2 r k) * k0_pay5 (F := Ideal) (iblk m c 4 t) (ix2 r k)
      = dw (m ((c : Thread nD τ).loc main_arg0)) (m ((c : Thread nD τ).loc main_arg1)) (m ((c : Thread nD τ).loc main_arg2))
          (m ((c : Thread nD τ).loc main_arg3)) R C := by
  rw [dy_blk m c t R C r k h0 h1]
  pointwise [k0_pay5, dw]
  rw [rsqrt_blk m c t R r h0]
  refine Ideal.mul_congr rfl (Ideal.mul_congr ?_ rfl)
  blk_point [iblk, V, idx t]

end Points

/-- The rows' gradient. -/
theorem final7 (c : Dev nD) : (dats m 0 c).arrAt 7 (cfgs 0).N
    = fun j : S8320x1024.Idx => dx (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (j 0) (j 1) := by
  refine (dats m 0 c).arrAt_eq_of_covers 7 _ (by decide +kernel) fun t _ y => ?_
  blk_simp
  rw [after0_7, outs7]
  refine (congrArg (k0_pay6 (F := Ideal) _ _ _ _ _ _ _) (eq_ix2 y)).trans (dx_blk m c t _ _ (y 0) (y 1) ?_ ?_) <;> blk_simp [idx t] <;> rfl

/-- What point `t` adds to the weights' gradient. -/
noncomputable def part (m : (ℓ : Loc nD τ sig) → Buf (Elt Ideal) ℓ) (c : Dev nD) (t : Fin cfg0.N) : FVec Ideal S1x1024 .f32 :=
  k0_pay1 (F := Ideal) (k0_pay3 (iblk m c 0 t) (iblk m c 2 t) (iblk m c 1 t) (iblk m c 3 t)) (k0_pay5 (iblk m c 4 t))

theorem part_at (a b : FVec Ideal S416x1024 .f32) (y : S1x1024.Idx) :
    k0_pay1 (F := Ideal) a b y = ∑ r : Fin 416, a (ix2 r (y 1)) * b (ix2 r (y 1)) := by
  pointwise [k0_pay1]

theorem acc_reset (m : (ℓ : Loc nD τ sig) → Buf (Elt Ideal) ℓ) (c : Dev nD) (t : Fin cfg0.N) (h : t.val % 20 = 0) (y : S1x1024.Idx) :
    (outsAt0 m c t.val t.isLt).2 y = (fun _ => 0 : S1x1024.Idx → EReal) y + part m c t y := by
  rw [outsAt0_A m c t h (by have := lt_of_lt_of_eq t.isLt N_0; omega)]
  frame_out
  exact (zero_add _).symm

theorem acc_step (m : (ℓ : Loc nD τ sig) → Buf (Elt Ideal) ℓ) (c : Dev nD) (t : Fin cfg0.N) (h : ¬ t.val % 20 = 0) (y : S1x1024.Idx) :
    (outsAt0 m c t.val t.isLt).2 y
      = (outsAt0 m c (t.val - 1) (Nat.lt_of_le_of_lt (Nat.sub_le _ _) t.isLt)).2 y + part m c t y := by
  rw [outsAt0_B m c t h (by omega)]
  frame_out
  pointwise [k0_pay2]
  rfl

/-- The weights' gradient: a sum over the rows. -/
theorem final8 (c : Dev nD) : (dats m 0 c).arrAt 8 (cfgs 0).N
    = fun j : S1x1024.Idx => ∑ r : Fin 8320, dw (m ((c : Thread nD τ).loc main_arg0)) (m ((c : Thread nD τ).loc main_arg1))
        (m ((c : Thread nD τ).loc main_arg2)) (m ((c : Thread nD τ).loc main_arg3)) r (j 1) := by
  refine (dats m 0 c).arrAt_eq_of_covers 8 _ (by decide +kernel) fun t hf y => ?_
  blk_simp
  rw [after0_8]
  refine (Pipeline.eq_sum_fin_of_reset_step_apply_of_flush (fun n h => (outsAt0 m c n h).2) 20 (fun _ => 0) (part m c)
    (acc_reset m c) (acc_step m c) t ((flush0_8 t).mp hf) y).trans ?_
  have hN : t.val < 20 := lt_of_lt_of_eq t.isLt N_0
  rw [zero_add]
  refine (Finset.sum_congr rfl fun s _ => part_at _ _ y).trans ?_
  refine Fin.sum_mul_add_congr fun s k hl => dw_blk m c _ _ _ k (y 1) ?_ ?_
  · simp only []; omega
  · blk_simp [idx t]

end Cert.Kernel2Ideal.Rms

end
-- ==== Proof.Rms2Ref.lean ====
/- The gradient of the second normalisation and the two products of the feed-forward's entry: what the reference computes, in the same
   closed forms. -/
module

public import proofs.«01_k».proof.Proof.Rms2

@[expose] public section

set_option maxRecDepth 16384

noncomputable section

namespace Cert.Reference2Ideal.RmsRef

open Cert.Reference2Ideal Cert.Reference2Ideal.Gen Cert.Reference2Ideal.Read Idealize.ShloMosaic Idealize.ShloMosaic.TcCoe Idealize.SL.Sem
open Cert.Kernel2Ideal.Rms (dy ms dx dw)

variable (x0 x1 : FVec Ideal S8320x2816 .bf16) (x2 : FVec Ideal S1024x5632 .bf16) (x3 : FVec Ideal S8320x1024 .f32)
  (x4 : FVec Ideal S1x1024 .f32) (x5 : FVec Ideal S8320x1024 .f32)

theorem ms_eq (r : Fin 8320) : val_main_v6 (F := Ideal) x3 (ix2 r 0) = ms x3 r := by
  pointwise [val_main_v6, val_main_v5, val_main_v4, val_main_v3, val_main_v2, val_main_v1, val_main_v0, val_main_cst, val_main_cst_0,
    val_main_cst_1, ms]

theorem rsqrt_eq (r : Fin 8320) : val_main_v7 (F := Ideal) x3 (ix2 r 0) = Ideal.rsqrt (ms x3 r) := by
  rw [← ms_eq]
  pointwise [val_main_v7]

theorem dy_eq (r : Fin 8320) (c : Fin 1024) : val_main_v24 (F := Ideal) x0 x1 x2 (ix2 r c) = dy x0 x1 x2 r c := by
  unfold dy
  pointwise [val_main_v24, val_main_v23, val_main_v22, val_main_v21, val_main_v20, val_main_v19, val_main_v15, val_main_cst_3, val_main_cst_4]
  refine (Fin.sum_univ_add (a := 2816) (b := 2816) _).trans (Ideal.add_congr (Finset.sum_congr rfl fun k _ => ?_) (Finset.sum_congr rfl fun k _ => ?_))
  · refine Ideal.mul_congr ?_ rfl
    rw [dif_neg (by simp only [Fin.val_castAdd]; omega), dif_pos (by simp only [Fin.val_castAdd]; omega), zero_add]
    rfl
  · refine Ideal.mul_congr ?_ rfl
    rw [dif_pos (by simp only [Fin.val_natAdd]; omega), dif_neg (by simp only [Fin.val_natAdd]; omega), add_zero]
    refine congrArg x1 (congrArg (ix2 r) (Fin.ext ?_))
    simp only [Fin.val_natAdd]; omega

theorem g_eq (r : Fin 8320) (c : Fin 1024) : val_main_v29 (F := Ideal) x0 x1 x2 x4 (ix2 r c) = dy x0 x1 x2 r c * x4 (ix2 0 c) := by
  pointwise [val_main_v29, val_main_v28]
  rw [dy_eq]

theorem t_eq (r : Fin 8320) (c : Fin 1024) : val_main_v40 (F := Ideal) x0 x1 x2 x3 x4 (ix2 r c)
    = Ideal.div ((∑ k : Fin 1024, x3 (ix2 r k) * (dy x0 x1 x2 r k * x4 (ix2 0 k)))
        * (Ideal.ofBits .f32 0xBF000000#32 * Ideal.div (Ideal.rsqrt (ms x3 r)) (ms x3 r))) (Ideal.ofBits .f32 0x44800000#32) := by
  pointwise [val_main_v40, val_main_v39, val_main_v38, val_main_v37, val_main_v36, val_main_v32, val_main_v31, val_main_v30, val_main_v10,
    val_main_v9, val_main_v8, val_main_cst_2, val_main_cst_6, val_main_cst_7, val_main_cst_8]
  simp only [g_eq, ms_eq, rsqrt_eq, Fin.sum_univ_one, zero_add]

theorem res7 (j : S8320x1024.Idx) : val_main_v44 (F := Ideal) x0 x1 x2 x3 x4 x5 j = dx x0 x1 x2 x3 x4 x5 (j 0) (j 1) := by
  obtain ⟨r, c, rfl⟩ : ∃ r c, j = ix2 r c := ⟨j 0, j 1, eq_ix2 j⟩
  pointwise [val_main_v44, val_main_v43, val_main_v42, val_main_v41, val_main_v35, val_main_v34, val_main_v33]
  simp only [g_eq, t_eq, rsqrt_eq]
  exact (Scalars.rms_grad (fun k => x3 (ix2 r k)) (fun k => dy x0 x1 x2 r k * x4 (ix2 0 k)) (x5 (ix2 r c)) (ms x3 r) rfl c).symm

theorem res8 (j : S1x1024.Idx) : val_main_v27 (F := Ideal) x0 x1 x2 x3 j = ∑ r : Fin 8320, dw x0 x1 x2 x3 r (j 1) := by
  obtain ⟨r, c, rfl⟩ : ∃ r c, j = ix2 r c := ⟨j 0, j 1, eq_ix2 j⟩
  pointwise [val_main_v27, val_main_v26, val_main_v25, val_main_v12, val_main_v11, val_main_cst_5]
  simp only [dy_eq, rsqrt_eq, zero_add]
  exact Finset.sum_congr rfl fun k _ => mul_comm _ _

end Cert.Reference2Ideal.RmsRef

end
-- ==== Proof.Rms2Claim.lean ====
/- The claims of the gradient of a normalisation and the products after it. -/
module

public import proofs.«01_k».proof.Defs
public import proofs.«01_k».proof.Proof.Rms2Ref
public import proofs.«01_k».proof.Proof.Gen.Reference2Ideal.Run
public import Idealize.ShloMosaic.Adequacy
public import Idealize.ShloMosaic.Init

@[expose] public section

noncomputable section

namespace Cert.Rms2

open Idealize.ShloMosaic Idealize.ShloMosaic.TcCoe Idealize.SL.Sem

theorem reference_no_semaphore : ∀ s : SemLoc Cert.Reference2Ideal.sig, False := by decide

/-- The reference runs to the end on every input. -/
theorem reference_frame : Cert.quiescent_Reference2Ideal := fun m ρ _ =>
  (θ_run _ _ _).mono (fun _ h => ⟨fun c => (h c).2.2, funext fun s => (reference_no_semaphore s.2).elim⟩)
    (Cert.Reference2Ideal.Value.run m ρ)

/-- The kernel's two results are the reference's gradients. -/
theorem algebraic : Cert.algebraic_Kernel2Ideal_Reference2Ideal := by
  intro m g m' g' _ hag
  refine ⟨_, _, Cert.Kernel2Ideal.Value.run_blocks m g, (θ_run _ _ _).mono (fun r h c => ?_) (Cert.Reference2Ideal.Value.run m' g')⟩
  obtain ⟨e0, e1, e2, e3, e4, e5⟩ := hag c
  obtain ⟨h0, h1, hrest⟩ := h c
  refine ⟨h0.trans ?_, h1.trans ?_, hrest⟩
  · rw [Cert.Reference2Ideal.Read.val_main_v44_eq, e0, e1, e2, e3, e4, e5]
    exact (funext fun j => Cert.Reference2Ideal.RmsRef.res7 _ _ _ _ _ _ j).trans (Cert.Kernel2Ideal.Rms.final7 m c).symm
  · rw [Cert.Reference2Ideal.Read.val_main_v27_eq, e0, e1, e2, e3]
    exact (funext fun j => Cert.Reference2Ideal.RmsRef.res8 _ _ _ _ j).trans (Cert.Kernel2Ideal.Rms.final8 m c).symm

end Cert.Rms2

end
-- ==== Proof.Rms3.lean ====
/- The gradient of the first normalisation and the five products of the mixers' entry: what the kernel leaves in each result. -/
module

public import proofs.«01_k».proof.Proof.Gen.Kernel3Ideal.Value
public import proofs.«01_k».proof.Proof.Gen.Reference3Ideal.Read
public import proofs.«01_k».proof.Proof.Scalars
public import Idealize.ShloMosaic.Lib.Pointwise
public import Idealize.ShloMosaic.Lib.Pipeline.ValueKit

@[expose] public section

set_option maxRecDepth 16384

noncomputable section

namespace Cert.Kernel3Ideal.Rms

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The cotangent of the normalised rows: the five products' parts. -/
def dy (A0 : FVec Ideal S8320x2048 .bf16) (A1 : FVec Ideal S8320x3072 .bf16) (A2 : FVec Ideal S8320x512 .bf16) (A3 : FVec Ideal S8320x1280 .bf16) (A4 : FVec Ideal S8320x2048 .bf16)
     (W0 : FVec Ideal S1024x2048 .bf16) (W1 : FVec Ideal S1024x3072 .bf16) (W2 : FVec Ideal S1024x512 .bf16) (W3 : FVec Ideal S1024x1280 .bf16) (W4 : FVec Ideal S1024x2048 .bf16)
    (r : Fin 8320) (c : Fin 1024) : EReal :=
  (∑ k : Fin 2048, A0 (ix2 r k) * W0 (ix2 c k)) + (∑ k : Fin 3072, A1 (ix2 r k) * W1 (ix2 c k)) + (∑ k : Fin 512, A2 (ix2 r k) * W2 (ix2 c k))
    + (∑ k : Fin 1280, A3 (ix2 r k) * W3 (ix2 c k)) + (∑ k : Fin 2048, A4 (ix2 r k) * W4 (ix2 c k))

/-- A row's mean square plus the constant. -/
def ms (X : FVec Ideal S8320x1024 .f32) (r : Fin 8320) : EReal :=
  Ideal.div (∑ k : Fin 1024, X (ix2 r k) * X (ix2 r k)) (Ideal.ofBits .f32 0x44800000#32) + Ideal.ofBits .f32 0x358637BD#32

/-- The gradient of the rows, in the fused form, from the cotangent `Y` of the normalised rows. -/
def dx (Y : Fin 8320 → Fin 1024 → EReal) (X : FVec Ideal S8320x1024 .f32)
    (N : FVec Ideal S1x1024 .f32) (D : FVec Ideal S8320x1024 .f32) (r : Fin 8320) (c : Fin 1024) : EReal :=
  Ideal.rsqrt (ms X r) * (Y r c * N (ix2 0 c) - X (ix2 r c) * Ideal.rsqrt (ms X r)
      * Ideal.div (∑ k : Fin 1024, Y r k * N (ix2 0 k) * (X (ix2 r k) * Ideal.rsqrt (ms X r))) (Ideal.ofBits .f32 0x44800000#32))
    + D (ix2 r c)

/-- One row's part of the gradient of the normalisation's weights. -/
def dw (Y : Fin 8320 → Fin 1024 → EReal) (X : FVec Ideal S8320x1024 .f32) (r : Fin 8320) (c : Fin 1024) : EReal :=
  Y r c * (X (ix2 r c) * Ideal.rsqrt (ms X r))

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![0, 0] ∧ win0_12.index t = ![t.val, 0] ∧ win0_13.index t = ![t.val, 0] ∧ win0_14.index t = ![0, 0] :=
  (by decide +kernel : ∀ t : Fin grid0.N, _)

/-- The cotangent of the normalised rows, over the arrays the call is given. -/
abbrev dyM (c : Dev nD) : Fin 8320 → Fin 1024 → EReal :=
  dy (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9))

section Points
variable (c : Dev nD) (t : Fin cfg0.N)

theorem dy_blk (R : Fin 8320) (C : Fin 1024) (r : Fin 416) (k : Fin 1024) (h0 : R.val = t.val * 416 + r.val) (h1 : C.val = k.val) :
    k0_pay5 (F := Ideal) (iblk m c 0 t) (iblk m c 5 t) (iblk m c 1 t) (iblk m c 6 t) (iblk m c 2 t) (iblk m c 7 t)
      (iblk m c 3 t) (iblk m c 8 t) (iblk m c 4 t) (iblk m c 9 t) (ix2 r k) = dyM m c R C := by
  pointwise [k0_pay5, dy]
  blk_point [iblk, V, idx t]

theorem rsqrt_blk (R : Fin 8320) (r : Fin 416) (h0 : R.val = t.val * 416 + r.val) :
    k0_pay6 (F := Ideal) (iblk m c 10 t) (ix2 r 0) = Ideal.rsqrt (ms (m ((c : Thread nD τ).loc main_arg10)) R) := by
  pointwise [k0_pay6, ms]
  blk_point [iblk, V, idx t]

theorem outs13 : (outsAt0 m c t.val t.isLt).1
    = k0_pay2 (k0_pay5 (F := Ideal) (iblk m c 0 t) (iblk m c 5 t) (iblk m c 1 t) (iblk m c 6 t) (iblk m c 2 t) (iblk m c 7 t)
      (iblk m c 3 t) (iblk m c 8 t) (iblk m c 4 t) (iblk m c 9 t))
      (iblk m c 10 t) (k0_pay6 (iblk m c 10 t)) (k0_pay7 (iblk m c 10 t)) (iblk m c 11 t) (iblk m c 12 t) := by
  by_cases h0 : t.val % 20 = 0
  · have h1 : ¬ 1 ≤ t.val := by have := lt_of_lt_of_eq t.isLt N_0; omega
    rw [outsAt0_A m c t h0 h1]
    frame_out
  · rw [outsAt0_B m c t h0 (by omega)]
    frame_out

/-- The rows' gradient, read where the point's block sits. -/
theorem dx_blk (R : Fin 8320) (C : Fin 1024) (r : Fin 416) (k : Fin 1024) (h0 : R.val = t.val * 416 + r.val) (h1 : C.val = k.val) :
    k0_pay2 (F := Ideal) (k0_pay5 (F := Ideal) (iblk m c 0 t) (iblk m c 5 t) (iblk m c 1 t) (iblk m c 6 t) (iblk m c 2 t) (iblk m c 7 t)
      (iblk m c 3 t) (iblk m c 8 t) (iblk m c 4 t) (iblk m c 9 t))
      (iblk m c 10 t) (k0_pay6 (iblk m c 10 t)) (k0_pay7 (iblk m c 10 t)) (iblk m c 11 t) (iblk m c 12 t) (ix2 r k)
      = dx (dyM m c) (m ((c : Thread nD τ).loc main_arg10)) (m ((c : Thread nD τ).loc main_arg11)) (m ((c : Thread nD τ).loc main_arg12)) R C := by
  pointwise [k0_pay2, k0_pay1, k0_pay7, dx]
  rw [dy_blk m c t R C r k h0 h1, rsqrt_blk m c t R r h0]
  refine Ideal.add_congr (Ideal.mul_congr rfl (congrArg₂ (· - ·) (Ideal.mul_congr rfl ?_) (Ideal.mul_congr (Ideal.mul_congr ?_ rfl) ?_))) ?_
  · blk_point [iblk, V, idx t]
  · blk_point [iblk, V, idx t]
  · refine congrArg₂ Ideal.div (Finset.sum_congr rfl fun q _ => ?_) rfl
    rw [dy_blk m c t R q r q h0 rfl]
    refine Ideal.mul_congr (Ideal.mul_congr rfl ?_) (Ideal.mul_congr ?_ rfl)
    · blk_point [iblk, V, idx t]
    · blk_point [iblk, V, idx t]
  · blk_point [iblk, V, idx t]

/-- One row's part of the weights' gradient, read where the point's block sits. -/
theorem dw_blk (R : Fin 8320) (C : Fin 1024) (r : Fin 416) (k : Fin 1024) (h0 : R.val = t.val * 416 + r.val) (h1 : C.val = k.val) :
    k0_pay5 (F := Ideal) (iblk m c 0 t) (iblk m c 5 t) (iblk m c 1 t) (iblk m c 6 t) (iblk m c 2 t) (iblk m c 7 t)
      (iblk m c 3 t) (iblk m c 8 t) (iblk m c 4 t) (iblk m c 9 t) (ix2 r k)
      * k0_pay1 (F := Ideal) (iblk m c 10 t) (k0_pay7 (iblk m c 10 t)) (ix2 r k) = dw (dyM m c) (m ((c : Thread nD τ).loc main_arg10)) R C := by
  rw [dy_blk m c t R C r k h0 h1]
  pointwise [k0_pay1, k0_pay7, dw]
  rw [rsqrt_blk m c t R r h0]
  refine Ideal.mul_congr rfl (Ideal.mul_congr ?_ rfl)
  blk_point [iblk, V, idx t]

end Points

/-- The rows' gradient. -/
theorem final13 (c : Dev nD) : (dats m 0 c).arrAt 13 (cfgs 0).N
    = fun j : S8320x1024.Idx => dx (dyM m c) (m ((c : Thread nD τ).loc main_arg10)) (m ((c : Thread nD τ).loc main_arg11)) (m ((c : Thread nD τ).loc main_arg12)) (j 0) (j 1) := by
  refine (dats m 0 c).arrAt_eq_of_covers 13 _ (by decide +kernel) fun t _ y => ?_
  blk_simp
  rw [after0_13, outs13]
  refine (congrArg (k0_pay2 (F := Ideal) _ _ _ _ _ _) (eq_ix2 y)).trans (dx_blk m c t _ _ (y 0) (y 1) ?_ ?_) <;> blk_simp [idx t] <;> rfl

/-- What point `t` adds to the weights' gradient. -/
noncomputable def part (m : (ℓ : Loc nD τ sig) → Buf (Elt Ideal) ℓ) (c : Dev nD) (t : Fin cfg0.N) : FVec Ideal S1x1024 .f32 :=
  k0_pay3 (k0_pay5 (F := Ideal) (iblk m c 0 t) (iblk m c 5 t) (iblk m c 1 t) (iblk m c 6 t) (iblk m c 2 t) (iblk m c 7 t)
      (iblk m c 3 t) (iblk m c 8 t) (iblk m c 4 t) (iblk m c 9 t))
    (iblk m c 10 t) (k0_pay7 (iblk m c 10 t))

theorem part_at (a : FVec Ideal S416x1024 .f32) (b : Vec Ideal S416x1024 .f32) (d : FVec Ideal S416x1024 .f32) (y : S1x1024.Idx) :
    k0_pay3 (F := Ideal) a b d y = ∑ r : Fin 416, a (ix2 r (y 1)) * k0_pay1 (F := Ideal) b d (ix2 r (y 1)) := by
  pointwise [k0_pay3]

theorem acc_reset (m : (ℓ : Loc nD τ sig) → Buf (Elt Ideal) ℓ) (c : Dev nD) (t : Fin cfg0.N) (h : t.val % 20 = 0) (y : S1x1024.Idx) :
    (outsAt0 m c t.val t.isLt).2 y = (fun _ => 0 : S1x1024.Idx → EReal) y + part m c t y := by
  rw [outsAt0_A m c t h (by have := lt_of_lt_of_eq t.isLt N_0; omega)]
  frame_out
  exact (zero_add _).symm

theorem acc_step (m : (ℓ : Loc nD τ sig) → Buf (Elt Ideal) ℓ) (c : Dev nD) (t : Fin cfg0.N) (h : ¬ t.val % 20 = 0) (y : S1x1024.Idx) :
    (outsAt0 m c t.val t.isLt).2 y
      = (outsAt0 m c (t.val - 1) (Nat.lt_of_le_of_lt (Nat.sub_le _ _) t.isLt)).2 y + part m c t y := by
  rw [outsAt0_B m c t h (by omega)]
  frame_out
  pointwise [k0_pay4]
  rfl

/-- The weights' gradient: a sum over the rows. -/
theorem final14 (c : Dev nD) : (dats m 0 c).arrAt 14 (cfgs 0).N
    = fun j : S1x1024.Idx => ∑ r : Fin 8320, dw (dyM m c) (m ((c : Thread nD τ).loc main_arg10)) r (j 1) := by
  refine (dats m 0 c).arrAt_eq_of_covers 14 _ (by decide +kernel) fun t hf y => ?_
  blk_simp
  rw [after0_14]
  refine (Pipeline.eq_sum_fin_of_reset_step_apply_of_flush (fun n h => (outsAt0 m c n h).2) 20 (fun _ => 0) (part m c)
    (acc_reset m c) (acc_step m c) t ((flush0_14 t).mp hf) y).trans ?_
  have hN : t.val < 20 := lt_of_lt_of_eq t.isLt N_0
  rw [zero_add]
  refine (Finset.sum_congr rfl fun s _ => part_at _ _ _ y).trans ?_
  refine Fin.sum_mul_add_congr fun s k hl => dw_blk m c _ _ _ k (y 1) ?_ ?_
  · simp only []; omega
  · blk_simp [idx t]

end Cert.Kernel3Ideal.Rms

end
-- ==== Proof.Rms3Ref.lean ====
/- The gradient of the first normalisation and the five products of the mixers' entry: what the reference computes, in the same
   closed forms. -/
module

public import proofs.«01_k».proof.Proof.Rms3

@[expose] public section

set_option maxRecDepth 16384

noncomputable section

namespace Cert.Reference3Ideal.RmsRef

open Cert.Reference3Ideal Cert.Reference3Ideal.Gen Cert.Reference3Ideal.Read Idealize.ShloMosaic Idealize.ShloMosaic.TcCoe Idealize.SL.Sem
open Cert.Kernel3Ideal.Rms (dy ms dx dw)

variable (x0 : FVec Ideal S8320x2048 .bf16) (x1 : FVec Ideal S8320x3072 .bf16) (x2 : FVec Ideal S8320x512 .bf16) (x3 : FVec Ideal S8320x1280 .bf16) (x4 : FVec Ideal S8320x2048 .bf16)
  (x5 : FVec Ideal S1024x2048 .bf16) (x6 : FVec Ideal S1024x3072 .bf16) (x7 : FVec Ideal S1024x512 .bf16) (x8 : FVec Ideal S1024x1280 .bf16) (x9 : FVec Ideal S1024x2048 .bf16)
  (x10 : FVec Ideal S8320x1024 .f32) (x11 : FVec Ideal S1x1024 .f32) (x12 : FVec Ideal S8320x1024 .f32)

theorem ms_eq (r : Fin 8320) : val_main_v6 (F := Ideal) x10 (ix2 r 0) = ms x10 r := by
  pointwise [val_main_v6, val_main_v5, val_main_v4, val_main_v3, val_main_v2, val_main_v1, val_main_v0, val_main_cst, val_main_cst_0,
    val_main_cst_1, ms]

theorem rsqrt_eq (r : Fin 8320) : val_main_v7 (F := Ideal) x10 (ix2 r 0) = Ideal.rsqrt (ms x10 r) := by
  rw [← ms_eq]
  pointwise [val_main_v7]

theorem dy_eq (r : Fin 8320) (c : Fin 1024) : val_main_v38 (F := Ideal) x0 x1 x2 x3 x4 x5 x6 x7 x8 x9 (ix2 r c) = dy x0 x1 x2 x3 x4 x5 x6 x7 x8 x9 r c := by
  unfold dy
  pointwise [val_main_v38, val_main_v37, val_main_v36, val_main_v35, val_main_v34, val_main_v33, val_main_v32, val_main_v31, val_main_v30,
    val_main_v29, val_main_v28, val_main_v27, val_main_v26, val_main_v25, val_main_v23, val_main_v21, val_main_v19, val_main_v17, val_main_v15]
  ac_rfl

theorem g_eq (r : Fin 8320) (c : Fin 1024) : val_main_v43 (F := Ideal) x0 x1 x2 x3 x4 x5 x6 x7 x8 x9 x11 (ix2 r c)
    = dy x0 x1 x2 x3 x4 x5 x6 x7 x8 x9 r c * x11 (ix2 0 c) := by
  pointwise [val_main_v43, val_main_v42]
  rw [dy_eq]

theorem t_eq (r : Fin 8320) (c : Fin 1024) : val_main_v54 (F := Ideal) x0 x1 x2 x3 x4 x5 x6 x7 x8 x9 x10 x11 (ix2 r c)
    = Ideal.div ((∑ k : Fin 1024, x10 (ix2 r k) * (dy x0 x1 x2 x3 x4 x5 x6 x7 x8 x9 r k * x11 (ix2 0 k)))
        * (Ideal.ofBits .f32 0xBF000000#32 * Ideal.div (Ideal.rsqrt (ms x10 r)) (ms x10 r))) (Ideal.ofBits .f32 0x44800000#32) := by
  pointwise [val_main_v54, val_main_v53, val_main_v52, val_main_v51, val_main_v50, val_main_v46, val_main_v45, val_main_v44, val_main_v10,
    val_main_v9, val_main_v8, val_main_cst_2, val_main_cst_4, val_main_cst_5, val_main_cst_6]
  simp only [g_eq, ms_eq, rsqrt_eq, Fin.sum_univ_one, zero_add]

theorem res13 (j : S8320x1024.Idx) : val_main_v58 (F := Ideal) x0 x1 x2 x3 x4 x5 x6 x7 x8 x9 x10 x11 x12 j
    = dx (dy x0 x1 x2 x3 x4 x5 x6 x7 x8 x9) x10 x11 x12 (j 0) (j 1) := by
  obtain ⟨r, c, rfl⟩ : ∃ r c, j = ix2 r c := ⟨j 0, j 1, eq_ix2 j⟩
  pointwise [val_main_v58, val_main_v57, val_main_v56, val_main_v55, val_main_v49, val_main_v48, val_main_v47]
  simp only [g_eq, t_eq, rsqrt_eq]
  exact (Scalars.rms_grad (fun k => x10 (ix2 r k)) (fun k => dy x0 x1 x2 x3 x4 x5 x6 x7 x8 x9 r k * x11 (ix2 0 k)) (x12 (ix2 r c)) (ms x10 r) rfl c).symm

theorem res14 (j : S1x1024.Idx) : val_main_v41 (F := Ideal) x0 x1 x2 x3 x4 x5 x6 x7 x8 x9 x10 j
    = ∑ r : Fin 8320, dw (dy x0 x1 x2 x3 x4 x5 x6 x7 x8 x9) x10 r (j 1) := by
  obtain ⟨r, c, rfl⟩ : ∃ r c, j = ix2 r c := ⟨j 0, j 1, eq_ix2 j⟩
  pointwise [val_main_v41, val_main_v40, val_main_v39, val_main_v12, val_main_v11, val_main_cst_3]
  simp only [dy_eq, rsqrt_eq, zero_add]
  exact Finset.sum_congr rfl fun k _ => mul_comm _ _

end Cert.Reference3Ideal.RmsRef

end
-- ==== Proof.Rms3Claim.lean ====
/- The claims of the gradient of a normalisation and the products after it. -/
module

public import proofs.«01_k».proof.Defs
public import proofs.«01_k».proof.Proof.Rms3Ref
public import proofs.«01_k».proof.Proof.Gen.Reference3Ideal.Run
public import Idealize.ShloMosaic.Adequacy
public import Idealize.ShloMosaic.Init

@[expose] public section

noncomputable section

namespace Cert.Rms3

open Idealize.ShloMosaic Idealize.ShloMosaic.TcCoe Idealize.SL.Sem

theorem reference_no_semaphore : ∀ s : SemLoc Cert.Reference3Ideal.sig, False := by decide

/-- The reference runs to the end on every input. -/
theorem reference_frame : Cert.quiescent_Reference3Ideal := fun m ρ _ =>
  (θ_run _ _ _).mono (fun _ h => ⟨fun c => (h c).2.2, funext fun s => (reference_no_semaphore s.2).elim⟩)
    (Cert.Reference3Ideal.Value.run m ρ)

/-- The kernel's two results are the reference's gradients. -/
theorem algebraic : Cert.algebraic_Kernel3Ideal_Reference3Ideal := by
  intro m g m' g' _ hag
  refine ⟨_, _, Cert.Kernel3Ideal.Value.run_blocks m g, (θ_run _ _ _).mono (fun r h c => ?_) (Cert.Reference3Ideal.Value.run m' g')⟩
  obtain ⟨e0, e1, e2, e3, e4, e5, e6, e7, e8, e9, e10, e11, e12⟩ := hag c
  obtain ⟨h0, h1, hrest⟩ := h c
  refine ⟨h0.trans ?_, h1.trans ?_, hrest⟩
  · rw [Cert.Reference3Ideal.Read.val_main_v58_eq, e0, e1, e2, e3, e4, e5, e6, e7, e8, e9, e10, e11, e12]
    exact (funext fun j => Cert.Reference3Ideal.RmsRef.res13 _ _ _ _ _ _ _ _ _ _ _ _ _ j).trans (Cert.Kernel3Ideal.Rms.final13 m c).symm
  · rw [Cert.Reference3Ideal.Read.val_main_v41_eq, e0, e1, e2, e3, e4, e5, e6, e7, e8, e9, e10]
    exact (funext fun j => Cert.Reference3Ideal.RmsRef.res14 _ _ _ _ _ _ _ _ _ _ _ j).trans (Cert.Kernel3Ideal.Rms.final14 m c).symm

end Cert.Rms3

end
-- ==== Proof.Prod4.lean ====
/- The gradient of one half of the feed-forward's entry weights: a product over the rows, gathered in four steps. -/
module

public import proofs.«01_k».proof.Proof.Gen.Kernel4Ideal.Value
public import proofs.«01_k».proof.Proof.Gen.Reference4Ideal.Run
public import proofs.«01_k».proof.Proof.Gen.Reference4Ideal.Read
public import proofs.«01_k».proof.Defs
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.Kernel4Ideal.Prod

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- An entry of the product: the sum over the rows. -/
def prod (A : FVec Ideal S8320x1024 .bf16) (B : FVec Ideal S8320x2816 .bf16) (p : Fin 1024) (q : Fin 2816) : EReal :=
  ∑ r : Fin 8320, A (ix2 r p) * B (ix2 r q)

theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- What point `t` adds to the sum. -/
def part (t : Fin cfg0.N) : FVec Ideal S1024x1408 .f32 := k0_pay1 (F := Ideal) (iblk m c 1 t) (iblk m c 0 t)

theorem part_at (a : FVec Ideal S2080x1024 .bf16) (b : FVec Ideal S2080x1408 .bf16) (p : Fin 1024) (q : Fin 1408) :
    k0_pay1 (F := Ideal) b a (ix2 p q) = ∑ l : Fin 2080, a (ix2 l p) * b (ix2 l q) := by
  pointwise [k0_pay1]

theorem acc_reset (t : Fin cfg0.N) (h : t.val % 4 = 0) (y : S1024x1408.Idx) :
    (outsAt0 m c t.val t.isLt).2 y = (fun _ => 0 : S1024x1408.Idx → EReal) y + part m c t y := by
  rw [outsAt0_A m c t h (by have := lt_of_lt_of_eq t.isLt N_0; omega) (by omega)]
  frame_out
  pointwise [k0_pay2, part]

theorem acc_step (t : Fin cfg0.N) (h : ¬ t.val % 4 = 0) (y : S1024x1408.Idx) :
    (outsAt0 m c t.val t.isLt).2 y
      = (outsAt0 m c (t.val - 1) (Nat.lt_of_le_of_lt (Nat.sub_le _ _) t.isLt)).2 y + part m c t y := by
  by_cases h2 : t.val % 4 = 3
  · rw [outsAt0_C m c t h (by omega) h2]
    frame_out
    pointwise [k0_pay3, part]
    rw [read_unread_whole]
  · rw [outsAt0_B m c t h (by omega) h2]
    frame_out
    pointwise [k0_pay3, part]
    rw [read_unread_whole]

/-- At the last step the block stored is the sum. -/
theorem out_eq (t : Fin cfg0.N) (h : t.val % 4 = 3) (y : S1024x1408.Idx) :
    (outsAt0 m c t.val t.isLt).1 y = (outsAt0 m c t.val t.isLt).2 y := by
  rw [outsAt0_C m c t (by omega) (by omega) h]
  frame_out
  pointwise [k0_pay4]

theorem final2 : (dats m 0 c).arrAt 2 (cfgs 0).N
    = fun j : S1024x2816.Idx => prod (m ((c : Thread nD τ).loc main_arg0)) (m ((c : Thread nD τ).loc main_arg1)) (j 0) (j 1) := by
  refine (dats m 0 c).arrAt_eq_of_covers 2 _ (by decide +kernel) fun t hf y => ?_
  blk_simp
  have ht := (flush0_2 t).mp hf
  rw [after0_2, out_eq m c t ht]
  refine (Pipeline.eq_sum_fin_of_reset_step_apply_of_flush (fun n h => (outsAt0 m c n h).2) 4 (fun _ => 0) (part m c)
    (acc_reset m c) (acc_step m c) t ht y).trans ?_
  have hN : t.val < 8 := lt_of_lt_of_eq t.isLt N_0
  rw [zero_add]
  refine (Finset.sum_congr rfl fun s _ => (congrArg (part m c _) (eq_ix2 y)).trans (part_at _ _ (y 0) (y 1))).trans ?_
  refine Fin.sum_mul_add_congr fun s k hl => Ideal.mul_congr ?_ ?_
  · blk_point [iblk, V, idx]
  · blk_point [iblk, V, idx]

end Cert.Kernel4Ideal.Prod

namespace Cert.Reference4Ideal.ProdRef

open Cert.Reference4Ideal Cert.Reference4Ideal.Read Idealize.ShloMosaic

theorem res (x0 : FVec Ideal S8320x1024 .bf16) (x1 : FVec Ideal S8320x2816 .bf16) (j : S1024x2816.Idx) :
    val_main_v6 (F := Ideal) x0 x1 j = Cert.Kernel4Ideal.Prod.prod x0 x1 (j 0) (j 1) := by
  pointwise [val_main_v6, val_main_v5, val_main_v4, val_main_v3, val_main_v1, Cert.Kernel4Ideal.Prod.prod]
  exact Finset.sum_congr rfl fun r _ => mul_comm _ _

end Cert.Reference4Ideal.ProdRef

namespace Cert.Prod4

open Idealize.ShloMosaic Idealize.ShloMosaic.TcCoe Idealize.SL.Sem

theorem reference_no_semaphore : ∀ s : SemLoc Cert.Reference4Ideal.sig, False := by decide

theorem reference_frame : Cert.quiescent_Reference4Ideal := fun m ρ _ =>
  (θ_run _ _ _).mono (fun _ h => ⟨fun c => (h c).2, funext fun s => (reference_no_semaphore s.2).elim⟩)
    (Cert.Reference4Ideal.Value.run m ρ)

theorem algebraic : Cert.algebraic_Kernel4Ideal_Reference4Ideal := by
  intro m g m' g' _ hag
  refine ⟨_, Cert.Kernel4Ideal.Value.run_blocks m g, (θ_run _ _ _).mono (fun r h c => ?_) (Cert.Reference4Ideal.Value.run m' g')⟩
  obtain ⟨e0, e1⟩ := hag c
  obtain ⟨h0, hrest⟩ := h c
  refine ⟨h0.trans ?_, hrest⟩
  rw [Cert.Reference4Ideal.Read.val_main_v6_eq, e0, e1]
  exact (funext fun j => Cert.Reference4Ideal.ProdRef.res _ _ j).trans (Cert.Kernel4Ideal.Prod.final2 m c).symm

end Cert.Prod4

end
-- ==== Proof.Prod5.lean ====
/- The gradient of the feed-forward's exit weights: a product over the rows past the padding. -/
module

public import proofs.«01_k».proof.Proof.Gen.Kernel5Ideal.Value
public import proofs.«01_k».proof.Proof.Gen.Reference5Ideal.Run
public import proofs.«01_k».proof.Proof.Gen.Reference5Ideal.Read
public import proofs.«01_k».proof.Defs
public import Idealize.ShloMosaic.Lib.Pointwise
public import Idealize.ShloMosaic.Lib.WordCmp
public import Idealize.ShloMosaic.Lib.Claim
public import Idealize.ShloMosaic.Lib.Pipeline.ValueKit
public import Idealize.ShloMosaic.Lib.Pipeline.ReadBack

@[expose] public section

set_option maxRecDepth 16384

noncomputable section

namespace Cert.Kernel5Ideal.Prod

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- An entry of the product: the sum over the rows. -/
def prod (A : FVec Ideal S8320x2816 .bf16) (B : FVec Ideal S8320x1024 .bf16) (p : Fin 2816) (q : Fin 1024) : EReal :=
  ∑ r : Fin 8320, if 112 ≤ r.val then A (ix2 r p) * B (ix2 r q) else 0

theorem idx : ∀ t : Fin cfg0.N, win0_0.index t = ![t.val % 4, t.val / 4] ∧ win0_1.index t = ![t.val % 4, 0]
    ∧ win0_2.index t = ![t.val / 4, 0] ∧ (grid0.coords t 2).val = t.val % 4 :=
  (by decide +kernel : ∀ t : Fin grid0.N, _)

/-- What point `t` adds to the sum. -/
def part (t : Fin cfg0.N) : FVec Ideal S1408x1024 .f32 := k0_pay1 (F := Ideal) (grid0.coords t) (iblk m c 1 t) (iblk m c 0 t)

/-- The bit of a row's mask, at a step and a row of it. -/
theorem mask_at (a : ℕ) (ha : a < 4) (r : Fin 2080) (x : EReal) :
    Scalar.select (IntOp.cmpi CmpIPredicate.sge (IntOp.addi (Scalar.muli (BitVec.ofNat 32 a) 2080#32) (BitVec.ofNat 32 ↑r)) 112#32) x 0
      = if 112 ≤ a * 2080 + r.val then x else 0 := by
  have hw := r.isLt
  have he : IntOp.cmpi CmpIPredicate.sge (IntOp.addi (Scalar.muli (BitVec.ofNat 32 a) 2080#32) (BitVec.ofNat 32 ↑r)) 112#32
      = BitVec.ofBool (decide (112 ≤ a * 2080 + r.val)) := by
    unfold Scalar.muli
    rw [WordCmp.muli_ofNat, WordCmp.addi_ofNat, WordCmp.cmpi_sge_ofNat (by omega) (by omega)]
  rw [he]
  by_cases h : 112 ≤ a * 2080 + r.val
  · rw [if_pos h, decide_eq_true h]; rfl
  · rw [if_neg h, decide_eq_false h]; rfl

theorem part_at (i : grid0.Coords) (a : FVec Ideal S2080x1408 .bf16) (b : FVec Ideal S2080x1024 .bf16) (p : Fin 1408) (q : Fin 1024) :
    k0_pay1 (F := Ideal) i b a (ix2 p q) = ∑ l : Fin 2080, (if 112 ≤ (i 2).val * 2080 + l.val then a (ix2 l p) * b (ix2 l q) else 0) := by
  pointwise [k0_pay1]
  exact Finset.sum_congr rfl fun l _ => mask_at (i 2).val (i 2).isLt l _

theorem acc_reset (t : Fin cfg0.N) (h : t.val % 4 = 0) (y : S1408x1024.Idx) :
    (outsAt0 m c t.val t.isLt).2 y = (fun _ => 0 : S1408x1024.Idx → EReal) y + part m c t y := by
  rw [outsAt0_A m c t h (by have := lt_of_lt_of_eq t.isLt N_0; omega) (by omega)]
  frame_out
  pointwise [k0_pay2, part]

theorem acc_step (t : Fin cfg0.N) (h : ¬ t.val % 4 = 0) (y : S1408x1024.Idx) :
    (outsAt0 m c t.val t.isLt).2 y
      = (outsAt0 m c (t.val - 1) (Nat.lt_of_le_of_lt (Nat.sub_le _ _) t.isLt)).2 y + part m c t y := by
  by_cases h2 : t.val % 4 = 3
  · rw [outsAt0_C m c t h (by omega) h2]
    frame_out
    pointwise [k0_pay3, part]
    rw [read_unread_whole]
  · rw [outsAt0_B m c t h (by omega) h2]
    frame_out
    pointwise [k0_pay3, part]
    rw [read_unread_whole]

/-- At the last step the block stored is the sum. -/
theorem out_eq (t : Fin cfg0.N) (h : t.val % 4 = 3) (y : S1408x1024.Idx) :
    (outsAt0 m c t.val t.isLt).1 y = (outsAt0 m c t.val t.isLt).2 y := by
  rw [outsAt0_C m c t (by omega) (by omega) h]
  frame_out
  pointwise [k0_pay4]

theorem final2 : (dats m 0 c).arrAt 2 (cfgs 0).N
    = fun j : S2816x1024.Idx => prod (m ((c : Thread nD τ).loc main_arg0)) (m ((c : Thread nD τ).loc main_arg1)) (j 0) (j 1) := by
  refine (dats m 0 c).arrAt_eq_of_covers 2 _ (by decide +kernel) fun t hf y => ?_
  blk_simp
  have ht := (flush0_2 t).mp hf
  rw [after0_2, out_eq m c t ht]
  refine (Pipeline.eq_sum_fin_of_reset_step_apply_of_flush (fun n h => (outsAt0 m c n h).2) 4 (fun _ => 0) (part m c)
    (acc_reset m c) (acc_step m c) t ht y).trans ?_
  have hN : t.val < 8 := lt_of_lt_of_eq t.isLt N_0
  rw [zero_add]
  refine (Finset.sum_congr rfl fun s _ => (congrArg (part m c _) (eq_ix2 y)).trans (part_at _ _ _ (y 0) (y 1))).trans ?_
  refine Fin.sum_mul_add_congr fun s k hl => ?_
  rw [(idx _).2.2.2]
  refine if_congr (by simp only []; omega) (Ideal.mul_congr ?_ ?_) rfl
  · blk_point [iblk, V, idx]
  · blk_point [iblk, V, idx]

end Cert.Kernel5Ideal.Prod

namespace Cert.Reference5Ideal.ProdRef

open Cert.Reference5Ideal Cert.Reference5Ideal.Read Idealize.ShloMosaic

theorem one_of_true : (FloatOps.uitofp (F := Ideal) FTy.f32 (BitVec.ofBool true) : EReal) = 1 := by
  show (((_ : ℕ) : ℝ) : EReal) = _
  simp

theorem zero_of_false : (FloatOps.uitofp (F := Ideal) FTy.f32 (BitVec.ofBool false) : EReal) = 0 := by
  show (((_ : ℕ) : ℝ) : EReal) = _
  simp

theorem res (x0 : FVec Ideal S8320x2816 .bf16) (x1 : FVec Ideal S8320x1024 .bf16) (j : S2816x1024.Idx) :
    val_main_v15 (F := Ideal) x0 x1 j = Cert.Kernel5Ideal.Prod.prod x0 x1 (j 0) (j 1) := by
  pointwise [val_main_v15, val_main_v14, val_main_v13, val_main_v12, val_main_v11, val_main_v10, val_main_v6, val_main_v4, val_main_v3, val_main_v2, val_main_v1, val_main_v0, val_main_c]
  unfold Cert.Kernel5Ideal.Prod.prod
  refine Finset.sum_congr rfl fun r _ => ?_
  rw [show (112#32 : BitVec 32) = BitVec.ofNat 32 112 from rfl, WordCmp.cmpi_sge_ofNat (by omega) (by omega)]
  by_cases h : 112 ≤ r.val
  · rw [if_pos h, decide_eq_true h]
    exact (Ideal.mul_congr ((Ideal.mul_congr one_of_true rfl).trans (one_mul _)) rfl).trans (mul_comm _ _)
  · rw [if_neg h, decide_eq_false h]
    exact (Ideal.mul_congr ((Ideal.mul_congr zero_of_false rfl).trans (zero_mul _)) rfl).trans (zero_mul _)

end Cert.Reference5Ideal.ProdRef

namespace Cert.Prod5

open Idealize.ShloMosaic Idealize.ShloMosaic.TcCoe Idealize.SL.Sem

theorem reference_no_semaphore : ∀ s : SemLoc Cert.Reference5Ideal.sig, False := by decide

theorem reference_frame : Cert.quiescent_Reference5Ideal := fun m ρ _ =>
  (θ_run _ _ _).mono (fun _ h => ⟨fun c => (h c).2, funext fun s => (reference_no_semaphore s.2).elim⟩)
    (Cert.Reference5Ideal.Value.run m ρ)

theorem algebraic : Cert.algebraic_Kernel5Ideal_Reference5Ideal := by
  intro m g m' g' _ hag
  refine ⟨_, Cert.Kernel5Ideal.Value.run_blocks m g, (θ_run _ _ _).mono (fun r h c => ?_) (Cert.Reference5Ideal.Value.run m' g')⟩
  obtain ⟨e0, e1⟩ := hag c
  obtain ⟨h0, hrest⟩ := h c
  refine ⟨h0.trans ?_, hrest⟩
  rw [Cert.Reference5Ideal.Read.val_main_v15_eq, e0, e1]
  exact (funext fun j => Cert.Reference5Ideal.ProdRef.res _ _ j).trans (Cert.Kernel5Ideal.Prod.final2 m c).symm

end Cert.Prod5

end
-- ==== Proof.Prod6.lean ====
/- The gradient of the entry weights' segment of a gate: a product over the rows, gathered in five steps. -/
module

public import proofs.«01_k».proof.Proof.Gen.Kernel6Ideal.Value
public import proofs.«01_k».proof.Proof.Gen.Reference6Ideal.Run
public import proofs.«01_k».proof.Proof.Gen.Reference6Ideal.Read
public import proofs.«01_k».proof.Defs
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.Kernel6Ideal.Prod

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- An entry of the product: the sum over the rows. -/
def prod (A : FVec Ideal S8320x1024 .bf16) (B : FVec Ideal S8320x2048 .bf16) (p : Fin 1024) (q : Fin 2048) : EReal :=
  ∑ r : Fin 8320, A (ix2 r p) * B (ix2 r q)

theorem idx : ∀ t : Fin cfg0.N, win0_0.index t = ![t.val % 5, 0] ∧ win0_1.index t = ![t.val % 5, 0]
    ∧ win0_2.index t = ![0, 0] :=
  (by decide +kernel : ∀ t : Fin grid0.N, _)

/-- What point `t` adds to the sum. -/
def part (t : Fin cfg0.N) : FVec Ideal S1024x2048 .f32 := k0_pay1 (F := Ideal) (iblk m c 1 t) (iblk m c 0 t)

theorem part_at (a : FVec Ideal S1664x1024 .bf16) (b : FVec Ideal S1664x2048 .bf16) (p : Fin 1024) (q : Fin 2048) :
    k0_pay1 (F := Ideal) b a (ix2 p q) = ∑ l : Fin 1664, a (ix2 l p) * b (ix2 l q) := by
  pointwise [k0_pay1]

theorem acc_reset (t : Fin cfg0.N) (h : t.val % 5 = 0) (y : S1024x2048.Idx) :
    (outsAt0 m c t.val t.isLt).2 y = (fun _ => 0 : S1024x2048.Idx → EReal) y + part m c t y := by
  rw [outsAt0_A m c t h (by have := lt_of_lt_of_eq t.isLt N_0; omega) (by omega)]
  frame_out
  pointwise [k0_pay2, part]

theorem acc_step (t : Fin cfg0.N) (h : ¬ t.val % 5 = 0) (y : S1024x2048.Idx) :
    (outsAt0 m c t.val t.isLt).2 y
      = (outsAt0 m c (t.val - 1) (Nat.lt_of_le_of_lt (Nat.sub_le _ _) t.isLt)).2 y + part m c t y := by
  by_cases h2 : t.val % 5 = 4
  · rw [outsAt0_C m c t h (by omega) h2]
    frame_out
    pointwise [k0_pay3, part]
    rw [read_unread_whole]
  · rw [outsAt0_B m c t h (by omega) h2]
    frame_out
    pointwise [k0_pay3, part]
    rw [read_unread_whole]

/-- At the last step the block stored is the sum. -/
theorem out_eq (t : Fin cfg0.N) (h : t.val % 5 = 4) (y : S1024x2048.Idx) :
    (outsAt0 m c t.val t.isLt).1 y = (outsAt0 m c t.val t.isLt).2 y := by
  rw [outsAt0_C m c t (by omega) (by omega) h]
  frame_out
  pointwise [k0_pay4]

theorem final2 : (dats m 0 c).arrAt 2 (cfgs 0).N
    = fun j : S1024x2048.Idx => prod (m ((c : Thread nD τ).loc main_arg0)) (m ((c : Thread nD τ).loc main_arg1)) (j 0) (j 1) := by
  refine (dats m 0 c).arrAt_eq_of_covers 2 _ (by decide +kernel) fun t hf y => ?_
  blk_simp
  have ht := (flush0_2 t).mp hf
  rw [after0_2, out_eq m c t ht]
  refine (Pipeline.eq_sum_fin_of_reset_step_apply_of_flush (fun n h => (outsAt0 m c n h).2) 5 (fun _ => 0) (part m c)
    (acc_reset m c) (acc_step m c) t ht y).trans ?_
  have hN : t.val < 5 := lt_of_lt_of_eq t.isLt N_0
  rw [zero_add]
  refine (Finset.sum_congr rfl fun s _ => (congrArg (part m c _) (eq_ix2 y)).trans (part_at _ _ (y 0) (y 1))).trans ?_
  refine Fin.sum_mul_add_congr fun s k hl => Ideal.mul_congr ?_ ?_
  · blk_point [iblk, V, idx]
  · blk_point [iblk, V, idx]

end Cert.Kernel6Ideal.Prod

namespace Cert.Reference6Ideal.ProdRef

open Cert.Reference6Ideal Cert.Reference6Ideal.Read Idealize.ShloMosaic

theorem res (x0 : FVec Ideal S8320x1024 .bf16) (x1 : FVec Ideal S8320x2048 .bf16) (j : S1024x2048.Idx) :
    val_main_v6 (F := Ideal) x0 x1 j = Cert.Kernel6Ideal.Prod.prod x0 x1 (j 0) (j 1) := by
  pointwise [val_main_v6, val_main_v5, val_main_v4, val_main_v3, val_main_v1, Cert.Kernel6Ideal.Prod.prod]
  exact Finset.sum_congr rfl fun r _ => mul_comm _ _

end Cert.Reference6Ideal.ProdRef

namespace Cert.Prod6

open Idealize.ShloMosaic Idealize.ShloMosaic.TcCoe Idealize.SL.Sem

theorem reference_no_semaphore : ∀ s : SemLoc Cert.Reference6Ideal.sig, False := by decide

theorem reference_frame : Cert.quiescent_Reference6Ideal := fun m ρ _ =>
  (θ_run _ _ _).mono (fun _ h => ⟨fun c => (h c).2, funext fun s => (reference_no_semaphore s.2).elim⟩)
    (Cert.Reference6Ideal.Value.run m ρ)

theorem algebraic : Cert.algebraic_Kernel6Ideal_Reference6Ideal := by
  intro m g m' g' _ hag
  refine ⟨_, Cert.Kernel6Ideal.Value.run_blocks m g, (θ_run _ _ _).mono (fun r h c => ?_) (Cert.Reference6Ideal.Value.run m' g')⟩
  obtain ⟨e0, e1⟩ := hag c
  obtain ⟨h0, hrest⟩ := h c
  refine ⟨h0.trans ?_, hrest⟩
  rw [Cert.Reference6Ideal.Read.val_main_v6_eq, e0, e1]
  exact (funext fun j => Cert.Reference6Ideal.ProdRef.res _ _ j).trans (Cert.Kernel6Ideal.Prod.final2 m c).symm

end Cert.Prod6

end
-- ==== Proof.Prod7.lean ====
/- The gradient of the entry weights' segment of the convolved columns: a product over the rows. -/
module

public import proofs.«01_k».proof.Proof.Gen.Kernel7Ideal.Value
public import proofs.«01_k».proof.Proof.Gen.Reference7Ideal.Run
public import proofs.«01_k».proof.Proof.Gen.Reference7Ideal.Read
public import proofs.«01_k».proof.Defs
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.Kernel7Ideal.Prod

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- An entry of the product: the sum over the rows. -/
def prod (A : FVec Ideal S8320x1024 .bf16) (B : FVec Ideal S8320x3072 .bf16) (p : Fin 1024) (q : Fin 3072) : EReal :=
  ∑ r : Fin 8320, A (ix2 r p) * B (ix2 r q)

theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- What point `t` adds to the sum. -/
def part (t : Fin cfg0.N) : FVec Ideal S1024x1536 .f32 := k0_pay1 (F := Ideal) (iblk m c 1 t) (iblk m c 0 t)

theorem part_at (a : FVec Ideal S2080x1024 .bf16) (b : FVec Ideal S2080x1536 .bf16) (p : Fin 1024) (q : Fin 1536) :
    k0_pay1 (F := Ideal) b a (ix2 p q) = ∑ l : Fin 2080, a (ix2 l p) * b (ix2 l q) := by
  pointwise [k0_pay1]

theorem acc_reset (t : Fin cfg0.N) (h : t.val % 4 = 0) (y : S1024x1536.Idx) :
    (outsAt0 m c t.val t.isLt).2 y = (fun _ => 0 : S1024x1536.Idx → EReal) y + part m c t y := by
  rw [outsAt0_A m c t h (by have := lt_of_lt_of_eq t.isLt N_0; omega) (by omega)]
  frame_out
  pointwise [k0_pay2, part]

theorem acc_step (t : Fin cfg0.N) (h : ¬ t.val % 4 = 0) (y : S1024x1536.Idx) :
    (outsAt0 m c t.val t.isLt).2 y
      = (outsAt0 m c (t.val - 1) (Nat.lt_of_le_of_lt (Nat.sub_le _ _) t.isLt)).2 y + part m c t y := by
  by_cases h2 : t.val % 4 = 3
  · rw [outsAt0_C m c t h (by omega) h2]
    frame_out
    pointwise [k0_pay3, part]
    rw [read_unread_whole]
  · rw [outsAt0_B m c t h (by omega) h2]
    frame_out
    pointwise [k0_pay3, part]
    rw [read_unread_whole]

/-- At the last step the block stored is the sum. -/
theorem out_eq (t : Fin cfg0.N) (h : t.val % 4 = 3) (y : S1024x1536.Idx) :
    (outsAt0 m c t.val t.isLt).1 y = (outsAt0 m c t.val t.isLt).2 y := by
  rw [outsAt0_C m c t (by omega) (by omega) h]
  frame_out
  pointwise [k0_pay4]

theorem final2 : (dats m 0 c).arrAt 2 (cfgs 0).N
    = fun j : S1024x3072.Idx => prod (m ((c : Thread nD τ).loc main_arg0)) (m ((c : Thread nD τ).loc main_arg1)) (j 0) (j 1) := by
  refine (dats m 0 c).arrAt_eq_of_covers 2 _ (by decide +kernel) fun t hf y => ?_
  blk_simp
  have ht := (flush0_2 t).mp hf
  rw [after0_2, out_eq m c t ht]
  refine (Pipeline.eq_sum_fin_of_reset_step_apply_of_flush (fun n h => (outsAt0 m c n h).2) 4 (fun _ => 0) (part m c)
    (acc_reset m c) (acc_step m c) t ht y).trans ?_
  have hN : t.val < 8 := lt_of_lt_of_eq t.isLt N_0
  rw [zero_add]
  refine (Finset.sum_congr rfl fun s _ => (congrArg (part m c _) (eq_ix2 y)).trans (part_at _ _ (y 0) (y 1))).trans ?_
  refine Fin.sum_mul_add_congr fun s k hl => Ideal.mul_congr ?_ ?_
  · blk_point [iblk, V, idx]
  · blk_point [iblk, V, idx]

end Cert.Kernel7Ideal.Prod

namespace Cert.Reference7Ideal.ProdRef

open Cert.Reference7Ideal Cert.Reference7Ideal.Read Idealize.ShloMosaic

theorem res (x0 : FVec Ideal S8320x1024 .bf16) (x1 : FVec Ideal S8320x3072 .bf16) (j : S1024x3072.Idx) :
    val_main_v6 (F := Ideal) x0 x1 j = Cert.Kernel7Ideal.Prod.prod x0 x1 (j 0) (j 1) := by
  pointwise [val_main_v6, val_main_v5, val_main_v4, val_main_v3, val_main_v1, Cert.Kernel7Ideal.Prod.prod]
  exact Finset.sum_congr rfl fun r _ => mul_comm _ _

end Cert.Reference7Ideal.ProdRef

namespace Cert.Prod7

open Idealize.ShloMosaic Idealize.ShloMosaic.TcCoe Idealize.SL.Sem

theorem reference_no_semaphore : ∀ s : SemLoc Cert.Reference7Ideal.sig, False := by decide

theorem reference_frame : Cert.quiescent_Reference7Ideal := fun m ρ _ =>
  (θ_run _ _ _).mono (fun _ h => ⟨fun c => (h c).2, funext fun s => (reference_no_semaphore s.2).elim⟩)
    (Cert.Reference7Ideal.Value.run m ρ)

theorem algebraic : Cert.algebraic_Kernel7Ideal_Reference7Ideal := by
  intro m g m' g' _ hag
  refine ⟨_, Cert.Kernel7Ideal.Value.run_blocks m g, (θ_run _ _ _).mono (fun r h c => ?_) (Cert.Reference7Ideal.Value.run m' g')⟩
  obtain ⟨e0, e1⟩ := hag c
  obtain ⟨h0, hrest⟩ := h c
  refine ⟨h0.trans ?_, hrest⟩
  rw [Cert.Reference7Ideal.Read.val_main_v6_eq, e0, e1]
  exact (funext fun j => Cert.Reference7Ideal.ProdRef.res _ _ j).trans (Cert.Kernel7Ideal.Prod.final2 m c).symm

end Cert.Prod7

end
-- ==== Proof.Prod8.lean ====
/- The gradient of the entry weights' segment of the attention: a product over the rows. -/
module

public import proofs.«01_k».proof.Proof.Gen.Kernel8Ideal.Value
public import proofs.«01_k».proof.Proof.Gen.Reference8Ideal.Run
public import proofs.«01_k».proof.Proof.Gen.Reference8Ideal.Read
public import proofs.«01_k».proof.Defs
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.Kernel8Ideal.Prod

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- An entry of the product: the sum over the rows. -/
def prod (A : FVec Ideal S8320x1024 .bf16) (B : FVec Ideal S8320x1280 .bf16) (p : Fin 1024) (q : Fin 1280) : EReal :=
  ∑ r : Fin 8320, A (ix2 r p) * B (ix2 r q)

theorem idx : ∀ t : Fin cfg0.N, win0_0.index t = ![t.val % 4, 0] ∧ win0_1.index t = ![t.val % 4, 0]
    ∧ win0_2.index t = ![0, 0] :=
  (by decide +kernel : ∀ t : Fin grid0.N, _)

/-- What point `t` adds to the sum. -/
def part (t : Fin cfg0.N) : FVec Ideal S1024x1280 .f32 := k0_pay1 (F := Ideal) (iblk m c 1 t) (iblk m c 0 t)

theorem part_at (a : FVec Ideal S2080x1024 .bf16) (b : FVec Ideal S2080x1280 .bf16) (p : Fin 1024) (q : Fin 1280) :
    k0_pay1 (F := Ideal) b a (ix2 p q) = ∑ l : Fin 2080, a (ix2 l p) * b (ix2 l q) := by
  pointwise [k0_pay1]

theorem acc_reset (t : Fin cfg0.N) (h : t.val % 4 = 0) (y : S1024x1280.Idx) :
    (outsAt0 m c t.val t.isLt).2 y = (fun _ => 0 : S1024x1280.Idx → EReal) y + part m c t y := by
  rw [outsAt0_A m c t h (by have := lt_of_lt_of_eq t.isLt N_0; omega) (by omega)]
  frame_out
  pointwise [k0_pay2, part]

theorem acc_step (t : Fin cfg0.N) (h : ¬ t.val % 4 = 0) (y : S1024x1280.Idx) :
    (outsAt0 m c t.val t.isLt).2 y
      = (outsAt0 m c (t.val - 1) (Nat.lt_of_le_of_lt (Nat.sub_le _ _) t.isLt)).2 y + part m c t y := by
  by_cases h2 : t.val % 4 = 3
  · rw [outsAt0_C m c t h (by omega) h2]
    frame_out
    pointwise [k0_pay3, part]
    rw [read_unread_whole]
  · rw [outsAt0_B m c t h (by omega) h2]
    frame_out
    pointwise [k0_pay3, part]
    rw [read_unread_whole]

/-- At the last step the block stored is the sum. -/
theorem out_eq (t : Fin cfg0.N) (h : t.val % 4 = 3) (y : S1024x1280.Idx) :
    (outsAt0 m c t.val t.isLt).1 y = (outsAt0 m c t.val t.isLt).2 y := by
  rw [outsAt0_C m c t (by omega) (by omega) h]
  frame_out
  pointwise [k0_pay4]

theorem final2 : (dats m 0 c).arrAt 2 (cfgs 0).N
    = fun j : S1024x1280.Idx => prod (m ((c : Thread nD τ).loc main_arg0)) (m ((c : Thread nD τ).loc main_arg1)) (j 0) (j 1) := by
  refine (dats m 0 c).arrAt_eq_of_covers 2 _ (by decide +kernel) fun t hf y => ?_
  blk_simp
  have ht := (flush0_2 t).mp hf
  rw [after0_2, out_eq m c t ht]
  refine (Pipeline.eq_sum_fin_of_reset_step_apply_of_flush (fun n h => (outsAt0 m c n h).2) 4 (fun _ => 0) (part m c)
    (acc_reset m c) (acc_step m c) t ht y).trans ?_
  have hN : t.val < 4 := lt_of_lt_of_eq t.isLt N_0
  rw [zero_add]
  refine (Finset.sum_congr rfl fun s _ => (congrArg (part m c _) (eq_ix2 y)).trans (part_at _ _ (y 0) (y 1))).trans ?_
  refine Fin.sum_mul_add_congr fun s k hl => Ideal.mul_congr ?_ ?_
  · blk_point [iblk, V, idx]
  · blk_point [iblk, V, idx]

end Cert.Kernel8Ideal.Prod

namespace Cert.Reference8Ideal.ProdRef

open Cert.Reference8Ideal Cert.Reference8Ideal.Read Idealize.ShloMosaic

theorem res (x0 : FVec Ideal S8320x1024 .bf16) (x1 : FVec Ideal S8320x1280 .bf16) (j : S1024x1280.Idx) :
    val_main_v6 (F := Ideal) x0 x1 j = Cert.Kernel8Ideal.Prod.prod x0 x1 (j 0) (j 1) := by
  pointwise [val_main_v6, val_main_v5, val_main_v4, val_main_v3, val_main_v1, Cert.Kernel8Ideal.Prod.prod]
  exact Finset.sum_congr rfl fun r _ => mul_comm _ _

end Cert.Reference8Ideal.ProdRef

namespace Cert.Prod8

open Idealize.ShloMosaic Idealize.ShloMosaic.TcCoe Idealize.SL.Sem

theorem reference_no_semaphore : ∀ s : SemLoc Cert.Reference8Ideal.sig, False := by decide

theorem reference_frame : Cert.quiescent_Reference8Ideal := fun m ρ _ =>
  (θ_run _ _ _).mono (fun _ h => ⟨fun c => (h c).2, funext fun s => (reference_no_semaphore s.2).elim⟩)
    (Cert.Reference8Ideal.Value.run m ρ)

theorem algebraic : Cert.algebraic_Kernel8Ideal_Reference8Ideal := by
  intro m g m' g' _ hag
  refine ⟨_, Cert.Kernel8Ideal.Value.run_blocks m g, (θ_run _ _ _).mono (fun r h c => ?_) (Cert.Reference8Ideal.Value.run m' g')⟩
  obtain ⟨e0, e1⟩ := hag c
  obtain ⟨h0, hrest⟩ := h c
  refine ⟨h0.trans ?_, hrest⟩
  rw [Cert.Reference8Ideal.Read.val_main_v6_eq, e0, e1]
  exact (funext fun j => Cert.Reference8Ideal.ProdRef.res _ _ j).trans (Cert.Kernel8Ideal.Prod.final2 m c).symm

end Cert.Prod8

end
-- ==== Proof.Prod9.lean ====
/- The gradient of the entry weights' segment of the step sizes: a product over the rows. -/
module

public import proofs.«01_k».proof.Proof.Gen.Kernel9Ideal.Value
public import proofs.«01_k».proof.Proof.Gen.Reference9Ideal.Run
public import proofs.«01_k».proof.Proof.Gen.Reference9Ideal.Read
public import proofs.«01_k».proof.Defs
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.Kernel9Ideal.Prod

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- An entry of the product: the sum over the rows. -/
def prod (A : FVec Ideal S8320x1024 .bf16) (B : FVec Ideal S8320x512 .bf16) (p : Fin 1024) (q : Fin 512) : EReal :=
  ∑ r : Fin 8320, A (ix2 r p) * B (ix2 r q)

theorem idx : ∀ t : Fin cfg0.N, win0_0.index t = ![t.val % 4, 0] ∧ win0_1.index t = ![t.val % 4, 0]
    ∧ win0_2.index t = ![0, 0] :=
  (by decide +kernel : ∀ t : Fin grid0.N, _)

/-- What point `t` adds to the sum. -/
def part (t : Fin cfg0.N) : FVec Ideal S1024x512 .f32 := k0_pay1 (F := Ideal) (iblk m c 1 t) (iblk m c 0 t)

theorem part_at (a : FVec Ideal S2080x1024 .bf16) (b : FVec Ideal S2080x512 .bf16) (p : Fin 1024) (q : Fin 512) :
    k0_pay1 (F := Ideal) b a (ix2 p q) = ∑ l : Fin 2080, a (ix2 l p) * b (ix2 l q) := by
  pointwise [k0_pay1]

theorem acc_reset (t : Fin cfg0.N) (h : t.val % 4 = 0) (y : S1024x512.Idx) :
    (outsAt0 m c t.val t.isLt).2 y = (fun _ => 0 : S1024x512.Idx → EReal) y + part m c t y := by
  rw [outsAt0_A m c t h (by have := lt_of_lt_of_eq t.isLt N_0; omega) (by omega)]
  frame_out
  pointwise [k0_pay2, part]

theorem acc_step (t : Fin cfg0.N) (h : ¬ t.val % 4 = 0) (y : S1024x512.Idx) :
    (outsAt0 m c t.val t.isLt).2 y
      = (outsAt0 m c (t.val - 1) (Nat.lt_of_le_of_lt (Nat.sub_le _ _) t.isLt)).2 y + part m c t y := by
  by_cases h2 : t.val % 4 = 3
  · rw [outsAt0_C m c t h (by omega) h2]
    frame_out
    pointwise [k0_pay3, part]
    rw [read_unread_whole]
  · rw [outsAt0_B m c t h (by omega) h2]
    frame_out
    pointwise [k0_pay3, part]
    rw [read_unread_whole]

/-- At the last step the block stored is the sum. -/
theorem out_eq (t : Fin cfg0.N) (h : t.val % 4 = 3) (y : S1024x512.Idx) :
    (outsAt0 m c t.val t.isLt).1 y = (outsAt0 m c t.val t.isLt).2 y := by
  rw [outsAt0_C m c t (by omega) (by omega) h]
  frame_out
  pointwise [k0_pay4]

theorem final2 : (dats m 0 c).arrAt 2 (cfgs 0).N
    = fun j : S1024x512.Idx => prod (m ((c : Thread nD τ).loc main_arg0)) (m ((c : Thread nD τ).loc main_arg1)) (j 0) (j 1) := by
  refine (dats m 0 c).arrAt_eq_of_covers 2 _ (by decide +kernel) fun t hf y => ?_
  blk_simp
  have ht := (flush0_2 t).mp hf
  rw [after0_2, out_eq m c t ht]
  refine (Pipeline.eq_sum_fin_of_reset_step_apply_of_flush (fun n h => (outsAt0 m c n h).2) 4 (fun _ => 0) (part m c)
    (acc_reset m c) (acc_step m c) t ht y).trans ?_
  have hN : t.val < 4 := lt_of_lt_of_eq t.isLt N_0
  rw [zero_add]
  refine (Finset.sum_congr rfl fun s _ => (congrArg (part m c _) (eq_ix2 y)).trans (part_at _ _ (y 0) (y 1))).trans ?_
  refine Fin.sum_mul_add_congr fun s k hl => Ideal.mul_congr ?_ ?_
  · blk_point [iblk, V, idx]
  · blk_point [iblk, V, idx]

end Cert.Kernel9Ideal.Prod

namespace Cert.Reference9Ideal.ProdRef

open Cert.Reference9Ideal Cert.Reference9Ideal.Read Idealize.ShloMosaic

theorem res (x0 : FVec Ideal S8320x1024 .bf16) (x1 : FVec Ideal S8320x512 .bf16) (j : S1024x512.Idx) :
    val_main_v6 (F := Ideal) x0 x1 j = Cert.Kernel9Ideal.Prod.prod x0 x1 (j 0) (j 1) := by
  pointwise [val_main_v6, val_main_v5, val_main_v4, val_main_v3, val_main_v1, Cert.Kernel9Ideal.Prod.prod]
  exact Finset.sum_congr rfl fun r _ => mul_comm _ _

end Cert.Reference9Ideal.ProdRef

namespace Cert.Prod9

open Idealize.ShloMosaic Idealize.ShloMosaic.TcCoe Idealize.SL.Sem

theorem reference_no_semaphore : ∀ s : SemLoc Cert.Reference9Ideal.sig, False := by decide

theorem reference_frame : Cert.quiescent_Reference9Ideal := fun m ρ _ =>
  (θ_run _ _ _).mono (fun _ h => ⟨fun c => (h c).2, funext fun s => (reference_no_semaphore s.2).elim⟩)
    (Cert.Reference9Ideal.Value.run m ρ)

theorem algebraic : Cert.algebraic_Kernel9Ideal_Reference9Ideal := by
  intro m g m' g' _ hag
  refine ⟨_, Cert.Kernel9Ideal.Value.run_blocks m g, (θ_run _ _ _).mono (fun r h c => ?_) (Cert.Reference9Ideal.Value.run m' g')⟩
  obtain ⟨e0, e1⟩ := hag c
  obtain ⟨h0, hrest⟩ := h c
  refine ⟨h0.trans ?_, hrest⟩
  rw [Cert.Reference9Ideal.Read.val_main_v6_eq, e0, e1]
  exact (funext fun j => Cert.Reference9Ideal.ProdRef.res _ _ j).trans (Cert.Kernel9Ideal.Prod.final2 m c).symm

end Cert.Prod9

end
-- ==== Proof.Prod10.lean ====
/- The gradient of the state-space branch's exit weights: a product over the rows. -/
module

public import proofs.«01_k».proof.Proof.Gen.Kernel10Ideal.Value
public import proofs.«01_k».proof.Proof.Gen.Reference10Ideal.Run
public import proofs.«01_k».proof.Proof.Gen.Reference10Ideal.Read
public import proofs.«01_k».proof.Defs
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.Kernel10Ideal.Prod

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- An entry of the product: the sum over the rows. -/
def prod (A : FVec Ideal S8320x2048 .bf16) (B : FVec Ideal S8320x1024 .bf16) (p : Fin 2048) (q : Fin 1024) : EReal :=
  ∑ r : Fin 8320, A (ix2 r p) * B (ix2 r q)

theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- What point `t` adds to the sum. -/
def part (t : Fin cfg0.N) : FVec Ideal S1024x1024 .f32 := k0_pay1 (F := Ideal) (iblk m c 1 t) (iblk m c 0 t)

theorem part_at (a : FVec Ideal S2080x1024 .bf16) (b : FVec Ideal S2080x1024 .bf16) (p : Fin 1024) (q : Fin 1024) :
    k0_pay1 (F := Ideal) b a (ix2 p q) = ∑ l : Fin 2080, a (ix2 l p) * b (ix2 l q) := by
  pointwise [k0_pay1]

theorem acc_reset (t : Fin cfg0.N) (h : t.val % 4 = 0) (y : S1024x1024.Idx) :
    (outsAt0 m c t.val t.isLt).2 y = (fun _ => 0 : S1024x1024.Idx → EReal) y + part m c t y := by
  rw [outsAt0_A m c t h (by have := lt_of_lt_of_eq t.isLt N_0; omega) (by omega)]
  frame_out
  pointwise [k0_pay2, part]

theorem acc_step (t : Fin cfg0.N) (h : ¬ t.val % 4 = 0) (y : S1024x1024.Idx) :
    (outsAt0 m c t.val t.isLt).2 y
      = (outsAt0 m c (t.val - 1) (Nat.lt_of_le_of_lt (Nat.sub_le _ _) t.isLt)).2 y + part m c t y := by
  by_cases h2 : t.val % 4 = 3
  · rw [outsAt0_C m c t h (by omega) h2]
    frame_out
    pointwise [k0_pay3, part]
    rw [read_unread_whole]
  · rw [outsAt0_B m c t h (by omega) h2]
    frame_out
    pointwise [k0_pay3, part]
    rw [read_unread_whole]

/-- At the last step the block stored is the sum. -/
theorem out_eq (t : Fin cfg0.N) (h : t.val % 4 = 3) (y : S1024x1024.Idx) :
    (outsAt0 m c t.val t.isLt).1 y = (outsAt0 m c t.val t.isLt).2 y := by
  rw [outsAt0_C m c t (by omega) (by omega) h]
  frame_out
  pointwise [k0_pay4]

theorem final2 : (dats m 0 c).arrAt 2 (cfgs 0).N
    = fun j : S2048x1024.Idx => prod (m ((c : Thread nD τ).loc main_arg0)) (m ((c : Thread nD τ).loc main_arg1)) (j 0) (j 1) := by
  refine (dats m 0 c).arrAt_eq_of_covers 2 _ (by decide +kernel) fun t hf y => ?_
  blk_simp
  have ht := (flush0_2 t).mp hf
  rw [after0_2, out_eq m c t ht]
  refine (Pipeline.eq_sum_fin_of_reset_step_apply_of_flush (fun n h => (outsAt0 m c n h).2) 4 (fun _ => 0) (part m c)
    (acc_reset m c) (acc_step m c) t ht y).trans ?_
  have hN : t.val < 8 := lt_of_lt_of_eq t.isLt N_0
  rw [zero_add]
  refine (Finset.sum_congr rfl fun s _ => (congrArg (part m c _) (eq_ix2 y)).trans (part_at _ _ (y 0) (y 1))).trans ?_
  refine Fin.sum_mul_add_congr fun s k hl => Ideal.mul_congr ?_ ?_
  · blk_point [iblk, V, idx]
  · blk_point [iblk, V, idx]

end Cert.Kernel10Ideal.Prod

namespace Cert.Reference10Ideal.ProdRef

open Cert.Reference10Ideal Cert.Reference10Ideal.Read Idealize.ShloMosaic

theorem res (x0 : FVec Ideal S8320x2048 .bf16) (x1 : FVec Ideal S8320x1024 .bf16) (j : S2048x1024.Idx) :
    val_main_v6 (F := Ideal) x0 x1 j = Cert.Kernel10Ideal.Prod.prod x0 x1 (j 0) (j 1) := by
  pointwise [val_main_v6, val_main_v5, val_main_v4, val_main_v3, val_main_v1, Cert.Kernel10Ideal.Prod.prod]
  exact Finset.sum_congr rfl fun r _ => mul_comm _ _

end Cert.Reference10Ideal.ProdRef

namespace Cert.Prod10

open Idealize.ShloMosaic Idealize.ShloMosaic.TcCoe Idealize.SL.Sem

theorem reference_no_semaphore : ∀ s : SemLoc Cert.Reference10Ideal.sig, False := by decide

theorem reference_frame : Cert.quiescent_Reference10Ideal := fun m ρ _ =>
  (θ_run _ _ _).mono (fun _ h => ⟨fun c => (h c).2, funext fun s => (reference_no_semaphore s.2).elim⟩)
    (Cert.Reference10Ideal.Value.run m ρ)

theorem algebraic : Cert.algebraic_Kernel10Ideal_Reference10Ideal := by
  intro m g m' g' _ hag
  refine ⟨_, Cert.Kernel10Ideal.Value.run_blocks m g, (θ_run _ _ _).mono (fun r h c => ?_) (Cert.Reference10Ideal.Value.run m' g')⟩
  obtain ⟨e0, e1⟩ := hag c
  obtain ⟨h0, hrest⟩ := h c
  refine ⟨h0.trans ?_, hrest⟩
  rw [Cert.Reference10Ideal.Read.val_main_v6_eq, e0, e1]
  exact (funext fun j => Cert.Reference10Ideal.ProdRef.res _ _ j).trans (Cert.Kernel10Ideal.Prod.final2 m c).symm

end Cert.Prod10

end
-- ==== Proof.Prod11.lean ====
/- The gradient of the attention branch's exit weights: a product over the rows. -/
module

public import proofs.«01_k».proof.Proof.Gen.Kernel11Ideal.Value
public import proofs.«01_k».proof.Proof.Gen.Reference11Ideal.Run
public import proofs.«01_k».proof.Proof.Gen.Reference11Ideal.Read
public import proofs.«01_k».proof.Defs
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.Kernel11Ideal.Prod

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- An entry of the product: the sum over the rows. -/
def prod (A : FVec Ideal S8320x1024 .bf16) (B : FVec Ideal S8320x1024 .bf16) (p : Fin 1024) (q : Fin 1024) : EReal :=
  ∑ r : Fin 8320, A (ix2 r p) * B (ix2 r q)

theorem idx : ∀ t : Fin cfg0.N, win0_0.index t = ![t.val % 4, 0] ∧ win0_1.index t = ![t.val % 4, 0]
    ∧ win0_2.index t = ![0, 0] :=
  (by decide +kernel : ∀ t : Fin grid0.N, _)

/-- What point `t` adds to the sum. -/
def part (t : Fin cfg0.N) : FVec Ideal S1024x1024 .f32 := k0_pay1 (F := Ideal) (iblk m c 1 t) (iblk m c 0 t)

theorem part_at (a : FVec Ideal S2080x1024 .bf16) (b : FVec Ideal S2080x1024 .bf16) (p : Fin 1024) (q : Fin 1024) :
    k0_pay1 (F := Ideal) b a (ix2 p q) = ∑ l : Fin 2080, a (ix2 l p) * b (ix2 l q) := by
  pointwise [k0_pay1]

theorem acc_reset (t : Fin cfg0.N) (h : t.val % 4 = 0) (y : S1024x1024.Idx) :
    (outsAt0 m c t.val t.isLt).2 y = (fun _ => 0 : S1024x1024.Idx → EReal) y + part m c t y := by
  rw [outsAt0_A m c t h (by have := lt_of_lt_of_eq t.isLt N_0; omega) (by omega)]
  frame_out
  pointwise [k0_pay2, part]

theorem acc_step (t : Fin cfg0.N) (h : ¬ t.val % 4 = 0) (y : S1024x1024.Idx) :
    (outsAt0 m c t.val t.isLt).2 y
      = (outsAt0 m c (t.val - 1) (Nat.lt_of_le_of_lt (Nat.sub_le _ _) t.isLt)).2 y + part m c t y := by
  by_cases h2 : t.val % 4 = 3
  · rw [outsAt0_C m c t h (by omega) h2]
    frame_out
    pointwise [k0_pay3, part]
    rw [read_unread_whole]
  · rw [outsAt0_B m c t h (by omega) h2]
    frame_out
    pointwise [k0_pay3, part]
    rw [read_unread_whole]

/-- At the last step the block stored is the sum. -/
theorem out_eq (t : Fin cfg0.N) (h : t.val % 4 = 3) (y : S1024x1024.Idx) :
    (outsAt0 m c t.val t.isLt).1 y = (outsAt0 m c t.val t.isLt).2 y := by
  rw [outsAt0_C m c t (by omega) (by omega) h]
  frame_out
  pointwise [k0_pay4]

theorem final2 : (dats m 0 c).arrAt 2 (cfgs 0).N
    = fun j : S1024x1024.Idx => prod (m ((c : Thread nD τ).loc main_arg0)) (m ((c : Thread nD τ).loc main_arg1)) (j 0) (j 1) := by
  refine (dats m 0 c).arrAt_eq_of_covers 2 _ (by decide +kernel) fun t hf y => ?_
  blk_simp
  have ht := (flush0_2 t).mp hf
  rw [after0_2, out_eq m c t ht]
  refine (Pipeline.eq_sum_fin_of_reset_step_apply_of_flush (fun n h => (outsAt0 m c n h).2) 4 (fun _ => 0) (part m c)
    (acc_reset m c) (acc_step m c) t ht y).trans ?_
  have hN : t.val < 4 := lt_of_lt_of_eq t.isLt N_0
  rw [zero_add]
  refine (Finset.sum_congr rfl fun s _ => (congrArg (part m c _) (eq_ix2 y)).trans (part_at _ _ (y 0) (y 1))).trans ?_
  refine Fin.sum_mul_add_congr fun s k hl => Ideal.mul_congr ?_ ?_
  · blk_point [iblk, V, idx]
  · blk_point [iblk, V, idx]

end Cert.Kernel11Ideal.Prod

namespace Cert.Reference11Ideal.ProdRef

open Cert.Reference11Ideal Cert.Reference11Ideal.Read Idealize.ShloMosaic

theorem res (x0 : FVec Ideal S8320x1024 .bf16) (x1 : FVec Ideal S8320x1024 .bf16) (j : S1024x1024.Idx) :
    val_main_v6 (F := Ideal) x0 x1 j = Cert.Kernel11Ideal.Prod.prod x0 x1 (j 0) (j 1) := by
  pointwise [val_main_v6, val_main_v5, val_main_v4, val_main_v3, val_main_v1, Cert.Kernel11Ideal.Prod.prod]
  exact Finset.sum_congr rfl fun r _ => mul_comm _ _

end Cert.Reference11Ideal.ProdRef

namespace Cert.Prod11

open Idealize.ShloMosaic Idealize.ShloMosaic.TcCoe Idealize.SL.Sem

theorem reference_no_semaphore : ∀ s : SemLoc Cert.Reference11Ideal.sig, False := by decide

theorem reference_frame : Cert.quiescent_Reference11Ideal := fun m ρ _ =>
  (θ_run _ _ _).mono (fun _ h => ⟨fun c => (h c).2, funext fun s => (reference_no_semaphore s.2).elim⟩)
    (Cert.Reference11Ideal.Value.run m ρ)

theorem algebraic : Cert.algebraic_Kernel11Ideal_Reference11Ideal := by
  intro m g m' g' _ hag
  refine ⟨_, Cert.Kernel11Ideal.Value.run_blocks m g, (θ_run _ _ _).mono (fun r h c => ?_) (Cert.Reference11Ideal.Value.run m' g')⟩
  obtain ⟨e0, e1⟩ := hag c
  obtain ⟨h0, hrest⟩ := h c
  refine ⟨h0.trans ?_, hrest⟩
  rw [Cert.Reference11Ideal.Read.val_main_v6_eq, e0, e1]
  exact (funext fun j => Cert.Reference11Ideal.ProdRef.res _ _ j).trans (Cert.Kernel11Ideal.Prod.final2 m c).symm

end Cert.Prod11

end
-- ==== Proof.Prod12.lean ====
/- The gradient of the output projection's weights: a product over the rows past the padding. -/
module

public import proofs.«01_k».proof.Proof.Gen.Kernel12Ideal.Value
public import proofs.«01_k».proof.Proof.Gen.Reference12Ideal.Run
public import proofs.«01_k».proof.Proof.Gen.Reference12Ideal.Read
public import proofs.«01_k».proof.Defs
public import Idealize.ShloMosaic.Lib.Pointwise
public import Idealize.ShloMosaic.Lib.WordCmp
public import Idealize.ShloMosaic.Lib.Claim
public import Idealize.ShloMosaic.Lib.Pipeline.ValueKit
public import Idealize.ShloMosaic.Lib.Pipeline.ReadBack

@[expose] public section

set_option maxRecDepth 16384

noncomputable section

namespace Cert.Kernel12Ideal.Prod

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- An entry of the product: the sum over the rows. -/
def prod (A : FVec Ideal S8320x1024 .bf16) (B : FVec Ideal S8320x1024 .f32) (p : Fin 1024) (q : Fin 1024) : EReal :=
  ∑ r : Fin 8320, if 112 ≤ r.val then A (ix2 r p) * B (ix2 r q) else 0

theorem idx : ∀ t : Fin cfg0.N, win0_0.index t = ![t.val % 4, 0] ∧ win0_1.index t = ![t.val % 4, 0]
    ∧ win0_2.index t = ![0, 0] ∧ (grid0.coords t 2).val = t.val % 4 :=
  (by decide +kernel : ∀ t : Fin grid0.N, _)

/-- What point `t` adds to the sum. -/
def part (t : Fin cfg0.N) : FVec Ideal S1024x1024 .f32 := k0_pay1 (F := Ideal) (grid0.coords t) (iblk m c 1 t) (iblk m c 0 t)

/-- The bit of a row's mask, at a step and a row of it. -/
theorem mask_at (a : ℕ) (ha : a < 4) (r : Fin 2080) (x : EReal) :
    Scalar.select (IntOp.cmpi CmpIPredicate.sge (IntOp.addi (Scalar.muli (BitVec.ofNat 32 a) 2080#32) (BitVec.ofNat 32 ↑r)) 112#32) x 0
      = if 112 ≤ a * 2080 + r.val then x else 0 := by
  have hw := r.isLt
  have he : IntOp.cmpi CmpIPredicate.sge (IntOp.addi (Scalar.muli (BitVec.ofNat 32 a) 2080#32) (BitVec.ofNat 32 ↑r)) 112#32
      = BitVec.ofBool (decide (112 ≤ a * 2080 + r.val)) := by
    unfold Scalar.muli
    rw [WordCmp.muli_ofNat, WordCmp.addi_ofNat, WordCmp.cmpi_sge_ofNat (by omega) (by omega)]
  rw [he]
  by_cases h : 112 ≤ a * 2080 + r.val
  · rw [if_pos h, decide_eq_true h]; rfl
  · rw [if_neg h, decide_eq_false h]; rfl

theorem part_at (i : grid0.Coords) (a : FVec Ideal S2080x1024 .bf16) (b : FVec Ideal S2080x1024 .f32) (p : Fin 1024) (q : Fin 1024) :
    k0_pay1 (F := Ideal) i b a (ix2 p q) = ∑ l : Fin 2080, (if 112 ≤ (i 2).val * 2080 + l.val then a (ix2 l p) * b (ix2 l q) else 0) := by
  pointwise [k0_pay1]
  exact Finset.sum_congr rfl fun l _ => mask_at (i 2).val (i 2).isLt l _

theorem acc_reset (t : Fin cfg0.N) (h : t.val % 4 = 0) (y : S1024x1024.Idx) :
    (outsAt0 m c t.val t.isLt).2 y = (fun _ => 0 : S1024x1024.Idx → EReal) y + part m c t y := by
  rw [outsAt0_A m c t h (by have := lt_of_lt_of_eq t.isLt N_0; omega) (by omega)]
  frame_out
  pointwise [k0_pay2, part]

theorem acc_step (t : Fin cfg0.N) (h : ¬ t.val % 4 = 0) (y : S1024x1024.Idx) :
    (outsAt0 m c t.val t.isLt).2 y
      = (outsAt0 m c (t.val - 1) (Nat.lt_of_le_of_lt (Nat.sub_le _ _) t.isLt)).2 y + part m c t y := by
  by_cases h2 : t.val % 4 = 3
  · rw [outsAt0_C m c t h (by omega) h2]
    frame_out
    pointwise [k0_pay3, part]
    rw [read_unread_whole]
  · rw [outsAt0_B m c t h (by omega) h2]
    frame_out
    pointwise [k0_pay3, part]
    rw [read_unread_whole]

/-- At the last step the block stored is the sum. -/
theorem out_eq (t : Fin cfg0.N) (h : t.val % 4 = 3) (y : S1024x1024.Idx) :
    (outsAt0 m c t.val t.isLt).1 y = (outsAt0 m c t.val t.isLt).2 y := by
  rw [outsAt0_C m c t (by omega) (by omega) h]
  frame_out
  pointwise [k0_pay4]

theorem final2 : (dats m 0 c).arrAt 2 (cfgs 0).N
    = fun j : S1024x1024.Idx => prod (m ((c : Thread nD τ).loc main_arg0)) (m ((c : Thread nD τ).loc main_arg1)) (j 0) (j 1) := by
  refine (dats m 0 c).arrAt_eq_of_covers 2 _ (by decide +kernel) fun t hf y => ?_
  blk_simp
  have ht := (flush0_2 t).mp hf
  rw [after0_2, out_eq m c t ht]
  refine (Pipeline.eq_sum_fin_of_reset_step_apply_of_flush (fun n h => (outsAt0 m c n h).2) 4 (fun _ => 0) (part m c)
    (acc_reset m c) (acc_step m c) t ht y).trans ?_
  have hN : t.val < 4 := lt_of_lt_of_eq t.isLt N_0
  rw [zero_add]
  refine (Finset.sum_congr rfl fun s _ => (congrArg (part m c _) (eq_ix2 y)).trans (part_at _ _ _ (y 0) (y 1))).trans ?_
  refine Fin.sum_mul_add_congr fun s k hl => ?_
  rw [(idx _).2.2.2]
  refine if_congr (by simp only []; omega) (Ideal.mul_congr ?_ ?_) rfl
  · blk_point [iblk, V, idx]
  · blk_point [iblk, V, idx]

end Cert.Kernel12Ideal.Prod

namespace Cert.Reference12Ideal.ProdRef

open Cert.Reference12Ideal Cert.Reference12Ideal.Read Idealize.ShloMosaic

theorem one_of_true : (FloatOps.uitofp (F := Ideal) FTy.f32 (BitVec.ofBool true) : EReal) = 1 := by
  show (((_ : ℕ) : ℝ) : EReal) = _
  simp

theorem zero_of_false : (FloatOps.uitofp (F := Ideal) FTy.f32 (BitVec.ofBool false) : EReal) = 0 := by
  show (((_ : ℕ) : ℝ) : EReal) = _
  simp

theorem res (x0 : FVec Ideal S8320x1024 .bf16) (x1 : FVec Ideal S8320x1024 .f32) (j : S1024x1024.Idx) :
    val_main_v14 (F := Ideal) x0 x1 j = Cert.Kernel12Ideal.Prod.prod x0 x1 (j 0) (j 1) := by
  pointwise [val_main_v14, val_main_v13, val_main_v12, val_main_v11, val_main_v10, val_main_v6, val_main_v4, val_main_v3, val_main_v2, val_main_v1, val_main_v0, val_main_c]
  unfold Cert.Kernel12Ideal.Prod.prod
  refine Finset.sum_congr rfl fun r _ => ?_
  rw [show (112#32 : BitVec 32) = BitVec.ofNat 32 112 from rfl, WordCmp.cmpi_sge_ofNat (by omega) (by omega)]
  by_cases h : 112 ≤ r.val
  · rw [if_pos h, decide_eq_true h]
    exact (Ideal.mul_congr ((Ideal.mul_congr one_of_true rfl).trans (one_mul _)) rfl).trans (mul_comm _ _)
  · rw [if_neg h, decide_eq_false h]
    exact (Ideal.mul_congr ((Ideal.mul_congr zero_of_false rfl).trans (zero_mul _)) rfl).trans (zero_mul _)

end Cert.Reference12Ideal.ProdRef

namespace Cert.Prod12

open Idealize.ShloMosaic Idealize.ShloMosaic.TcCoe Idealize.SL.Sem

theorem reference_no_semaphore : ∀ s : SemLoc Cert.Reference12Ideal.sig, False := by decide

theorem reference_frame : Cert.quiescent_Reference12Ideal := fun m ρ _ =>
  (θ_run _ _ _).mono (fun _ h => ⟨fun c => (h c).2, funext fun s => (reference_no_semaphore s.2).elim⟩)
    (Cert.Reference12Ideal.Value.run m ρ)

theorem algebraic : Cert.algebraic_Kernel12Ideal_Reference12Ideal := by
  intro m g m' g' _ hag
  refine ⟨_, Cert.Kernel12Ideal.Value.run_blocks m g, (θ_run _ _ _).mono (fun r h c => ?_) (Cert.Reference12Ideal.Value.run m' g')⟩
  obtain ⟨e0, e1⟩ := hag c
  obtain ⟨h0, hrest⟩ := h c
  refine ⟨h0.trans ?_, hrest⟩
  rw [Cert.Reference12Ideal.Read.val_main_v14_eq, e0, e1]
  exact (funext fun j => Cert.Reference12Ideal.ProdRef.res _ _ j).trans (Cert.Kernel12Ideal.Prod.final2 m c).symm

end Cert.Prod12

end
-- ==== Proof.Prod13.lean ====
/- The cotangent of the state-space branch's rows: a product with the transposed weights. -/
module

public import proofs.«01_k».proof.Proof.Gen.Kernel13Ideal.Value
public import proofs.«01_k».proof.Proof.Gen.Reference13Ideal.Run
public import proofs.«01_k».proof.Proof.Gen.Reference13Ideal.Read
public import proofs.«01_k».proof.Defs
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.Kernel13Ideal.Prod

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- An entry of the product: the sum over the columns of the first factor. -/
def prod (A : FVec Ideal S8320x1024 .bf16) (B : FVec Ideal S2048x1024 .bf16) (p : Fin 8320) (q : Fin 2048) : EReal :=
  ∑ l : Fin 1024, A (ix2 p l) * B (ix2 q l)

theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

theorem final2 : (dats m 0 c).arrAt 2 (cfgs 0).N
    = fun j : S8320x2048.Idx => prod (m ((c : Thread nD τ).loc main_arg0)) (m ((c : Thread nD τ).loc main_arg1)) (j 0) (j 1) := by
  refine (dats m 0 c).arrAt_eq_of_covers 2 _ (by decide +kernel) fun t _ y => ?_
  blk_simp
  rw [after0_2]
  unfold out0_2 prod
  frame_out
  obtain ⟨p, q, rfl⟩ : ∃ p q, y = ix2 p q := ⟨y 0, y 1, eq_ix2 y⟩
  pointwise [k0_pay1]
  blk_point [iblk, V, idx t]

end Cert.Kernel13Ideal.Prod

namespace Cert.Reference13Ideal.ProdRef

open Cert.Reference13Ideal Cert.Reference13Ideal.Read Idealize.ShloMosaic

theorem res (x0 : FVec Ideal S8320x1024 .bf16) (x1 : FVec Ideal S2048x1024 .bf16) (j : S8320x2048.Idx) :
    val_main_v4 (F := Ideal) x0 x1 j = Cert.Kernel13Ideal.Prod.prod x0 x1 (j 0) (j 1) := by
  pointwise [val_main_v4, val_main_v3, val_main_v1, Cert.Kernel13Ideal.Prod.prod]

end Cert.Reference13Ideal.ProdRef

namespace Cert.Prod13

open Idealize.ShloMosaic Idealize.ShloMosaic.TcCoe Idealize.SL.Sem

theorem reference_no_semaphore : ∀ s : SemLoc Cert.Reference13Ideal.sig, False := by decide

theorem reference_frame : Cert.quiescent_Reference13Ideal := fun m ρ _ =>
  (θ_run _ _ _).mono (fun _ h => ⟨fun c => (h c).2, funext fun s => (reference_no_semaphore s.2).elim⟩)
    (Cert.Reference13Ideal.Value.run m ρ)

theorem algebraic : Cert.algebraic_Kernel13Ideal_Reference13Ideal := by
  intro m g m' g' _ hag
  refine ⟨_, Cert.Kernel13Ideal.Value.run_blocks m g, (θ_run _ _ _).mono (fun r h c => ?_) (Cert.Reference13Ideal.Value.run m' g')⟩
  obtain ⟨e0, e1⟩ := hag c
  obtain ⟨h0, hrest⟩ := h c
  refine ⟨h0.trans ?_, hrest⟩
  rw [Cert.Reference13Ideal.Read.val_main_v4_eq, e0, e1]
  exact (funext fun j => Cert.Reference13Ideal.ProdRef.res _ _ j).trans (Cert.Kernel13Ideal.Prod.final2 m c).symm

end Cert.Prod13

end
-- ==== Proof.Prod14.lean ====
/- The cotangent of the attention's rows: a product with the transposed weights. -/
module

public import proofs.«01_k».proof.Proof.Gen.Kernel14Ideal.Value
public import proofs.«01_k».proof.Proof.Gen.Reference14Ideal.Run
public import proofs.«01_k».proof.Proof.Gen.Reference14Ideal.Read
public import proofs.«01_k».proof.Defs
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.Kernel14Ideal.Prod

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- An entry of the product: the sum over the columns of the first factor. -/
def prod (A : FVec Ideal S8320x1024 .bf16) (B : FVec Ideal S1024x1024 .bf16) (p : Fin 8320) (q : Fin 1024) : EReal :=
  ∑ l : Fin 1024, A (ix2 p l) * B (ix2 q l)

theorem idx : ∀ t : Fin cfg0.N, win0_0.index t = ![t.val, 0] ∧ win0_1.index t = ![0, 0]
    ∧ win0_2.index t = ![t.val, 0] :=
  (by decide +kernel : ∀ t : Fin grid0.N, _)

theorem final2 : (dats m 0 c).arrAt 2 (cfgs 0).N
    = fun j : S8320x1024.Idx => prod (m ((c : Thread nD τ).loc main_arg0)) (m ((c : Thread nD τ).loc main_arg1)) (j 0) (j 1) := by
  refine (dats m 0 c).arrAt_eq_of_covers 2 _ (by decide +kernel) fun t _ y => ?_
  blk_simp
  rw [after0_2]
  unfold out0_2 prod
  frame_out
  obtain ⟨p, q, rfl⟩ : ∃ p q, y = ix2 p q := ⟨y 0, y 1, eq_ix2 y⟩
  pointwise [k0_pay1]
  blk_point [iblk, V, idx t]

end Cert.Kernel14Ideal.Prod

namespace Cert.Reference14Ideal.ProdRef

open Cert.Reference14Ideal Cert.Reference14Ideal.Read Idealize.ShloMosaic

theorem res (x0 : FVec Ideal S8320x1024 .bf16) (x1 : FVec Ideal S1024x1024 .bf16) (j : S8320x1024.Idx) :
    val_main_v5 (F := Ideal) x0 x1 j = Cert.Kernel14Ideal.Prod.prod x0 x1 (j 0) (j 1) := by
  pointwise [val_main_v5, val_main_v4, val_main_v3, val_main_v1, Cert.Kernel14Ideal.Prod.prod]

end Cert.Reference14Ideal.ProdRef

namespace Cert.Prod14

open Idealize.ShloMosaic Idealize.ShloMosaic.TcCoe Idealize.SL.Sem

theorem reference_no_semaphore : ∀ s : SemLoc Cert.Reference14Ideal.sig, False := by decide

theorem reference_frame : Cert.quiescent_Reference14Ideal := fun m ρ _ =>
  (θ_run _ _ _).mono (fun _ h => ⟨fun c => (h c).2, funext fun s => (reference_no_semaphore s.2).elim⟩)
    (Cert.Reference14Ideal.Value.run m ρ)

theorem algebraic : Cert.algebraic_Kernel14Ideal_Reference14Ideal := by
  intro m g m' g' _ hag
  refine ⟨_, Cert.Kernel14Ideal.Value.run_blocks m g, (θ_run _ _ _).mono (fun r h c => ?_) (Cert.Reference14Ideal.Value.run m' g')⟩
  obtain ⟨e0, e1⟩ := hag c
  obtain ⟨h0, hrest⟩ := h c
  refine ⟨h0.trans ?_, hrest⟩
  rw [Cert.Reference14Ideal.Read.val_main_v5_eq, e0, e1]
  exact (funext fun j => Cert.Reference14Ideal.ProdRef.res _ _ j).trans (Cert.Kernel14Ideal.Prod.final2 m c).symm

end Cert.Prod14

end
-- ==== Proof.Prod15.lean ====
/- The entry product of a gate's columns. -/
module

public import proofs.«01_k».proof.Proof.Gen.Kernel15Ideal.Value
public import proofs.«01_k».proof.Proof.Gen.Reference15Ideal.Run
public import proofs.«01_k».proof.Proof.Gen.Reference15Ideal.Read
public import proofs.«01_k».proof.Defs
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.Kernel15Ideal.Prod

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- An entry of the product: the sum over the columns of the first factor. -/
def prod (A : FVec Ideal S8320x1024 .bf16) (B : FVec Ideal S1024x2048 .bf16) (p : Fin 8320) (q : Fin 2048) : EReal :=
  ∑ l : Fin 1024, A (ix2 p l) * B (ix2 l q)

theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

theorem final2 : (dats m 0 c).arrAt 2 (cfgs 0).N
    = fun j : S8320x2048.Idx => prod (m ((c : Thread nD τ).loc main_arg0)) (m ((c : Thread nD τ).loc main_arg1)) (j 0) (j 1) := by
  refine (dats m 0 c).arrAt_eq_of_covers 2 _ (by decide +kernel) fun t _ y => ?_
  blk_simp
  rw [after0_2]
  unfold out0_2 prod
  frame_out
  obtain ⟨p, q, rfl⟩ : ∃ p q, y = ix2 p q := ⟨y 0, y 1, eq_ix2 y⟩
  pointwise [k0_pay1]
  blk_point [iblk, V, idx t]

end Cert.Kernel15Ideal.Prod

namespace Cert.Reference15Ideal.ProdRef

open Cert.Reference15Ideal Cert.Reference15Ideal.Read Idealize.ShloMosaic

theorem res (x0 : FVec Ideal S8320x1024 .bf16) (x1 : FVec Ideal S1024x2048 .bf16) (j : S8320x2048.Idx) :
    val_main_v2 (F := Ideal) x0 x1 j = Cert.Kernel15Ideal.Prod.prod x0 x1 (j 0) (j 1) := by
  pointwise [val_main_v2, val_main_v1, val_main_v0, Cert.Kernel15Ideal.Prod.prod]

end Cert.Reference15Ideal.ProdRef

namespace Cert.Prod15

open Idealize.ShloMosaic Idealize.ShloMosaic.TcCoe Idealize.SL.Sem

theorem reference_no_semaphore : ∀ s : SemLoc Cert.Reference15Ideal.sig, False := by decide

theorem reference_frame : Cert.quiescent_Reference15Ideal := fun m ρ _ =>
  (θ_run _ _ _).mono (fun _ h => ⟨fun c => (h c).2, funext fun s => (reference_no_semaphore s.2).elim⟩)
    (Cert.Reference15Ideal.Value.run m ρ)

theorem algebraic : Cert.algebraic_Kernel15Ideal_Reference15Ideal := by
  intro m g m' g' _ hag
  refine ⟨_, Cert.Kernel15Ideal.Value.run_blocks m g, (θ_run _ _ _).mono (fun r h c => ?_) (Cert.Reference15Ideal.Value.run m' g')⟩
  obtain ⟨e0, e1⟩ := hag c
  obtain ⟨h0, hrest⟩ := h c
  refine ⟨h0.trans ?_, hrest⟩
  rw [Cert.Reference15Ideal.Read.val_main_v2_eq, e0, e1]
  exact (funext fun j => Cert.Reference15Ideal.ProdRef.res _ _ j).trans (Cert.Kernel15Ideal.Prod.final2 m c).symm

end Cert.Prod15

end
-- ==== Proof.Prod16.lean ====
/- The entry product of the attention's columns. -/
module

public import proofs.«01_k».proof.Proof.Gen.Kernel16Ideal.Value
public import proofs.«01_k».proof.Proof.Gen.Reference16Ideal.Run
public import proofs.«01_k».proof.Proof.Gen.Reference16Ideal.Read
public import proofs.«01_k».proof.Defs
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.Kernel16Ideal.Prod

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- An entry of the product: the sum over the columns of the first factor. -/
def prod (A : FVec Ideal S8320x1024 .bf16) (B : FVec Ideal S1024x1280 .bf16) (p : Fin 8320) (q : Fin 1280) : EReal :=
  ∑ l : Fin 1024, A (ix2 p l) * B (ix2 l q)

theorem idx : ∀ t : Fin cfg0.N, win0_0.index t = ![t.val, 0] ∧ win0_1.index t = ![0, 0]
    ∧ win0_2.index t = ![t.val, 0] :=
  (by decide +kernel : ∀ t : Fin grid0.N, _)

theorem final2 : (dats m 0 c).arrAt 2 (cfgs 0).N
    = fun j : S8320x1280.Idx => prod (m ((c : Thread nD τ).loc main_arg0)) (m ((c : Thread nD τ).loc main_arg1)) (j 0) (j 1) := by
  refine (dats m 0 c).arrAt_eq_of_covers 2 _ (by decide +kernel) fun t _ y => ?_
  blk_simp
  rw [after0_2]
  unfold out0_2 prod
  frame_out
  obtain ⟨p, q, rfl⟩ : ∃ p q, y = ix2 p q := ⟨y 0, y 1, eq_ix2 y⟩
  pointwise [k0_pay1]
  blk_point [iblk, V, idx t]

end Cert.Kernel16Ideal.Prod

namespace Cert.Reference16Ideal.ProdRef

open Cert.Reference16Ideal Cert.Reference16Ideal.Read Idealize.ShloMosaic

theorem res (x0 : FVec Ideal S8320x1024 .bf16) (x1 : FVec Ideal S1024x1280 .bf16) (j : S8320x1280.Idx) :
    val_main_v3 (F := Ideal) x0 x1 j = Cert.Kernel16Ideal.Prod.prod x0 x1 (j 0) (j 1) := by
  pointwise [val_main_v3, val_main_v2, val_main_v1, val_main_v0, Cert.Kernel16Ideal.Prod.prod]

end Cert.Reference16Ideal.ProdRef

namespace Cert.Prod16

open Idealize.ShloMosaic Idealize.ShloMosaic.TcCoe Idealize.SL.Sem

theorem reference_no_semaphore : ∀ s : SemLoc Cert.Reference16Ideal.sig, False := by decide

theorem reference_frame : Cert.quiescent_Reference16Ideal := fun m ρ _ =>
  (θ_run _ _ _).mono (fun _ h => ⟨fun c => (h c).2, funext fun s => (reference_no_semaphore s.2).elim⟩)
    (Cert.Reference16Ideal.Value.run m ρ)

theorem algebraic : Cert.algebraic_Kernel16Ideal_Reference16Ideal := by
  intro m g m' g' _ hag
  refine ⟨_, Cert.Kernel16Ideal.Value.run_blocks m g, (θ_run _ _ _).mono (fun r h c => ?_) (Cert.Reference16Ideal.Value.run m' g')⟩
  obtain ⟨e0, e1⟩ := hag c
  obtain ⟨h0, hrest⟩ := h c
  refine ⟨h0.trans ?_, hrest⟩
  rw [Cert.Reference16Ideal.Read.val_main_v3_eq, e0, e1]
  exact (funext fun j => Cert.Reference16Ideal.ProdRef.res _ _ j).trans (Cert.Kernel16Ideal.Prod.final2 m c).symm

end Cert.Prod16

end
-- ==== Proof.Prod17.lean ====
/- The entry product of the step sizes' columns. -/
module

public import proofs.«01_k».proof.Proof.Gen.Kernel17Ideal.Value
public import proofs.«01_k».proof.Proof.Gen.Reference17Ideal.Run
public import proofs.«01_k».proof.Proof.Gen.Reference17Ideal.Read
public import proofs.«01_k».proof.Defs
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.Kernel17Ideal.Prod

open Cert.Kernel17Ideal Cert.Kernel17Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- An entry of the product: the sum over the columns of the first factor. -/
def prod (A : FVec Ideal S8320x1024 .bf16) (B : FVec Ideal S1024x512 .bf16) (p : Fin 8320) (q : Fin 512) : EReal :=
  ∑ l : Fin 1024, A (ix2 p l) * B (ix2 l q)

theorem idx : ∀ t : Fin cfg0.N, win0_0.index t = ![t.val, 0] ∧ win0_1.index t = ![0, 0]
    ∧ win0_2.index t = ![t.val, 0] :=
  (by decide +kernel : ∀ t : Fin grid0.N, _)

theorem final2 : (dats m 0 c).arrAt 2 (cfgs 0).N
    = fun j : S8320x512.Idx => prod (m ((c : Thread nD τ).loc main_arg0)) (m ((c : Thread nD τ).loc main_arg1)) (j 0) (j 1) := by
  refine (dats m 0 c).arrAt_eq_of_covers 2 _ (by decide +kernel) fun t _ y => ?_
  blk_simp
  rw [after0_2]
  unfold out0_2 prod
  frame_out
  obtain ⟨p, q, rfl⟩ : ∃ p q, y = ix2 p q := ⟨y 0, y 1, eq_ix2 y⟩
  pointwise [k0_pay1]
  blk_point [iblk, V, idx t]

end Cert.Kernel17Ideal.Prod

namespace Cert.Reference17Ideal.ProdRef

open Cert.Reference17Ideal Cert.Reference17Ideal.Read Idealize.ShloMosaic

theorem res (x0 : FVec Ideal S8320x1024 .bf16) (x1 : FVec Ideal S1024x512 .bf16) (j : S8320x512.Idx) :
    val_main_v2 (F := Ideal) x0 x1 j = Cert.Kernel17Ideal.Prod.prod x0 x1 (j 0) (j 1) := by
  pointwise [val_main_v2, val_main_v1, val_main_v0, Cert.Kernel17Ideal.Prod.prod]

end Cert.Reference17Ideal.ProdRef

namespace Cert.Prod17

open Idealize.ShloMosaic Idealize.ShloMosaic.TcCoe Idealize.SL.Sem

theorem reference_no_semaphore : ∀ s : SemLoc Cert.Reference17Ideal.sig, False := by decide

theorem reference_frame : Cert.quiescent_Reference17Ideal := fun m ρ _ =>
  (θ_run _ _ _).mono (fun _ h => ⟨fun c => (h c).2, funext fun s => (reference_no_semaphore s.2).elim⟩)
    (Cert.Reference17Ideal.Value.run m ρ)

theorem algebraic : Cert.algebraic_Kernel17Ideal_Reference17Ideal := by
  intro m g m' g' _ hag
  refine ⟨_, Cert.Kernel17Ideal.Value.run_blocks m g, (θ_run _ _ _).mono (fun r h c => ?_) (Cert.Reference17Ideal.Value.run m' g')⟩
  obtain ⟨e0, e1⟩ := hag c
  obtain ⟨h0, hrest⟩ := h c
  refine ⟨h0.trans ?_, hrest⟩
  rw [Cert.Reference17Ideal.Read.val_main_v2_eq, e0, e1]
  exact (funext fun j => Cert.Reference17Ideal.ProdRef.res _ _ j).trans (Cert.Kernel17Ideal.Prod.final2 m c).symm

end Cert.Prod17

end
-- ==== Proof.Prod18.lean ====
/- The exit product of the state-space branch. -/
module

public import proofs.«01_k».proof.Proof.Gen.Kernel18Ideal.Value
public import proofs.«01_k».proof.Proof.Gen.Reference18Ideal.Run
public import proofs.«01_k».proof.Proof.Gen.Reference18Ideal.Read
public import proofs.«01_k».proof.Defs
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.Kernel18Ideal.Prod

open Cert.Kernel18Ideal Cert.Kernel18Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- An entry of the product: the sum over the columns of the first factor. -/
def prod (A : FVec Ideal S8320x2048 .bf16) (B : FVec Ideal S2048x1024 .bf16) (p : Fin 8320) (q : Fin 1024) : EReal :=
  ∑ l : Fin 2048, A (ix2 p l) * B (ix2 l q)

theorem idx : ∀ t : Fin cfg0.N, win0_0.index t = ![t.val, 0] ∧ win0_1.index t = ![0, 0]
    ∧ win0_2.index t = ![t.val, 0] :=
  (by decide +kernel : ∀ t : Fin grid0.N, _)

theorem final2 : (dats m 0 c).arrAt 2 (cfgs 0).N
    = fun j : S8320x1024.Idx => prod (m ((c : Thread nD τ).loc main_arg0)) (m ((c : Thread nD τ).loc main_arg1)) (j 0) (j 1) := by
  refine (dats m 0 c).arrAt_eq_of_covers 2 _ (by decide +kernel) fun t _ y => ?_
  blk_simp
  rw [after0_2]
  unfold out0_2 prod
  frame_out
  obtain ⟨p, q, rfl⟩ : ∃ p q, y = ix2 p q := ⟨y 0, y 1, eq_ix2 y⟩
  pointwise [k0_pay1]
  blk_point [iblk, V, idx t]

end Cert.Kernel18Ideal.Prod

namespace Cert.Reference18Ideal.ProdRef

open Cert.Reference18Ideal Cert.Reference18Ideal.Read Idealize.ShloMosaic

theorem res (x0 : FVec Ideal S8320x2048 .bf16) (x1 : FVec Ideal S2048x1024 .bf16) (j : S8320x1024.Idx) :
    val_main_v3 (F := Ideal) x0 x1 j = Cert.Kernel18Ideal.Prod.prod x0 x1 (j 0) (j 1) := by
  pointwise [val_main_v3, val_main_v2, val_main_v1, val_main_v0, Cert.Kernel18Ideal.Prod.prod]

end Cert.Reference18Ideal.ProdRef

namespace Cert.Prod18

open Idealize.ShloMosaic Idealize.ShloMosaic.TcCoe Idealize.SL.Sem

theorem reference_no_semaphore : ∀ s : SemLoc Cert.Reference18Ideal.sig, False := by decide

theorem reference_frame : Cert.quiescent_Reference18Ideal := fun m ρ _ =>
  (θ_run _ _ _).mono (fun _ h => ⟨fun c => (h c).2, funext fun s => (reference_no_semaphore s.2).elim⟩)
    (Cert.Reference18Ideal.Value.run m ρ)

theorem algebraic : Cert.algebraic_Kernel18Ideal_Reference18Ideal := by
  intro m g m' g' _ hag
  refine ⟨_, Cert.Kernel18Ideal.Value.run_blocks m g, (θ_run _ _ _).mono (fun r h c => ?_) (Cert.Reference18Ideal.Value.run m' g')⟩
  obtain ⟨e0, e1⟩ := hag c
  obtain ⟨h0, hrest⟩ := h c
  refine ⟨h0.trans ?_, hrest⟩
  rw [Cert.Reference18Ideal.Read.val_main_v3_eq, e0, e1]
  exact (funext fun j => Cert.Reference18Ideal.ProdRef.res _ _ j).trans (Cert.Kernel18Ideal.Prod.final2 m c).symm

end Cert.Prod18

end
-- ==== Proof.Prod19.lean ====
/- The exit product of the attention branch. -/
module

public import proofs.«01_k».proof.Proof.Gen.Kernel19Ideal.Value
public import proofs.«01_k».proof.Proof.Gen.Reference19Ideal.Run
public import proofs.«01_k».proof.Proof.Gen.Reference19Ideal.Read
public import proofs.«01_k».proof.Defs
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.Kernel19Ideal.Prod

open Cert.Kernel19Ideal Cert.Kernel19Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- An entry of the product: the sum over the columns of the first factor. -/
def prod (A : FVec Ideal S8320x1024 .bf16) (B : FVec Ideal S1024x1024 .bf16) (p : Fin 8320) (q : Fin 1024) : EReal :=
  ∑ l : Fin 1024, A (ix2 p l) * B (ix2 l q)

theorem idx : ∀ t : Fin cfg0.N, win0_0.index t = ![t.val, 0] ∧ win0_1.index t = ![0, 0]
    ∧ win0_2.index t = ![t.val, 0] :=
  (by decide +kernel : ∀ t : Fin grid0.N, _)

theorem final2 : (dats m 0 c).arrAt 2 (cfgs 0).N
    = fun j : S8320x1024.Idx => prod (m ((c : Thread nD τ).loc main_arg0)) (m ((c : Thread nD τ).loc main_arg1)) (j 0) (j 1) := by
  refine (dats m 0 c).arrAt_eq_of_covers 2 _ (by decide +kernel) fun t _ y => ?_
  blk_simp
  rw [after0_2]
  unfold out0_2 prod
  frame_out
  obtain ⟨p, q, rfl⟩ : ∃ p q, y = ix2 p q := ⟨y 0, y 1, eq_ix2 y⟩
  pointwise [k0_pay1]
  blk_point [iblk, V, idx t]

end Cert.Kernel19Ideal.Prod

namespace Cert.Reference19Ideal.ProdRef

open Cert.Reference19Ideal Cert.Reference19Ideal.Read Idealize.ShloMosaic

theorem res (x0 : FVec Ideal S8320x1024 .bf16) (x1 : FVec Ideal S1024x1024 .bf16) (j : S8320x1024.Idx) :
    val_main_v3 (F := Ideal) x0 x1 j = Cert.Kernel19Ideal.Prod.prod x0 x1 (j 0) (j 1) := by
  pointwise [val_main_v3, val_main_v2, val_main_v1, val_main_v0, Cert.Kernel19Ideal.Prod.prod]

end Cert.Reference19Ideal.ProdRef

namespace Cert.Prod19

open Idealize.ShloMosaic Idealize.ShloMosaic.TcCoe Idealize.SL.Sem

theorem reference_no_semaphore : ∀ s : SemLoc Cert.Reference19Ideal.sig, False := by decide

theorem reference_frame : Cert.quiescent_Reference19Ideal := fun m ρ _ =>
  (θ_run _ _ _).mono (fun _ h => ⟨fun c => (h c).2, funext fun s => (reference_no_semaphore s.2).elim⟩)
    (Cert.Reference19Ideal.Value.run m ρ)

theorem algebraic : Cert.algebraic_Kernel19Ideal_Reference19Ideal := by
  intro m g m' g' _ hag
  refine ⟨_, Cert.Kernel19Ideal.Value.run_blocks m g, (θ_run _ _ _).mono (fun r h c => ?_) (Cert.Reference19Ideal.Value.run m' g')⟩
  obtain ⟨e0, e1⟩ := hag c
  obtain ⟨h0, hrest⟩ := h c
  refine ⟨h0.trans ?_, hrest⟩
  rw [Cert.Reference19Ideal.Read.val_main_v3_eq, e0, e1]
  exact (funext fun j => Cert.Reference19Ideal.ProdRef.res _ _ j).trans (Cert.Kernel19Ideal.Prod.final2 m c).symm

end Cert.Prod19

end
-- ==== Proof.Adam20.lean ====
/- The optimiser's step of the feed-forward's entry weights: the devices' gradients summed, and the moments and the change of the weights. -/
module

public import proofs.«01_k».proof.Proof.Gen.Kernel20Ideal.Value
public import proofs.«01_k».proof.Proof.Gen.Reference20Ideal.Run
public import proofs.«01_k».proof.Proof.Gen.Reference20Ideal.Read
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

namespace Cert.Kernel20Ideal.Adam

open Cert.Kernel20Ideal Cert.Kernel20Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The sum of the devices' gradients at an entry. -/
def grad (G : FVec Ideal S8x1024x704 .bf16) (p : Fin 1024) (q : Fin 704) : EReal := ∑ s : Fin 8, G (ix3 s p q)

/-- The first moment's next value. -/
def mom (G : FVec Ideal S8x1024x704 .bf16) (M : FVec Ideal S1024x704 .f32) (p : Fin 1024) (q : Fin 704) : EReal :=
  Ideal.ofBits .f32 0x3F666666#32 * M (ix2 p q) + Ideal.ofBits .f32 0x3DCCCCCD#32 * grad G p q

/-- The second moment's next value. -/
def vel (G : FVec Ideal S8x1024x704 .bf16) (V : FVec Ideal S1024x704 .f32) (p : Fin 1024) (q : Fin 704) : EReal :=
  Ideal.ofBits .f32 0x3F7FBE77#32 * V (ix2 p q) + Ideal.ofBits .f32 0x3A83126F#32 * (grad G p q * grad G p q)

/-- The change of the weight. -/
def delta (W : FVec Ideal S1024x704 .f32) (G : FVec Ideal S8x1024x704 .bf16) (M V : FVec Ideal S1024x704 .f32) (p : Fin 1024) (q : Fin 704) : EReal :=
  Ideal.ofBits .f32 0xBA83126F#32 * (Ideal.div (Ideal.div (mom G M p q) (Ideal.ofBits .f32 0x3F26BD02#32))
      (Ideal.sqrt (Ideal.div (vel G V p q) (Ideal.ofBits .f32 0x3C231ACC#32)) + Ideal.ofBits .f32 0x322BCC77#32)
    + Ideal.ofBits .f32 0x3C23D70A#32 * W (ix2 p q))

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The summed gradient, read where the point's block sits. -/
theorem grad_blk (t : Fin cfg0.N) (P : Fin 1024) (Q : Fin 704) (p : Fin 128) (q : Fin 704) (h0 : P.val = t.val * 128 + p.val) (h1 : Q.val = q.val) :
    k0_pay5 (F := Ideal) (iblk m c 0 t) (iblk m c 1 t) (iblk m c 2 t) (iblk m c 3 t) (ix2 p q)
      = grad (m ((c : Thread nD τ).loc main_arg1)) P Q := by
  unfold grad
  rw [Fin.sum_univ_eight]
  pointwise [k0_pay5, k0_pay4]
  blk_point [iblk, V, idx t]

theorem mom_blk (t : Fin cfg0.N) (P : Fin 1024) (Q : Fin 704) (p : Fin 128) (q : Fin 704) (h0 : P.val = t.val * 128 + p.val) (h1 : Q.val = q.val) :
    k0_pay1 (F := Ideal) (k0_pay5 (iblk m c 0 t) (iblk m c 1 t) (iblk m c 2 t) (iblk m c 3 t)) (iblk m c 2 t) (Ideal.ofBits .f32 0x3F666666#32) (ix2 p q)
      = mom (m ((c : Thread nD τ).loc main_arg1)) (m ((c : Thread nD τ).loc main_arg2)) P Q := by
  pointwise [k0_pay1, mom]
  rw [grad_blk m c t P Q p q h0 h1]
  refine Ideal.add_congr (Ideal.mul_congr rfl ?_) rfl
  blk_point [iblk, V, idx t]

theorem vel_blk (t : Fin cfg0.N) (P : Fin 1024) (Q : Fin 704) (p : Fin 128) (q : Fin 704) (h0 : P.val = t.val * 128 + p.val) (h1 : Q.val = q.val) :
    k0_pay2 (F := Ideal) (k0_pay5 (iblk m c 0 t) (iblk m c 1 t) (iblk m c 2 t) (iblk m c 3 t)) (iblk m c 3 t) (ix2 p q)
      = vel (m ((c : Thread nD τ).loc main_arg1)) (m ((c : Thread nD τ).loc main_arg3)) P Q := by
  pointwise [k0_pay2, vel]
  rw [grad_blk m c t P Q p q h0 h1]
  refine Ideal.add_congr (Ideal.mul_congr rfl ?_) rfl
  blk_point [iblk, V, idx t]

theorem delta_blk (t : Fin cfg0.N) (P : Fin 1024) (Q : Fin 704) (p : Fin 128) (q : Fin 704) (h0 : P.val = t.val * 128 + p.val) (h1 : Q.val = q.val) :
    k0_pay3 (F := Ideal) (k0_pay5 (iblk m c 0 t) (iblk m c 1 t) (iblk m c 2 t) (iblk m c 3 t)) (iblk m c 2 t) (Scalar.ofBits .f32 0x3F666666#32)
        (iblk m c 3 t) (iblk m c 0 t) (ix2 p q)
      = delta (m ((c : Thread nD τ).loc main_arg0)) (m ((c : Thread nD τ).loc main_arg1)) (m ((c : Thread nD τ).loc main_arg2))
          (m ((c : Thread nD τ).loc main_arg3)) P Q := by
  pointwise [k0_pay3, delta]
  rw [mom_blk m c t P Q p q h0 h1, vel_blk m c t P Q p q h0 h1]
  refine Ideal.mul_congr rfl (Ideal.add_congr rfl (Ideal.mul_congr rfl ?_))
  blk_point [iblk, V, idx t]

theorem final4 : (dats m 0 c).arrAt 4 (cfgs 0).N
    = fun j : S1024x704.Idx => grad (m ((c : Thread nD τ).loc main_arg1)) (j 0) (j 1) := by
  refine (dats m 0 c).arrAt_eq_of_covers 4 _ (by decide +kernel) fun t _ y => ?_
  blk_simp
  rw [after0_4]
  unfold out0_4
  frame_out
  refine (congrArg (k0_pay5 (F := Ideal) _ _ _ _) (eq_ix2 y)).trans (grad_blk m c t _ _ (y 0) (y 1) ?_ ?_) <;> blk_simp [idx t] <;> rfl

theorem final5 : (dats m 0 c).arrAt 5 (cfgs 0).N
    = fun j : S1024x704.Idx => delta (m ((c : Thread nD τ).loc main_arg0)) (m ((c : Thread nD τ).loc main_arg1)) (m ((c : Thread nD τ).loc main_arg2))
          (m ((c : Thread nD τ).loc main_arg3)) (j 0) (j 1) := by
  refine (dats m 0 c).arrAt_eq_of_covers 5 _ (by decide +kernel) fun t _ y => ?_
  blk_simp
  rw [after0_5]
  unfold out0_5
  frame_out
  refine (congrArg (k0_pay3 (F := Ideal) _ _ _ _ _) (eq_ix2 y)).trans (delta_blk m c t _ _ (y 0) (y 1) ?_ ?_) <;> blk_simp [idx t] <;> rfl

theorem final6 : (dats m 0 c).arrAt 6 (cfgs 0).N
    = fun j : S1024x704.Idx => mom (m ((c : Thread nD τ).loc main_arg1)) (m ((c : Thread nD τ).loc main_arg2)) (j 0) (j 1) := by
  refine (dats m 0 c).arrAt_eq_of_covers 6 _ (by decide +kernel) fun t _ y => ?_
  blk_simp
  rw [after0_6]
  unfold out0_6
  frame_out
  refine (congrArg (k0_pay1 (F := Ideal) _ _ _) (eq_ix2 y)).trans (mom_blk m c t _ _ (y 0) (y 1) ?_ ?_) <;> blk_simp [idx t] <;> rfl

theorem final7 : (dats m 0 c).arrAt 7 (cfgs 0).N
    = fun j : S1024x704.Idx => vel (m ((c : Thread nD τ).loc main_arg1)) (m ((c : Thread nD τ).loc main_arg3)) (j 0) (j 1) := by
  refine (dats m 0 c).arrAt_eq_of_covers 7 _ (by decide +kernel) fun t _ y => ?_
  blk_simp
  rw [after0_7]
  unfold out0_7
  frame_out
  refine (congrArg (k0_pay2 (F := Ideal) _ _) (eq_ix2 y)).trans (vel_blk m c t _ _ (y 0) (y 1) ?_ ?_) <;> blk_simp [idx t] <;> rfl

end Cert.Kernel20Ideal.Adam

namespace Cert.Reference20Ideal.AdamRef

open Cert.Reference20Ideal Cert.Reference20Ideal.Read Idealize.ShloMosaic
open Cert.Kernel20Ideal.Adam (grad mom vel delta)

variable (x0 : FVec Ideal S1024x704 .f32) (x1 : FVec Ideal S8x1024x704 .bf16) (x2 x3 : FVec Ideal S1024x704 .f32)

theorem res4 (j : S1024x704.Idx) : val_main_v1 (F := Ideal) x1 j = grad x1 (j 0) (j 1) := by
  pointwise [val_main_v1, val_main_v0, val_main_cst, grad]

theorem res6 (j : S1024x704.Idx) : val_main_v6 (F := Ideal) x1 x2 j = mom x1 x2 (j 0) (j 1) := by
  pointwise [val_main_v6, val_main_v5, val_main_v4, val_main_v3, val_main_v2, val_main_cst_0, val_main_cst_1, mom]
  rw [eq_ix2 j, res4]

theorem res7 (j : S1024x704.Idx) : val_main_v12 (F := Ideal) x1 x3 j = vel x1 x3 (j 0) (j 1) := by
  pointwise [val_main_v12, val_main_v11, val_main_v10, val_main_v9, val_main_v8, val_main_v7, val_main_cst_2, val_main_cst_3, vel]
  rw [eq_ix2 j, res4]

theorem res5 (j : S1024x704.Idx) : val_main_v25 (F := Ideal) x0 x1 x2 x3 j = delta x0 x1 x2 x3 (j 0) (j 1) := by
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8, delta]
  rw [eq_ix2 j, res6, res7]

end Cert.Reference20Ideal.AdamRef

namespace Cert.Adam20

open Idealize.ShloMosaic Idealize.ShloMosaic.TcCoe Idealize.SL.Sem

theorem reference_no_semaphore : ∀ s : SemLoc Cert.Reference20Ideal.sig, False := by decide

theorem reference_frame : Cert.quiescent_Reference20Ideal := fun m ρ _ =>
  (θ_run _ _ _).mono (fun _ h => ⟨fun c => (h c).2.2.2.2, funext fun s => (reference_no_semaphore s.2).elim⟩)
    (Cert.Reference20Ideal.Value.run m ρ)

theorem algebraic : Cert.algebraic_Kernel20Ideal_Reference20Ideal := by
  intro m g m' g' _ hag
  refine ⟨_, _, _, _, Cert.Kernel20Ideal.Value.run_blocks m g, (θ_run _ _ _).mono (fun r h c => ?_) (Cert.Reference20Ideal.Value.run m' g')⟩
  obtain ⟨e0, e1, e2, e3⟩ := hag c
  obtain ⟨h0, h1, h2, h3, hrest⟩ := h c
  refine ⟨h0.trans ?_, h1.trans ?_, h2.trans ?_, h3.trans ?_, hrest⟩
  · rw [Cert.Reference20Ideal.Read.val_main_v1_eq, e1]
    exact (funext fun j => Cert.Reference20Ideal.AdamRef.res4 _ j).trans (Cert.Kernel20Ideal.Adam.final4 m c).symm
  · rw [Cert.Reference20Ideal.Read.val_main_v25_eq, e0, e1, e2, e3]
    exact (funext fun j => Cert.Reference20Ideal.AdamRef.res5 _ _ _ _ j).trans (Cert.Kernel20Ideal.Adam.final5 m c).symm
  · rw [Cert.Reference20Ideal.Read.val_main_v6_eq, e1, e2]
    exact (funext fun j => Cert.Reference20Ideal.AdamRef.res6 _ _ j).trans (Cert.Kernel20Ideal.Adam.final6 m c).symm
  · rw [Cert.Reference20Ideal.Read.val_main_v12_eq, e1, e3]
    exact (funext fun j => Cert.Reference20Ideal.AdamRef.res7 _ _ j).trans (Cert.Kernel20Ideal.Adam.final7 m c).symm

end Cert.Adam20

end
-- ==== Proof.Adam21.lean ====
/- The optimiser's step of the mixer's entry weights: the devices' gradients summed, and the moments and the change of the weights. -/
module

public import proofs.«01_k».proof.Proof.Gen.Kernel21Ideal.Value
public import proofs.«01_k».proof.Proof.Gen.Reference21Ideal.Run
public import proofs.«01_k».proof.Proof.Gen.Reference21Ideal.Read
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

namespace Cert.Kernel21Ideal.Adam

open Cert.Kernel21Ideal Cert.Kernel21Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The sum of the devices' gradients at an entry. -/
def grad (G : FVec Ideal S8x1024x1060 .bf16) (p : Fin 1024) (q : Fin 1060) : EReal := ∑ s : Fin 8, G (ix3 s p q)

/-- The first moment's next value. -/
def mom (G : FVec Ideal S8x1024x1060 .bf16) (M : FVec Ideal S1024x1060 .f32) (p : Fin 1024) (q : Fin 1060) : EReal :=
  Ideal.ofBits .f32 0x3F666666#32 * M (ix2 p q) + Ideal.ofBits .f32 0x3DCCCCCD#32 * grad G p q

/-- The second moment's next value. -/
def vel (G : FVec Ideal S8x1024x1060 .bf16) (V : FVec Ideal S1024x1060 .f32) (p : Fin 1024) (q : Fin 1060) : EReal :=
  Ideal.ofBits .f32 0x3F7FBE77#32 * V (ix2 p q) + Ideal.ofBits .f32 0x3A83126F#32 * (grad G p q * grad G p q)

/-- The change of the weight. -/
def delta (W : FVec Ideal S1024x1060 .f32) (G : FVec Ideal S8x1024x1060 .bf16) (M V : FVec Ideal S1024x1060 .f32) (p : Fin 1024) (q : Fin 1060) : EReal :=
  Ideal.ofBits .f32 0xBA83126F#32 * (Ideal.div (Ideal.div (mom G M p q) (Ideal.ofBits .f32 0x3F26BD02#32))
      (Ideal.sqrt (Ideal.div (vel G V p q) (Ideal.ofBits .f32 0x3C231ACC#32)) + Ideal.ofBits .f32 0x322BCC77#32)
    + Ideal.ofBits .f32 0x3C23D70A#32 * W (ix2 p q))

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The summed gradient, read where the point's block sits. -/
theorem grad_blk (t : Fin cfg0.N) (P : Fin 1024) (Q : Fin 1060) (p : Fin 128) (q : Fin 1060) (h0 : P.val = t.val * 128 + p.val) (h1 : Q.val = q.val) :
    k0_pay5 (F := Ideal) (iblk m c 0 t) (iblk m c 1 t) (iblk m c 2 t) (iblk m c 3 t) (ix2 p q)
      = grad (m ((c : Thread nD τ).loc main_arg1)) P Q := by
  unfold grad
  rw [Fin.sum_univ_eight]
  pointwise [k0_pay5, k0_pay4]
  blk_point [iblk, V, idx t]

theorem mom_blk (t : Fin cfg0.N) (P : Fin 1024) (Q : Fin 1060) (p : Fin 128) (q : Fin 1060) (h0 : P.val = t.val * 128 + p.val) (h1 : Q.val = q.val) :
    k0_pay1 (F := Ideal) (k0_pay5 (iblk m c 0 t) (iblk m c 1 t) (iblk m c 2 t) (iblk m c 3 t)) (iblk m c 2 t) (Ideal.ofBits .f32 0x3F666666#32) (ix2 p q)
      = mom (m ((c : Thread nD τ).loc main_arg1)) (m ((c : Thread nD τ).loc main_arg2)) P Q := by
  pointwise [k0_pay1, mom]
  rw [grad_blk m c t P Q p q h0 h1]
  refine Ideal.add_congr (Ideal.mul_congr rfl ?_) rfl
  blk_point [iblk, V, idx t]

theorem vel_blk (t : Fin cfg0.N) (P : Fin 1024) (Q : Fin 1060) (p : Fin 128) (q : Fin 1060) (h0 : P.val = t.val * 128 + p.val) (h1 : Q.val = q.val) :
    k0_pay2 (F := Ideal) (k0_pay5 (iblk m c 0 t) (iblk m c 1 t) (iblk m c 2 t) (iblk m c 3 t)) (iblk m c 3 t) (ix2 p q)
      = vel (m ((c : Thread nD τ).loc main_arg1)) (m ((c : Thread nD τ).loc main_arg3)) P Q := by
  pointwise [k0_pay2, vel]
  rw [grad_blk m c t P Q p q h0 h1]
  refine Ideal.add_congr (Ideal.mul_congr rfl ?_) rfl
  blk_point [iblk, V, idx t]

theorem delta_blk (t : Fin cfg0.N) (P : Fin 1024) (Q : Fin 1060) (p : Fin 128) (q : Fin 1060) (h0 : P.val = t.val * 128 + p.val) (h1 : Q.val = q.val) :
    k0_pay3 (F := Ideal) (k0_pay5 (iblk m c 0 t) (iblk m c 1 t) (iblk m c 2 t) (iblk m c 3 t)) (iblk m c 2 t) (Scalar.ofBits .f32 0x3F666666#32)
        (iblk m c 3 t) (iblk m c 0 t) (ix2 p q)
      = delta (m ((c : Thread nD τ).loc main_arg0)) (m ((c : Thread nD τ).loc main_arg1)) (m ((c : Thread nD τ).loc main_arg2))
          (m ((c : Thread nD τ).loc main_arg3)) P Q := by
  pointwise [k0_pay3, delta]
  rw [mom_blk m c t P Q p q h0 h1, vel_blk m c t P Q p q h0 h1]
  refine Ideal.mul_congr rfl (Ideal.add_congr rfl (Ideal.mul_congr rfl ?_))
  blk_point [iblk, V, idx t]

theorem final4 : (dats m 0 c).arrAt 4 (cfgs 0).N
    = fun j : S1024x1060.Idx => grad (m ((c : Thread nD τ).loc main_arg1)) (j 0) (j 1) := by
  refine (dats m 0 c).arrAt_eq_of_covers 4 _ (by decide +kernel) fun t _ y => ?_
  blk_simp
  rw [after0_4]
  unfold out0_4
  frame_out
  refine (congrArg (k0_pay5 (F := Ideal) _ _ _ _) (eq_ix2 y)).trans (grad_blk m c t _ _ (y 0) (y 1) ?_ ?_) <;> blk_simp [idx t] <;> rfl

theorem final5 : (dats m 0 c).arrAt 5 (cfgs 0).N
    = fun j : S1024x1060.Idx => delta (m ((c : Thread nD τ).loc main_arg0)) (m ((c : Thread nD τ).loc main_arg1)) (m ((c : Thread nD τ).loc main_arg2))
          (m ((c : Thread nD τ).loc main_arg3)) (j 0) (j 1) := by
  refine (dats m 0 c).arrAt_eq_of_covers 5 _ (by decide +kernel) fun t _ y => ?_
  blk_simp
  rw [after0_5]
  unfold out0_5
  frame_out
  refine (congrArg (k0_pay3 (F := Ideal) _ _ _ _ _) (eq_ix2 y)).trans (delta_blk m c t _ _ (y 0) (y 1) ?_ ?_) <;> blk_simp [idx t] <;> rfl

theorem final6 : (dats m 0 c).arrAt 6 (cfgs 0).N
    = fun j : S1024x1060.Idx => mom (m ((c : Thread nD τ).loc main_arg1)) (m ((c : Thread nD τ).loc main_arg2)) (j 0) (j 1) := by
  refine (dats m 0 c).arrAt_eq_of_covers 6 _ (by decide +kernel) fun t _ y => ?_
  blk_simp
  rw [after0_6]
  unfold out0_6
  frame_out
  refine (congrArg (k0_pay1 (F := Ideal) _ _ _) (eq_ix2 y)).trans (mom_blk m c t _ _ (y 0) (y 1) ?_ ?_) <;> blk_simp [idx t] <;> rfl

theorem final7 : (dats m 0 c).arrAt 7 (cfgs 0).N
    = fun j : S1024x1060.Idx => vel (m ((c : Thread nD τ).loc main_arg1)) (m ((c : Thread nD τ).loc main_arg3)) (j 0) (j 1) := by
  refine (dats m 0 c).arrAt_eq_of_covers 7 _ (by decide +kernel) fun t _ y => ?_
  blk_simp
  rw [after0_7]
  unfold out0_7
  frame_out
  refine (congrArg (k0_pay2 (F := Ideal) _ _) (eq_ix2 y)).trans (vel_blk m c t _ _ (y 0) (y 1) ?_ ?_) <;> blk_simp [idx t] <;> rfl

end Cert.Kernel21Ideal.Adam

namespace Cert.Reference21Ideal.AdamRef

open Cert.Reference21Ideal Cert.Reference21Ideal.Read Idealize.ShloMosaic
open Cert.Kernel21Ideal.Adam (grad mom vel delta)

variable (x0 : FVec Ideal S1024x1060 .f32) (x1 : FVec Ideal S8x1024x1060 .bf16) (x2 x3 : FVec Ideal S1024x1060 .f32)

theorem res4 (j : S1024x1060.Idx) : val_main_v1 (F := Ideal) x1 j = grad x1 (j 0) (j 1) := by
  pointwise [val_main_v1, val_main_v0, val_main_cst, grad]

theorem res6 (j : S1024x1060.Idx) : val_main_v6 (F := Ideal) x1 x2 j = mom x1 x2 (j 0) (j 1) := by
  pointwise [val_main_v6, val_main_v5, val_main_v4, val_main_v3, val_main_v2, val_main_cst_0, val_main_cst_1, mom]
  rw [eq_ix2 j, res4]

theorem res7 (j : S1024x1060.Idx) : val_main_v12 (F := Ideal) x1 x3 j = vel x1 x3 (j 0) (j 1) := by
  pointwise [val_main_v12, val_main_v11, val_main_v10, val_main_v9, val_main_v8, val_main_v7, val_main_cst_2, val_main_cst_3, vel]
  rw [eq_ix2 j, res4]

theorem res5 (j : S1024x1060.Idx) : val_main_v25 (F := Ideal) x0 x1 x2 x3 j = delta x0 x1 x2 x3 (j 0) (j 1) := by
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8, delta]
  rw [eq_ix2 j, res6, res7]

end Cert.Reference21Ideal.AdamRef

namespace Cert.Adam21

open Idealize.ShloMosaic Idealize.ShloMosaic.TcCoe Idealize.SL.Sem

theorem reference_no_semaphore : ∀ s : SemLoc Cert.Reference21Ideal.sig, False := by decide

theorem reference_frame : Cert.quiescent_Reference21Ideal := fun m ρ _ =>
  (θ_run _ _ _).mono (fun _ h => ⟨fun c => (h c).2.2.2.2, funext fun s => (reference_no_semaphore s.2).elim⟩)
    (Cert.Reference21Ideal.Value.run m ρ)

theorem algebraic : Cert.algebraic_Kernel21Ideal_Reference21Ideal := by
  intro m g m' g' _ hag
  refine ⟨_, _, _, _, Cert.Kernel21Ideal.Value.run_blocks m g, (θ_run _ _ _).mono (fun r h c => ?_) (Cert.Reference21Ideal.Value.run m' g')⟩
  obtain ⟨e0, e1, e2, e3⟩ := hag c
  obtain ⟨h0, h1, h2, h3, hrest⟩ := h c
  refine ⟨h0.trans ?_, h1.trans ?_, h2.trans ?_, h3.trans ?_, hrest⟩
  · rw [Cert.Reference21Ideal.Read.val_main_v1_eq, e1]
    exact (funext fun j => Cert.Reference21Ideal.AdamRef.res4 _ j).trans (Cert.Kernel21Ideal.Adam.final4 m c).symm
  · rw [Cert.Reference21Ideal.Read.val_main_v25_eq, e0, e1, e2, e3]
    exact (funext fun j => Cert.Reference21Ideal.AdamRef.res5 _ _ _ _ j).trans (Cert.Kernel21Ideal.Adam.final5 m c).symm
  · rw [Cert.Reference21Ideal.Read.val_main_v6_eq, e1, e2]
    exact (funext fun j => Cert.Reference21Ideal.AdamRef.res6 _ _ j).trans (Cert.Kernel21Ideal.Adam.final6 m c).symm
  · rw [Cert.Reference21Ideal.Read.val_main_v12_eq, e1, e3]
    exact (funext fun j => Cert.Reference21Ideal.AdamRef.res7 _ _ j).trans (Cert.Kernel21Ideal.Adam.final7 m c).symm

end Cert.Adam21

end
-- ==== Proof.Adam22.lean ====
/- The optimiser's step of the four weights sharded by rows: the devices' gradients summed, and the moments and the change of the weights. -/
module

public import proofs.«01_k».proof.Proof.Gen.Kernel22Ideal.Value
public import proofs.«01_k».proof.Proof.Gen.Reference22Ideal.Run
public import proofs.«01_k».proof.Proof.Gen.Reference22Ideal.Read
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

namespace Cert.Kernel22Ideal.Adam

open Cert.Kernel22Ideal Cert.Kernel22Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The sum of the devices' gradients at an entry. -/
def grad (G : FVec Ideal S8x864x1024 .bf16) (p : Fin 864) (q : Fin 1024) : EReal := ∑ s : Fin 8, G (ix3 s p q)

/-- The first moment's next value. -/
def mom (G : FVec Ideal S8x864x1024 .bf16) (M : FVec Ideal S864x1024 .f32) (p : Fin 864) (q : Fin 1024) : EReal :=
  Ideal.ofBits .f32 0x3F666666#32 * M (ix2 p q) + Ideal.ofBits .f32 0x3DCCCCCD#32 * grad G p q

/-- The second moment's next value. -/
def vel (G : FVec Ideal S8x864x1024 .bf16) (V : FVec Ideal S864x1024 .f32) (p : Fin 864) (q : Fin 1024) : EReal :=
  Ideal.ofBits .f32 0x3F7FBE77#32 * V (ix2 p q) + Ideal.ofBits .f32 0x3A83126F#32 * (grad G p q * grad G p q)

/-- The change of the weight. -/
def delta (W : FVec Ideal S864x1024 .f32) (G : FVec Ideal S8x864x1024 .bf16) (M V : FVec Ideal S864x1024 .f32) (p : Fin 864) (q : Fin 1024) : EReal :=
  Ideal.ofBits .f32 0xBA83126F#32 * (Ideal.div (Ideal.div (mom G M p q) (Ideal.ofBits .f32 0x3F26BD02#32))
      (Ideal.sqrt (Ideal.div (vel G V p q) (Ideal.ofBits .f32 0x3C231ACC#32)) + Ideal.ofBits .f32 0x322BCC77#32)
    + Ideal.ofBits .f32 0x3C23D70A#32 * W (ix2 p q))

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The summed gradient, read where the point's block sits. -/
theorem grad_blk (t : Fin cfg0.N) (P : Fin 864) (Q : Fin 1024) (p : Fin 96) (q : Fin 1024) (h0 : P.val = t.val * 96 + p.val) (h1 : Q.val = q.val) :
    k0_pay5 (F := Ideal) (iblk m c 0 t) (iblk m c 1 t) (iblk m c 2 t) (iblk m c 3 t) (ix2 p q)
      = grad (m ((c : Thread nD τ).loc main_arg1)) P Q := by
  unfold grad
  rw [Fin.sum_univ_eight]
  pointwise [k0_pay5, k0_pay4]
  blk_point [iblk, V, idx t]

theorem mom_blk (t : Fin cfg0.N) (P : Fin 864) (Q : Fin 1024) (p : Fin 96) (q : Fin 1024) (h0 : P.val = t.val * 96 + p.val) (h1 : Q.val = q.val) :
    k0_pay1 (F := Ideal) (k0_pay5 (iblk m c 0 t) (iblk m c 1 t) (iblk m c 2 t) (iblk m c 3 t)) (iblk m c 2 t) (Ideal.ofBits .f32 0x3F666666#32) (ix2 p q)
      = mom (m ((c : Thread nD τ).loc main_arg1)) (m ((c : Thread nD τ).loc main_arg2)) P Q := by
  pointwise [k0_pay1, mom]
  rw [grad_blk m c t P Q p q h0 h1]
  refine Ideal.add_congr (Ideal.mul_congr rfl ?_) rfl
  blk_point [iblk, V, idx t]

theorem vel_blk (t : Fin cfg0.N) (P : Fin 864) (Q : Fin 1024) (p : Fin 96) (q : Fin 1024) (h0 : P.val = t.val * 96 + p.val) (h1 : Q.val = q.val) :
    k0_pay2 (F := Ideal) (k0_pay5 (iblk m c 0 t) (iblk m c 1 t) (iblk m c 2 t) (iblk m c 3 t)) (iblk m c 3 t) (ix2 p q)
      = vel (m ((c : Thread nD τ).loc main_arg1)) (m ((c : Thread nD τ).loc main_arg3)) P Q := by
  pointwise [k0_pay2, vel]
  rw [grad_blk m c t P Q p q h0 h1]
  refine Ideal.add_congr (Ideal.mul_congr rfl ?_) rfl
  blk_point [iblk, V, idx t]

theorem delta_blk (t : Fin cfg0.N) (P : Fin 864) (Q : Fin 1024) (p : Fin 96) (q : Fin 1024) (h0 : P.val = t.val * 96 + p.val) (h1 : Q.val = q.val) :
    k0_pay3 (F := Ideal) (k0_pay5 (iblk m c 0 t) (iblk m c 1 t) (iblk m c 2 t) (iblk m c 3 t)) (iblk m c 2 t) (Scalar.ofBits .f32 0x3F666666#32)
        (iblk m c 3 t) (iblk m c 0 t) (ix2 p q)
      = delta (m ((c : Thread nD τ).loc main_arg0)) (m ((c : Thread nD τ).loc main_arg1)) (m ((c : Thread nD τ).loc main_arg2))
          (m ((c : Thread nD τ).loc main_arg3)) P Q := by
  pointwise [k0_pay3, delta]
  rw [mom_blk m c t P Q p q h0 h1, vel_blk m c t P Q p q h0 h1]
  refine Ideal.mul_congr rfl (Ideal.add_congr rfl (Ideal.mul_congr rfl ?_))
  blk_point [iblk, V, idx t]

theorem final4 : (dats m 0 c).arrAt 4 (cfgs 0).N
    = fun j : S864x1024.Idx => grad (m ((c : Thread nD τ).loc main_arg1)) (j 0) (j 1) := by
  refine (dats m 0 c).arrAt_eq_of_covers 4 _ (by decide +kernel) fun t _ y => ?_
  blk_simp
  rw [after0_4]
  unfold out0_4
  frame_out
  refine (congrArg (k0_pay5 (F := Ideal) _ _ _ _) (eq_ix2 y)).trans (grad_blk m c t _ _ (y 0) (y 1) ?_ ?_) <;> blk_simp [idx t] <;> rfl

theorem final5 : (dats m 0 c).arrAt 5 (cfgs 0).N
    = fun j : S864x1024.Idx => delta (m ((c : Thread nD τ).loc main_arg0)) (m ((c : Thread nD τ).loc main_arg1)) (m ((c : Thread nD τ).loc main_arg2))
          (m ((c : Thread nD τ).loc main_arg3)) (j 0) (j 1) := by
  refine (dats m 0 c).arrAt_eq_of_covers 5 _ (by decide +kernel) fun t _ y => ?_
  blk_simp
  rw [after0_5]
  unfold out0_5
  frame_out
  refine (congrArg (k0_pay3 (F := Ideal) _ _ _ _ _) (eq_ix2 y)).trans (delta_blk m c t _ _ (y 0) (y 1) ?_ ?_) <;> blk_simp [idx t] <;> rfl

theorem final6 : (dats m 0 c).arrAt 6 (cfgs 0).N
    = fun j : S864x1024.Idx => mom (m ((c : Thread nD τ).loc main_arg1)) (m ((c : Thread nD τ).loc main_arg2)) (j 0) (j 1) := by
  refine (dats m 0 c).arrAt_eq_of_covers 6 _ (by decide +kernel) fun t _ y => ?_
  blk_simp
  rw [after0_6]
  unfold out0_6
  frame_out
  refine (congrArg (k0_pay1 (F := Ideal) _ _ _) (eq_ix2 y)).trans (mom_blk m c t _ _ (y 0) (y 1) ?_ ?_) <;> blk_simp [idx t] <;> rfl

theorem final7 : (dats m 0 c).arrAt 7 (cfgs 0).N
    = fun j : S864x1024.Idx => vel (m ((c : Thread nD τ).loc main_arg1)) (m ((c : Thread nD τ).loc main_arg3)) (j 0) (j 1) := by
  refine (dats m 0 c).arrAt_eq_of_covers 7 _ (by decide +kernel) fun t _ y => ?_
  blk_simp
  rw [after0_7]
  unfold out0_7
  frame_out
  refine (congrArg (k0_pay2 (F := Ideal) _ _) (eq_ix2 y)).trans (vel_blk m c t _ _ (y 0) (y 1) ?_ ?_) <;> blk_simp [idx t] <;> rfl

end Cert.Kernel22Ideal.Adam

namespace Cert.Reference22Ideal.AdamRef

open Cert.Reference22Ideal Cert.Reference22Ideal.Read Idealize.ShloMosaic
open Cert.Kernel22Ideal.Adam (grad mom vel delta)

variable (x0 : FVec Ideal S864x1024 .f32) (x1 : FVec Ideal S8x864x1024 .bf16) (x2 x3 : FVec Ideal S864x1024 .f32)

theorem res4 (j : S864x1024.Idx) : val_main_v1 (F := Ideal) x1 j = grad x1 (j 0) (j 1) := by
  pointwise [val_main_v1, val_main_v0, val_main_cst, grad]

theorem res6 (j : S864x1024.Idx) : val_main_v6 (F := Ideal) x1 x2 j = mom x1 x2 (j 0) (j 1) := by
  pointwise [val_main_v6, val_main_v5, val_main_v4, val_main_v3, val_main_v2, val_main_cst_0, val_main_cst_1, mom]
  rw [eq_ix2 j, res4]

theorem res7 (j : S864x1024.Idx) : val_main_v12 (F := Ideal) x1 x3 j = vel x1 x3 (j 0) (j 1) := by
  pointwise [val_main_v12, val_main_v11, val_main_v10, val_main_v9, val_main_v8, val_main_v7, val_main_cst_2, val_main_cst_3, vel]
  rw [eq_ix2 j, res4]

theorem res5 (j : S864x1024.Idx) : val_main_v25 (F := Ideal) x0 x1 x2 x3 j = delta x0 x1 x2 x3 (j 0) (j 1) := by
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8, delta]
  rw [eq_ix2 j, res6, res7]

end Cert.Reference22Ideal.AdamRef

namespace Cert.Adam22

open Idealize.ShloMosaic Idealize.ShloMosaic.TcCoe Idealize.SL.Sem

theorem reference_no_semaphore : ∀ s : SemLoc Cert.Reference22Ideal.sig, False := by decide

theorem reference_frame : Cert.quiescent_Reference22Ideal := fun m ρ _ =>
  (θ_run _ _ _).mono (fun _ h => ⟨fun c => (h c).2.2.2.2, funext fun s => (reference_no_semaphore s.2).elim⟩)
    (Cert.Reference22Ideal.Value.run m ρ)

theorem algebraic : Cert.algebraic_Kernel22Ideal_Reference22Ideal := by
  intro m g m' g' _ hag
  refine ⟨_, _, _, _, Cert.Kernel22Ideal.Value.run_blocks m g, (θ_run _ _ _).mono (fun r h c => ?_) (Cert.Reference22Ideal.Value.run m' g')⟩
  obtain ⟨e0, e1, e2, e3⟩ := hag c
  obtain ⟨h0, h1, h2, h3, hrest⟩ := h c
  refine ⟨h0.trans ?_, h1.trans ?_, h2.trans ?_, h3.trans ?_, hrest⟩
  · rw [Cert.Reference22Ideal.Read.val_main_v1_eq, e1]
    exact (funext fun j => Cert.Reference22Ideal.AdamRef.res4 _ j).trans (Cert.Kernel22Ideal.Adam.final4 m c).symm
  · rw [Cert.Reference22Ideal.Read.val_main_v25_eq, e0, e1, e2, e3]
    exact (funext fun j => Cert.Reference22Ideal.AdamRef.res5 _ _ _ _ j).trans (Cert.Kernel22Ideal.Adam.final5 m c).symm
  · rw [Cert.Reference22Ideal.Read.val_main_v6_eq, e1, e2]
    exact (funext fun j => Cert.Reference22Ideal.AdamRef.res6 _ _ j).trans (Cert.Kernel22Ideal.Adam.final6 m c).symm
  · rw [Cert.Reference22Ideal.Read.val_main_v12_eq, e1, e3]
    exact (funext fun j => Cert.Reference22Ideal.AdamRef.res7 _ _ j).trans (Cert.Kernel22Ideal.Adam.final7 m c).symm

end Cert.Adam22

end
-- ==== Proof.Adam23.lean ====
/- The optimiser's step of the small weights, packed: the devices' gradients summed, and the moments and the change of the weights. -/
module

public import proofs.«01_k».proof.Proof.Gen.Kernel23Ideal.Value
public import proofs.«01_k».proof.Proof.Gen.Reference23Ideal.Run
public import proofs.«01_k».proof.Proof.Gen.Reference23Ideal.Read
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

namespace Cert.Kernel23Ideal.Adam

open Cert.Kernel23Ideal Cert.Kernel23Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The sum of the devices' gradients at an entry. -/
def grad (G : FVec Ideal S8x496x128 .f32) (p : Fin 496) (q : Fin 128) : EReal := ∑ s : Fin 8, G (ix3 s p q)

/-- The first moment's next value. -/
def mom (G : FVec Ideal S8x496x128 .f32) (M : FVec Ideal S496x128 .f32) (p : Fin 496) (q : Fin 128) : EReal :=
  Ideal.ofBits .f32 0x3F666666#32 * M (ix2 p q) + Ideal.ofBits .f32 0x3DCCCCCD#32 * grad G p q

/-- The second moment's next value. -/
def vel (G : FVec Ideal S8x496x128 .f32) (V : FVec Ideal S496x128 .f32) (p : Fin 496) (q : Fin 128) : EReal :=
  Ideal.ofBits .f32 0x3F7FBE77#32 * V (ix2 p q) + Ideal.ofBits .f32 0x3A83126F#32 * (grad G p q * grad G p q)

/-- The change of the weight. -/
def delta (W : FVec Ideal S496x128 .f32) (G : FVec Ideal S8x496x128 .f32) (M V : FVec Ideal S496x128 .f32) (p : Fin 496) (q : Fin 128) : EReal :=
  Ideal.ofBits .f32 0xBA83126F#32 * (Ideal.div (Ideal.div (mom G M p q) (Ideal.ofBits .f32 0x3F26BD02#32))
      (Ideal.sqrt (Ideal.div (vel G V p q) (Ideal.ofBits .f32 0x3C231ACC#32)) + Ideal.ofBits .f32 0x322BCC77#32)
    + Ideal.ofBits .f32 0x3C23D70A#32 * W (ix2 p q))

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem final4 : (dats m 0 c).arrAt 4 (cfgs 0).N
    = fun j : S496x128.Idx => grad (m ((c : Thread nD τ).loc main_arg1)) (j 0) (j 1) := by
  refine (dats m 0 c).arrAt_eq_of_covers 4 _ (by decide +kernel) fun t _ y => ?_
  blk_simp
  rw [after0_4]
  unfold out0_4
  frame_out
  refine (congrArg (k0_pay3 (F := Ideal) _ _ _ _ _ _ _ _) (eq_ix2 y)).trans ?_
  simp only [grad, Fin.sum_univ_eight]
  pointwise [k0_pay3]
  blk_point [iblk, V, idx t]

theorem final5 : (dats m 0 c).arrAt 5 (cfgs 0).N
    = fun j : S496x128.Idx => delta (m ((c : Thread nD τ).loc main_arg0)) (m ((c : Thread nD τ).loc main_arg1)) (m ((c : Thread nD τ).loc main_arg2)) (m ((c : Thread nD τ).loc main_arg3)) (j 0) (j 1) := by
  refine (dats m 0 c).arrAt_eq_of_covers 5 _ (by decide +kernel) fun t _ y => ?_
  blk_simp
  rw [after0_5]
  unfold out0_5
  frame_out
  refine (congrArg (k0_pay2 (F := Ideal) _ _ _ _) (eq_ix2 y)).trans ?_
  pointwise [k0_pay2, k0_pay1, k0_pay4, delta, mom, vel]
  refine Ideal.mul_congr rfl (Ideal.add_congr (congrArg₂ Ideal.div (congrArg (Ideal.div · _) (Ideal.add_congr (Ideal.mul_congr rfl ?_) (Ideal.mul_congr rfl ?_)))
    (Ideal.add_congr (congrArg Ideal.sqrt (congrArg (Ideal.div · _) (Ideal.add_congr (Ideal.mul_congr rfl ?_) (Ideal.mul_congr rfl (Ideal.mul_congr ?_ ?_))))) rfl))
    (Ideal.mul_congr rfl ?_))
  · blk_point [iblk, V, idx t]
  · simp only [grad, Fin.sum_univ_eight]
    pointwise [k0_pay3]
    blk_point [iblk, V, idx t]
  · blk_point [iblk, V, idx t]
  · simp only [grad, Fin.sum_univ_eight]
    pointwise [k0_pay3]
    blk_point [iblk, V, idx t]
  · simp only [grad, Fin.sum_univ_eight]
    pointwise [k0_pay3]
    blk_point [iblk, V, idx t]
  · blk_point [iblk, V, idx t]

theorem final6 : (dats m 0 c).arrAt 6 (cfgs 0).N
    = fun j : S496x128.Idx => mom (m ((c : Thread nD τ).loc main_arg1)) (m ((c : Thread nD τ).loc main_arg2)) (j 0) (j 1) := by
  refine (dats m 0 c).arrAt_eq_of_covers 6 _ (by decide +kernel) fun t _ y => ?_
  blk_simp
  rw [after0_6]
  unfold out0_6
  frame_out
  refine (congrArg (k0_pay4 (F := Ideal) _ _ _ _ _ _ _ _ _) (eq_ix2 y)).trans ?_
  pointwise [k0_pay4, mom]
  refine Ideal.add_congr (Ideal.mul_congr rfl ?_) (Ideal.mul_congr rfl ?_)
  · blk_point [iblk, V, idx t]
  · simp only [grad, Fin.sum_univ_eight]
    pointwise [k0_pay3]
    blk_point [iblk, V, idx t]

theorem final7 : (dats m 0 c).arrAt 7 (cfgs 0).N
    = fun j : S496x128.Idx => vel (m ((c : Thread nD τ).loc main_arg1)) (m ((c : Thread nD τ).loc main_arg3)) (j 0) (j 1) := by
  refine (dats m 0 c).arrAt_eq_of_covers 7 _ (by decide +kernel) fun t _ y => ?_
  blk_simp
  rw [after0_7]
  unfold out0_7
  frame_out
  refine (congrArg (k0_pay1 (F := Ideal) _ _) (eq_ix2 y)).trans ?_
  pointwise [k0_pay1, vel]
  refine Ideal.add_congr (Ideal.mul_congr rfl ?_) (Ideal.mul_congr rfl (Ideal.mul_congr ?_ ?_))
  · blk_point [iblk, V, idx t]
  · simp only [grad, Fin.sum_univ_eight]
    pointwise [k0_pay3]
    blk_point [iblk, V, idx t]
  · simp only [grad, Fin.sum_univ_eight]
    pointwise [k0_pay3]
    blk_point [iblk, V, idx t]

end Cert.Kernel23Ideal.Adam

namespace Cert.Reference23Ideal.AdamRef

open Cert.Reference23Ideal Cert.Reference23Ideal.Read Idealize.ShloMosaic
open Cert.Kernel23Ideal.Adam (grad mom vel delta)

variable (x0 : FVec Ideal S496x128 .f32) (x1 : FVec Ideal S8x496x128 .f32) (x2 x3 : FVec Ideal S496x128 .f32)

theorem res4 (j : S496x128.Idx) : val_main_v0 (F := Ideal) x1 j = grad x1 (j 0) (j 1) := by
  pointwise [val_main_v0, val_main_cst, grad]

theorem res6 (j : S496x128.Idx) : val_main_v5 (F := Ideal) x1 x2 j = mom x1 x2 (j 0) (j 1) := by
  pointwise [val_main_v5, val_main_v4, val_main_v3, val_main_v2, val_main_v1, val_main_cst_0, val_main_cst_1, mom]
  rw [eq_ix2 j, res4]

theorem res7 (j : S496x128.Idx) : val_main_v11 (F := Ideal) x1 x3 j = vel x1 x3 (j 0) (j 1) := by
  pointwise [val_main_v11, val_main_v10, val_main_v9, val_main_v8, val_main_v7, val_main_v6, val_main_cst_2, val_main_cst_3, vel]
  rw [eq_ix2 j, res4]

theorem res5 (j : S496x128.Idx) : val_main_v24 (F := Ideal) x0 x1 x2 x3 j = delta x0 x1 x2 x3 (j 0) (j 1) := by
  pointwise [val_main_v24, val_main_v23, val_main_v22, val_main_v21, val_main_v20, val_main_v19, val_main_v18, val_main_v17, val_main_v16, val_main_v15, val_main_v14, val_main_v13, val_main_v12, val_main_cst_4, val_main_cst_5, val_main_cst_6, val_main_cst_7, val_main_cst_8, delta]
  rw [eq_ix2 j, res6, res7]

end Cert.Reference23Ideal.AdamRef

namespace Cert.Adam23

open Idealize.ShloMosaic Idealize.ShloMosaic.TcCoe Idealize.SL.Sem

theorem reference_no_semaphore : ∀ s : SemLoc Cert.Reference23Ideal.sig, False := by decide

theorem reference_frame : Cert.quiescent_Reference23Ideal := fun m ρ _ =>
  (θ_run _ _ _).mono (fun _ h => ⟨fun c => (h c).2.2.2.2, funext fun s => (reference_no_semaphore s.2).elim⟩)
    (Cert.Reference23Ideal.Value.run m ρ)

theorem algebraic : Cert.algebraic_Kernel23Ideal_Reference23Ideal := by
  intro m g m' g' _ hag
  refine ⟨_, _, _, _, Cert.Kernel23Ideal.Value.run_blocks m g, (θ_run _ _ _).mono (fun r h c => ?_) (Cert.Reference23Ideal.Value.run m' g')⟩
  obtain ⟨e0, e1, e2, e3⟩ := hag c
  obtain ⟨h0, h1, h2, h3, hrest⟩ := h c
  refine ⟨h0.trans ?_, h1.trans ?_, h2.trans ?_, h3.trans ?_, hrest⟩
  · rw [Cert.Reference23Ideal.Read.val_main_v0_eq, e1]
    exact (funext fun j => Cert.Reference23Ideal.AdamRef.res4 _ j).trans (Cert.Kernel23Ideal.Adam.final4 m c).symm
  · rw [Cert.Reference23Ideal.Read.val_main_v24_eq, e0, e1, e2, e3]
    exact (funext fun j => Cert.Reference23Ideal.AdamRef.res5 _ _ _ _ j).trans (Cert.Kernel23Ideal.Adam.final5 m c).symm
  · rw [Cert.Reference23Ideal.Read.val_main_v5_eq, e1, e2]
    exact (funext fun j => Cert.Reference23Ideal.AdamRef.res6 _ _ j).trans (Cert.Kernel23Ideal.Adam.final6 m c).symm
  · rw [Cert.Reference23Ideal.Read.val_main_v11_eq, e1, e3]
    exact (funext fun j => Cert.Reference23Ideal.AdamRef.res7 _ _ j).trans (Cert.Kernel23Ideal.Adam.final7 m c).symm

end Cert.Adam23

end
-- ==== Proof.MergeFwd.lean ====
/- The gated merge, its output projection, the residual and the second normalisation: the kernel's results and the reference's. -/
module

public import proofs.«01_k».proof.Defs
public import proofs.«01_k».proof.Proof.Gen.Kernel24Ideal.Value
public import proofs.«01_k».proof.Proof.Gen.Reference24Ideal.Read
public import proofs.«01_k».proof.Proof.Gen.Reference24Ideal.Run
public import proofs.«01_k».proof.Proof.Scalars
public import Idealize.ShloMosaic.Lib.Pointwise
public import Idealize.ShloMosaic.Lib.WordCmp
public import Idealize.ShloMosaic.Lib.Pipeline.ValueKit
public import Idealize.ShloMosaic.Adequacy
public import Idealize.ShloMosaic.Init

@[expose] public section

set_option maxRecDepth 16384

noncomputable section

namespace Cert.Kernel24Ideal.MergeFwd

open Cert.Kernel24Ideal Cert.Kernel24Ideal.Gen Idealize.ShloMosaic Idealize.ShloMosaic.TcCoe Idealize.SL.Sem
open Idealize.ShloMosaic.Pipeline (Dat)

variable (m : (ℓ : Loc nD τ sig) → Buf (Elt Ideal) ℓ)

/-- One of the two gates, at a row and a column. -/
def gate (X : FVec Ideal S8320x2048 .f32) (B : FVec Ideal S2x1024 .f32) (g : Fin 2) (r : Fin 8320) (c : Fin 1024) : EReal :=
  Ideal.logistic (X (ix2 r ⟨g.val * 1024 + c.val, by omega⟩) + B (ix2 g c))

/-- The merged rows: each branch by its gate. -/
def merged (X : FVec Ideal S8320x2048 .f32) (Y0 Y1 : FVec Ideal S8320x1024 .bf16) (B : FVec Ideal S2x1024 .f32) (r : Fin 8320) (c : Fin 1024) : EReal :=
  gate X B 0 r c * Y0 (ix2 r c) + gate X B 1 r c * Y1 (ix2 r c)

/-- The rows after the projection and the residual; the padding rows keep what they had. -/
def h1 (X : FVec Ideal S8320x2048 .f32) (Y0 Y1 : FVec Ideal S8320x1024 .bf16) (B : FVec Ideal S2x1024 .f32) (W : FVec Ideal S1024x1024 .bf16)
    (H : FVec Ideal S8320x1024 .f32) (r : Fin 8320) (c : Fin 1024) : EReal :=
  (if 112 ≤ r.val then ∑ k : Fin 1024, merged X Y0 Y1 B r k * W (ix2 k c) else 0) + H (ix2 r c)

/-- The same rows normalised. -/
def normed (X : FVec Ideal S8320x2048 .f32) (Y0 Y1 : FVec Ideal S8320x1024 .bf16) (B : FVec Ideal S2x1024 .f32) (W : FVec Ideal S1024x1024 .bf16)
    (H : FVec Ideal S8320x1024 .f32) (N : FVec Ideal S1x1024 .f32) (r : Fin 8320) (c : Fin 1024) : EReal :=
  h1 X Y0 Y1 B W H r c * Ideal.rsqrt (Ideal.div (∑ k : Fin 1024, h1 X Y0 Y1 B W H r k * h1 X Y0 Y1 B W H r k) (Ideal.ofBits .f32 0x44800000#32)
    + Ideal.ofBits .f32 0x358637BD#32) * N (ix2 0 c)

theorem idx : ∀ t : Fin cfg0.N, win0_0.index t = ![t.val, 0] ∧ win0_1.index t = ![t.val, 1] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![t.val, 0] ∧ win0_9.index t = ![t.val, 0] ∧ win0_10.index t = ![t.val, 0]
    ∧ (grid0.coords t 0).val = t.val :=
  (by decide +kernel : ∀ t : Fin grid0.N, _)

/-- A point's merged rows. -/
def mergedBlk (c : Dev nD) (t : Fin cfg0.N) : FVec Ideal S416x1024 .bf16 :=
  k0_pay3 (F := Ideal) (iblk m c 0 t) (View.ld (iblk m c 4 t) (Rect.unit ![0, 0] ![1, 1024] inb_S2x1024_S1x1024_0_0)) (iblk m c 2 t)
    (iblk m c 1 t) (View.ld (iblk m c 4 t) (Rect.unit ![1, 0] ![1, 1024] inb_S2x1024_S1x1024_1_0)) (iblk m c 3 t)

/-- A point's rows after the residual. -/
def h1Blk (c : Dev nD) (t : Fin cfg0.N) : FVec Ideal S416x1024 .f32 :=
  k0_pay1 (F := Ideal) (mergedBlk m c t) (k0_pay4 (grid0.coords t)) k0_pay5 (iblk m c 5 t) (iblk m c 6 t)

section Points
variable (c : Dev nD) (t : Fin cfg0.N)

theorem merged_blk (R : Fin 8320) (C : Fin 1024) (r : Fin 416) (k : Fin 1024) (h0 : R.val = t.val * 416 + r.val) (h1 : C.val = k.val) :
    mergedBlk m c t (ix2 r k) = merged (m ((c : Thread nD τ).loc main_arg0)) (m ((c : Thread nD τ).loc main_arg1))
      (m ((c : Thread nD τ).loc main_arg2)) (m ((c : Thread nD τ).loc main_arg3)) R C := by
  unfold mergedBlk merged gate
  pointwise [k0_pay3]
  refine Ideal.add_congr (Ideal.mul_congr ((Scalars.logistic _).trans (congrArg Ideal.logistic ?_)) ?_)
    (Ideal.mul_congr ((Scalars.logistic _).trans (congrArg Ideal.logistic ?_)) ?_)
  · blk_point [iblk, V, idx t]
  · blk_point [iblk, V, idx t]
  · blk_point [iblk, V, idx t]
  · blk_point [iblk, V, idx t]

theorem h1_blk (R : Fin 8320) (C : Fin 1024) (r : Fin 416) (k : Fin 1024) (h0 : R.val = t.val * 416 + r.val) (h1' : C.val = k.val) :
    h1Blk m c t (ix2 r k) = h1 (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) R C := by
  unfold h1Blk h1
  pointwise [k0_pay1, k0_pay4, k0_pay5]
  refine Ideal.add_congr ?_ ?_
  · have hi : (grid0.coords t 0).val < 20 := (grid0.coords t 0).isLt
    have ha := (idx t).2.2.2.2.2.2.2.2.2.2.2
    have hw := r.isLt
    have he : IntOp.cmpi CmpIPredicate.sge (IntOp.addi (Scalar.muli (BitVec.ofNat 32 (grid0.coords t 0).val) 416#32) (BitVec.ofNat 32 ↑r)) 112#32
        = BitVec.ofBool (decide (112 ≤ R.val)) := by
      unfold Scalar.muli
      rw [ha] at hi ⊢
      rw [WordCmp.muli_ofNat, WordCmp.addi_ofNat, WordCmp.cmpi_sge_ofNat (by omega) (by omega), h0]
    rw [he]
    by_cases h : 112 ≤ R.val
    · rw [if_pos h, decide_eq_true h]
      rw [Scalar.select]
      refine (if_pos rfl).trans (Finset.sum_congr rfl fun q _ => Ideal.mul_congr (merged_blk m c t R q r q h0 rfl) ?_)
      blk_point [iblk, V, idx t]
    · rw [if_neg h, decide_eq_false h]; rfl
  · blk_point [iblk, V, idx t]

end Points

theorem final8 (c : Dev nD) : (dats m 0 c).arrAt 8 (cfgs 0).N
    = fun j : S8320x1024.Idx => merged (m ((c : Thread nD τ).loc main_arg0)) (m ((c : Thread nD τ).loc main_arg1))
      (m ((c : Thread nD τ).loc main_arg2)) (m ((c : Thread nD τ).loc main_arg3)) (j 0) (j 1) := by
  refine (dats m 0 c).arrAt_eq_of_covers 8 _ (by decide +kernel) fun t _ y => ?_
  blk_simp
  rw [after0_8]
  unfold out0_8
  frame_out
  refine (congrArg (mergedBlk m c t) (eq_ix2 y)).trans (merged_blk m c t _ _ (y 0) (y 1) ?_ ?_) <;> blk_simp [idx t] <;> rfl

theorem final9 (c : Dev nD) : (dats m 0 c).arrAt 9 (cfgs 0).N
    = fun j : S8320x1024.Idx => h1 (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (j 0) (j 1) := by
  refine (dats m 0 c).arrAt_eq_of_covers 9 _ (by decide +kernel) fun t _ y => ?_
  blk_simp
  rw [after0_9]
  unfold out0_9 k0_pay6 k0_pay7 k0_pay8
  frame_out
  refine (congrArg (h1Blk m c t) (eq_ix2 y)).trans (h1_blk m c t _ _ (y 0) (y 1) ?_ ?_) <;> blk_simp [idx t] <;> rfl

theorem normed_at (a : FVec Ideal S416x1024 .bf16) (b d : IVec S416x1 32) (w : FVec Ideal S1024x1024 .bf16) (h : FVec Ideal S416x1024 .f32)
    (n : FVec Ideal S1x1024 .f32) (r : Fin 416) (c : Fin 1024) :
    k0_pay2 (F := Ideal) a b d w h n (ix2 r c) = k0_pay1 (F := Ideal) a b d w h (ix2 r c)
      * Ideal.rsqrt (Ideal.div (∑ k : Fin 1024, k0_pay1 (F := Ideal) a b d w h (ix2 r k) * k0_pay1 (F := Ideal) a b d w h (ix2 r k))
        (Ideal.ofBits .f32 0x44800000#32) + Ideal.ofBits .f32 0x358637BD#32) * n (ix2 0 c) := by
  pointwise [k0_pay2]

theorem final10 (c : Dev nD) : (dats m 0 c).arrAt 10 (cfgs 0).N
    = fun j : S8320x1024.Idx => normed (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (j 0) (j 1) := by
  refine (dats m 0 c).arrAt_eq_of_covers 10 _ (by decide +kernel) fun t _ y => ?_
  blk_simp
  rw [after0_10]
  unfold out0_10 k0_pay6 k0_pay7 k0_pay8
  frame_out
  refine (congrArg (k0_pay2 (F := Ideal) (mergedBlk m c t) (k0_pay4 (grid0.coords t)) k0_pay5 (iblk m c 5 t) (iblk m c 6 t) (iblk m c 7 t)) (eq_ix2 y)).trans ?_
  refine (normed_at _ _ _ _ _ _ (y 0) (y 1)).trans ?_
  have key : ∀ k : Fin 1024, h1Blk m c t (ix2 (y 0) k) = h1 (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (((cfg0.win 10).blk t).view.emb y 0) k := fun k =>
    h1_blk m c t _ _ (y 0) k (by blk_simp [idx t]) rfl
  unfold normed
  refine Ideal.mul_congr (Ideal.mul_congr ?_ (congrArg Ideal.rsqrt (Ideal.add_congr (congrArg₂ Ideal.div (Finset.sum_congr rfl fun k _ => ?_) rfl) rfl))) ?_
  · refine h1_blk m c t _ _ (y 0) (y 1) ?_ ?_ <;> blk_simp [idx t] <;> rfl
  · exact Ideal.mul_congr (key k) (key k)
  · blk_point [iblk, V, idx t]

end Cert.Kernel24Ideal.MergeFwd

namespace Cert.Reference24Ideal.MergeFwdRef

open Cert.Reference24Ideal Cert.Reference24Ideal.Gen Cert.Reference24Ideal.Read Idealize.ShloMosaic Idealize.ShloMosaic.TcCoe Idealize.SL.Sem
open Cert.Kernel24Ideal.MergeFwd (gate merged h1 normed)

variable (x0 : FVec Ideal S8320x2048 .f32) (x1 x2 : FVec Ideal S8320x1024 .bf16) (x3 : FVec Ideal S2x1024 .f32)
  (x4 : FVec Ideal S1024x1024 .bf16) (x5 : FVec Ideal S8320x1024 .f32) (x6 : FVec Ideal S1x1024 .f32)

theorem merged_eq (r : Fin 8320) (c : Fin 1024) : val_main_v34 (F := Ideal) x0 x1 x2 x3 (ix2 r c) = merged x0 x1 x2 x3 r c := by
  unfold merged gate
  pointwise [val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_cst, val_main_cst_0, val_main_cst_1, val_main_cst_2]
  rfl

theorem one_of_true : (FloatOps.uitofp (F := Ideal) FTy.f32 (BitVec.ofBool true) : EReal) = 1 := by
  show (((_ : ℕ) : ℝ) : EReal) = _
  simp

theorem zero_of_false : (FloatOps.uitofp (F := Ideal) FTy.f32 (BitVec.ofBool false) : EReal) = 0 := by
  show (((_ : ℕ) : ℝ) : EReal) = _
  simp

theorem h1_eq (r : Fin 8320) (c : Fin 1024) : val_main_v40 (F := Ideal) x0 x1 x2 x3 x4 x5 (ix2 r c) = h1 x0 x1 x2 x3 x4 x5 r c := by
  unfold h1
  pointwise [val_main_v40, val_main_v39, val_main_v38, val_main_v37, val_main_v36, val_main_v35, val_main_v4, val_main_v3, val_main_v2, val_main_v1,
    val_main_v0, val_main_c]
  simp only [merged_eq]
  rw [show (112#32 : BitVec 32) = BitVec.ofNat 32 112 from rfl, WordCmp.cmpi_sge_ofNat (by omega) (by omega), add_comm]
  refine Ideal.add_congr ?_ rfl
  by_cases h : 112 ≤ r.val
  · rw [if_pos h, decide_eq_true h]
    exact (Ideal.mul_congr one_of_true rfl).trans (one_mul _)
  · rw [if_neg h, decide_eq_false h]
    exact (Ideal.mul_congr zero_of_false rfl).trans (zero_mul _)

theorem res8 (j : S8320x1024.Idx) : val_main_v34 (F := Ideal) x0 x1 x2 x3 j = merged x0 x1 x2 x3 (j 0) (j 1) := by
  obtain ⟨r, c, rfl⟩ : ∃ r c, j = ix2 r c := ⟨j 0, j 1, eq_ix2 j⟩
  exact merged_eq x0 x1 x2 x3 r c

theorem res9 (j : S8320x1024.Idx) : val_main_v40 (F := Ideal) x0 x1 x2 x3 x4 x5 j = h1 x0 x1 x2 x3 x4 x5 (j 0) (j 1) := by
  obtain ⟨r, c, rfl⟩ : ∃ r c, j = ix2 r c := ⟨j 0, j 1, eq_ix2 j⟩
  exact h1_eq x0 x1 x2 x3 x4 x5 r c

theorem res10 (j : S8320x1024.Idx) : val_main_v53 (F := Ideal) x0 x1 x2 x3 x4 x5 x6 j = normed x0 x1 x2 x3 x4 x5 x6 (j 0) (j 1) := by
  obtain ⟨r, c, rfl⟩ : ∃ r c, j = ix2 r c := ⟨j 0, j 1, eq_ix2 j⟩
  unfold normed
  pointwise [val_main_v53, val_main_v52, val_main_v51, val_main_v50, val_main_v49, val_main_v48, val_main_v47, val_main_v46, val_main_v45,
    val_main_v44, val_main_v43, val_main_v42, val_main_v41, val_main_cst_3, val_main_cst_4, val_main_cst_5]
  simp only [h1_eq, zero_add]

end Cert.Reference24Ideal.MergeFwdRef

namespace Cert.MergeFwd

open Idealize.ShloMosaic Idealize.ShloMosaic.TcCoe Idealize.SL.Sem

theorem reference_no_semaphore : ∀ s : SemLoc Cert.Reference24Ideal.sig, False := by decide

/-- The reference runs to the end on every input. -/
theorem reference_frame : Cert.quiescent_Reference24Ideal := fun m ρ _ =>
  (θ_run _ _ _).mono (fun _ h => ⟨fun c => (h c).2.2.2, funext fun s => (reference_no_semaphore s.2).elim⟩)
    (Cert.Reference24Ideal.Value.run m ρ)

/-- The kernel's three results are the reference's. -/
theorem algebraic : Cert.algebraic_Kernel24Ideal_Reference24Ideal := by
  intro m g m' g' _ hag
  refine ⟨_, _, _, Cert.Kernel24Ideal.Value.run_blocks m g, (θ_run _ _ _).mono (fun r h c => ?_) (Cert.Reference24Ideal.Value.run m' g')⟩
  obtain ⟨e0, e1, e2, e3, e4, e5, e6⟩ := hag c
  obtain ⟨h0, h1, h2, hrest⟩ := h c
  refine ⟨h0.trans ?_, h1.trans ?_, h2.trans ?_, hrest⟩
  · rw [Cert.Reference24Ideal.Read.val_main_v34_eq, e0, e1, e2, e3]
    exact (funext fun j => Cert.Reference24Ideal.MergeFwdRef.res8 _ _ _ _ j).trans (Cert.Kernel24Ideal.MergeFwd.final8 m c).symm
  · rw [Cert.Reference24Ideal.Read.val_main_v40_eq, e0, e1, e2, e3, e4, e5]
    exact (funext fun j => Cert.Reference24Ideal.MergeFwdRef.res9 _ _ _ _ _ _ j).trans (Cert.Kernel24Ideal.MergeFwd.final9 m c).symm
  · rw [Cert.Reference24Ideal.Read.val_main_v53_eq, e0, e1, e2, e3, e4, e5, e6]
    exact (funext fun j => Cert.Reference24Ideal.MergeFwdRef.res10 _ _ _ _ _ _ _ j).trans (Cert.Kernel24Ideal.MergeFwd.final10 m c).symm

end Cert.MergeFwd

end
-- ==== Proof.RmsFwd.lean ====
/- The first normalisation: the kernel's result and the reference's. -/
module

public import proofs.«01_k».proof.Defs
public import proofs.«01_k».proof.Proof.Gen.Kernel25Ideal.Value
public import proofs.«01_k».proof.Proof.Gen.Reference25Ideal.Read
public import proofs.«01_k».proof.Proof.Gen.Reference25Ideal.Run
public import Idealize.ShloMosaic.Lib.Pointwise
public import Idealize.ShloMosaic.Lib.Claim
public import Idealize.ShloMosaic.Lib.Pipeline.ValueKit
public import Idealize.ShloMosaic.Adequacy
public import Idealize.ShloMosaic.Init

@[expose] public section

set_option maxRecDepth 16384

noncomputable section

namespace Cert.Kernel25Ideal.RmsFwd

open Cert.Kernel25Ideal Cert.Kernel25Ideal.Gen Idealize.ShloMosaic Idealize.ShloMosaic.TcCoe Idealize.SL.Sem
open Idealize.ShloMosaic.Pipeline (Dat)

variable (m : (ℓ : Loc nD τ sig) → Buf (Elt Ideal) ℓ)

/-- The normalised rows. -/
def normed (X : FVec Ideal S8320x1024 .f32) (N : FVec Ideal S1x1024 .f32) (r : Fin 8320) (c : Fin 1024) : EReal :=
  X (ix2 r c) * Ideal.rsqrt (Ideal.div (∑ k : Fin 1024, X (ix2 r k) * X (ix2 r k)) (Ideal.ofBits .f32 0x44800000#32)
    + Ideal.ofBits .f32 0x358637BD#32) * N (ix2 0 c)

theorem idx : ∀ t : Fin cfg0.N, win0_0.index t = ![t.val, 0] ∧ win0_1.index t = ![0, 0] ∧ win0_2.index t = ![t.val, 0] :=
  (by decide +kernel : ∀ t : Fin grid0.N, _)

theorem final2 (c : Dev nD) : (dats m 0 c).arrAt 2 (cfgs 0).N
    = fun j : S8320x1024.Idx => normed (m ((c : Thread nD τ).loc main_arg0)) (m ((c : Thread nD τ).loc main_arg1)) (j 0) (j 1) := by
  refine (dats m 0 c).arrAt_eq_of_covers 2 _ (by decide +kernel) fun t _ y => ?_
  blk_simp
  rw [after0_2]
  unfold out0_2
  frame_out
  unfold normed
  pointwise [k0_pay1]
  refine Ideal.mul_congr (Ideal.mul_congr ?_ (congrArg Ideal.rsqrt (Ideal.add_congr (congrArg₂ Ideal.div (Finset.sum_congr rfl fun k _ => ?_) rfl) rfl))) ?_
  · blk_point [iblk, V, idx t]
  · refine Ideal.mul_congr ?_ ?_ <;> blk_point [iblk, V, idx t]
  · blk_point [iblk, V, idx t]

end Cert.Kernel25Ideal.RmsFwd

namespace Cert.Reference25Ideal.RmsFwdRef

open Cert.Reference25Ideal Cert.Reference25Ideal.Gen Cert.Reference25Ideal.Read Idealize.ShloMosaic Idealize.ShloMosaic.TcCoe Idealize.SL.Sem
open Cert.Kernel25Ideal.RmsFwd (normed)

theorem res (x0 : FVec Ideal S8320x1024 .f32) (x1 : FVec Ideal S1x1024 .f32) (j : S8320x1024.Idx) :
    val_main_v12 (F := Ideal) x0 x1 j = normed x0 x1 (j 0) (j 1) := by
  obtain ⟨r, c, rfl⟩ : ∃ r c, j = ix2 r c := ⟨j 0, j 1, eq_ix2 j⟩
  unfold normed
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

end Cert.Reference25Ideal.RmsFwdRef

namespace Cert.RmsFwd

open Idealize.ShloMosaic Idealize.ShloMosaic.TcCoe Idealize.SL.Sem

theorem reference_no_semaphore : ∀ s : SemLoc Cert.Reference25Ideal.sig, False := by decide

/-- The reference runs to the end on every input. -/
theorem reference_frame : Cert.quiescent_Reference25Ideal := fun m ρ _ =>
  (θ_run _ _ _).mono (fun _ h => ⟨fun c => (h c).2, funext fun s => (reference_no_semaphore s.2).elim⟩)
    (Cert.Reference25Ideal.Value.run m ρ)

/-- The kernel's result is the reference's. -/
theorem algebraic : Cert.algebraic_Kernel25Ideal_Reference25Ideal := by
  intro m g m' g' _ hag
  refine ⟨_, Cert.Kernel25Ideal.Value.run_blocks m g, (θ_run _ _ _).mono (fun r h c => ?_) (Cert.Reference25Ideal.Value.run m' g')⟩
  obtain ⟨e0, e1⟩ := hag c
  obtain ⟨h0, hrest⟩ := h c
  refine ⟨h0.trans ?_, hrest⟩
  rw [Cert.Reference25Ideal.Read.val_main_v12_eq, e0, e1]
  exact (funext fun j => Cert.Reference25Ideal.RmsFwdRef.res _ _ j).trans (Cert.Kernel25Ideal.RmsFwd.final2 m c).symm

end Cert.RmsFwd

end
-- ==== Proof.EntryConv.lean ====
/- The entry projection followed by the causal convolution of four taps: the kernel's results and the reference's. -/
module

public import proofs.«01_k».proof.Defs
public import proofs.«01_k».proof.Proof.Gen.Kernel26Ideal.Value
public import proofs.«01_k».proof.Proof.Gen.Reference26Ideal.Read
public import proofs.«01_k».proof.Proof.Gen.Reference26Ideal.Run
public import Idealize.ShloMosaic.Lib.Pointwise
public import Idealize.ShloMosaic.Lib.WordCmp
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel26Ideal.EntryConv

open Cert.Kernel26Ideal Cert.Kernel26Ideal.Gen Idealize.ShloMosaic Idealize.ShloMosaic.TcCoe Idealize.SL.Sem
open Idealize.ShloMosaic.Pipeline (Dat)

variable (m : (ℓ : Loc nD τ sig) → Buf (Elt Ideal) ℓ)

/-- The projected rows. -/
def rows (U : FVec Ideal S8320x1024 .bf16) (W : FVec Ideal S1024x3072 .bf16) (r : Fin 8320) (c : Fin 3072) : EReal :=
  ∑ k : Fin 1024, U (ix2 r k) * W (ix2 k c)

/-- The projected rows `s` rows earlier, and zero before the first. -/
def back (U : FVec Ideal S8320x1024 .bf16) (W : FVec Ideal S1024x3072 .bf16) (s : ℕ) (r : Fin 8320) (c : Fin 3072) : EReal :=
  if s ≤ r.val then rows U W ⟨r.val - s, by omega⟩ c else 0

/-- The convolution along the rows. -/
def conv (U : FVec Ideal S8320x1024 .bf16) (W : FVec Ideal S1024x3072 .bf16) (K : FVec Ideal S4x3072 .f32) (B : FVec Ideal S1x3072 .f32)
    (r : Fin 8320) (c : Fin 3072) : EReal :=
  B (ix2 0 c) + K (ix2 0 c) * back U W 3 r c + K (ix2 1 c) * back U W 2 r c + K (ix2 2 c) * back U W 1 r c + K (ix2 3 c) * back U W 0 r c

theorem idx : ∀ t : Fin cfg0.N, win0_0.index t = ![min (t.val % 11) 9, 0] ∧ win0_1.index t = ![0, t.val / 11]
    ∧ win0_2.index t = ![0, t.val / 11] ∧ win0_3.index t = ![0, t.val / 11]
    ∧ win0_4.index t = ![t.val % 11 - 1, t.val / 11] ∧ win0_5.index t = ![t.val % 11 - 1, t.val / 11]
    ∧ (grid0.coords t 1).val = t.val % 11 :=
  (by decide +kernel : ∀ t : Fin grid0.N, _)

theorem flush4 : ∀ t : Fin cfg0.N, (cfg0.win 4).flush t = true → t.val % 11 ≠ 0 :=
  (by decide +kernel : ∀ t : Fin grid0.N, win0_4.flush t = true → t.val % 11 ≠ 0)

theorem flush5 : ∀ t : Fin cfg0.N, (cfg0.win 5).flush t = true → t.val % 11 ≠ 0 :=
  (by decide +kernel : ∀ t : Fin grid0.N, win0_5.flush t = true → t.val % 11 ≠ 0)

section Points
variable (c : Dev nD)

/-- What the products' buffer holds after a point. -/
theorem held (t : Fin cfg0.N) : (outsAt0 m c t.val t.isLt).2.2.1 = k0_pay4 (F := Ideal) (k0_pay7 (iblk m c 0 t) (iblk m c 1 t)) := by
  by_cases h : t.val % 66 = 0
  · rw [outsAt0_A m c t h]
    frame_out
  · rw [outsAt0_B m c t h]
    frame_out

/-- What the buffer of the last rows holds after a point. -/
theorem tail (t : Fin cfg0.N) (h : ¬ t.val % 66 = 0) : (outsAt0 m c t.val t.isLt).2.2.2
    = k0_pay3 (F := Ideal) (outsAt0 m c (t.val - 1) (Nat.lt_of_le_of_lt (Nat.sub_le _ _) t.isLt)).2.2.1 := by
  rw [outsAt0_B m c t h]
  frame_out
  try rw [read_unread_whole]

/-- The point before `t`. -/
def prev (t : Fin cfg0.N) : Fin cfg0.N := ⟨t.val - 1, Nat.lt_of_le_of_lt (Nat.sub_le _ _) t.isLt⟩

/-- A point's products, where its block sits. -/
theorem rows_blk (t : Fin cfg0.N) (ht : t.val % 11 < 10) (R : Fin 8320) (C : Fin 3072) (r : Fin 832) (k : Fin 512)
    (h0 : R.val = t.val % 11 * 832 + r.val) (h1 : C.val = t.val / 11 * 512 + k.val) :
    (outsAt0 m c t.val t.isLt).2.2.1 (ix2 r k) = rows (m ((c : Thread nD τ).loc main_arg0)) (m ((c : Thread nD τ).loc main_arg1)) R C := by
  rw [held]
  unfold rows
  pointwise [k0_pay4, k0_pay7]
  have hm : min (t.val % 11) 9 = t.val % 11 := by omega
  blk_point [iblk, V, idx t, hm]

theorem first_tile (a : ℕ) (ha : a < 11) : Scalar.cmpi .sge (BitVec.ofNat 32 a) 2#32 = BitVec.ofBool (decide (2 ≤ a)) := by
  unfold Scalar.cmpi
  rw [show (2#32 : BitVec 32) = BitVec.ofNat 32 2 from rfl, WordCmp.cmpi_sge_ofNat (by omega) (by omega)]

/-- The rows the convolution reads at a point: those of the point before, after the eight rows that precede them. -/
theorem shift_blk (t : Fin cfg0.N) (ht : t.val % 11 ≠ 0) (s : ℕ) (hs : s ≤ 8) (R : Fin 8320) (C : Fin 3072) (q : Fin 840) (k : Fin 512)
    (h0 : R.val + 840 = t.val % 11 * 832 + q.val + s) (hq : 8 ≤ q.val + s) (h1 : C.val = t.val / 11 * 512 + k.val) :
    k0_pay8 (F := Ideal) (grid0.coords t) (outsAt0 m c (prev t).val (prev t).isLt).2.2.1 (outsAt0 m c (prev t).val (prev t).isLt).2.2.2 (ix2 q k)
      = back (m ((c : Thread nD τ).loc main_arg0)) (m ((c : Thread nD τ).loc main_arg1)) s R C := by
  have hN : t.val < 66 := lt_of_lt_of_eq t.isLt N_0
  have hq' := q.isLt
  have hp : (prev t).val = t.val - 1 := rfl
  unfold back
  pointwise [k0_pay8]
  rw [(idx t).2.2.2.2.2.2, first_tile _ (by omega)]
  by_cases hc : q.val < 8
  · rw [dif_pos hc]
    by_cases h2 : 2 ≤ t.val % 11
    · rw [decide_eq_true h2, if_pos (by omega)]
      have hr := rows_blk m c (prev (prev t)) (by simp only [prev]; omega) ⟨R.val - s, by omega⟩ C ⟨824 + q.val, by omega⟩ k
        (by simp only [prev]; omega) (by simp only [prev]; omega)
      refine (congrFun (tail m c (prev t) (by omega)) _).trans ?_
      refine Eq.trans ?_ hr
      pointwise [k0_pay3]
      rfl
    · rw [decide_eq_false h2, if_neg (by omega)]
      rfl
  · rw [dif_neg hc]
    refine Eq.trans ?_ (if_pos (by omega)).symm
    exact rows_blk m c (prev t) (by omega) ⟨R.val - s, by omega⟩ C _ k (by simp only []; omega) (by omega)

/-- The taps' rows, read where the point's block sits. -/
theorem tap0 (t : Fin cfg0.N) (C : Fin 3072) (k : Fin 512) (h1 : C.val = t.val / 11 * 512 + k.val) :
    View.ld (iblk m c 2 t) (Rect.unit ![0, 0] ![1, 512] inb_S4x512_S1x512_0_0) (ix2 0 k) = m ((c : Thread nD τ).loc main_arg2) (ix2 0 C) := by
  blk_point [iblk, V, idx t]

theorem tap1 (t : Fin cfg0.N) (C : Fin 3072) (k : Fin 512) (h1 : C.val = t.val / 11 * 512 + k.val) :
    View.ld (iblk m c 2 t) (Rect.unit ![1, 0] ![1, 512] inb_S4x512_S1x512_1_0) (ix2 0 k) = m ((c : Thread nD τ).loc main_arg2) (ix2 1 C) := by
  blk_point [iblk, V, idx t]

theorem tap2 (t : Fin cfg0.N) (C : Fin 3072) (k : Fin 512) (h1 : C.val = t.val / 11 * 512 + k.val) :
    View.ld (iblk m c 2 t) (Rect.unit ![2, 0] ![1, 512] inb_S4x512_S1x512_2_0) (ix2 0 k) = m ((c : Thread nD τ).loc main_arg2) (ix2 2 C) := by
  blk_point [iblk, V, idx t]

theorem tap3 (t : Fin cfg0.N) (C : Fin 3072) (k : Fin 512) (h1 : C.val = t.val / 11 * 512 + k.val) :
    View.ld (iblk m c 2 t) (Rect.unit ![3, 0] ![1, 512] inb_S4x512_S1x512_3_0) (ix2 0 k) = m ((c : Thread nD τ).loc main_arg2) (ix2 3 C) := by
  blk_point [iblk, V, idx t]

/-- A point's convolution, before it is placed. -/
theorem conv_at (i : grid0.Coords) (v8 : FVec Ideal S832x512 .f32) (v10 : FVec Ideal S8x512 .f32) (b w0 w1 w2 w3 : FVec Ideal S1x512 .f32)
    (r : Fin 832) (k : Fin 512) :
    k0_pay1 (F := Ideal) (k0_pay8 i v8 v10) (k0_pay9 i v8 v10 b w0 w1) w2 (k0_pay10 i v8 v10) w3 (ix2 r k)
      = b (ix2 0 k) + w0 (ix2 0 k) * k0_pay8 (F := Ideal) i v8 v10 (ix2 ⟨r.val + 5, by omega⟩ k)
        + w1 (ix2 0 k) * k0_pay8 (F := Ideal) i v8 v10 (ix2 ⟨r.val + 6, by omega⟩ k)
        + w2 (ix2 0 k) * k0_pay8 (F := Ideal) i v8 v10 (ix2 ⟨r.val + 7, by omega⟩ k)
        + w3 (ix2 0 k) * k0_pay8 (F := Ideal) i v8 v10 (ix2 ⟨r.val + 8, by omega⟩ k) := by
  generalize hx : k0_pay8 (F := Ideal) i v8 v10 = x
  have h9 : k0_pay9 (F := Ideal) i v8 v10 b w0 w1 (ix2 r k) = b (ix2 0 k) + w0 (ix2 0 k) * x (ix2 ⟨r.val + 5, by omega⟩ k)
      + w1 (ix2 0 k) * x (ix2 ⟨r.val + 6, by omega⟩ k) := by
    unfold k0_pay9
    rw [hx]
    pointwise
    exact Ideal.add_congr (Ideal.add_congr rfl (Ideal.mul_congr rfl (congrArg x (congrArg (fun q : Fin 840 => ix2 q k) (Fin.ext (by show (8 + r.val + 840 - 3) % 840 = r.val + 5; omega))))))
      (Ideal.mul_congr rfl (congrArg x (congrArg (fun q : Fin 840 => ix2 q k) (Fin.ext (by show (8 + r.val + 840 - 2) % 840 = r.val + 6; omega)))))
  have h10 : k0_pay10 (F := Ideal) i v8 v10 (ix2 r k) = x (ix2 ⟨r.val + 7, by omega⟩ k) := by
    unfold k0_pay10
    rw [hx]
    pointwise
    exact congrArg x (congrArg (fun q : Fin 840 => ix2 q k) (Fin.ext (by show (8 + r.val + 840 - 1) % 840 = r.val + 7; omega)))
  generalize k0_pay9 (F := Ideal) i v8 v10 b w0 w1 = y at h9 ⊢
  generalize k0_pay10 (F := Ideal) i v8 v10 = z at h10 ⊢
  pointwise [k0_pay1]
  rw [h9, h10]
  exact Ideal.add_congr rfl (Ideal.mul_congr rfl (congrArg x (congrArg (fun q : Fin 840 => ix2 q k) (Fin.ext (by show 8 + r.val = r.val + 8; omega)))))

end Points

theorem final4 (c : Dev nD) : (dats m 0 c).arrAt 4 (cfgs 0).N
    = fun j : S8320x3072.Idx => rows (m ((c : Thread nD τ).loc main_arg0)) (m ((c : Thread nD τ).loc main_arg1)) (j 0) (j 1) := by
  refine (dats m 0 c).arrAt_eq_of_covers 4 _ (by decide +kernel) fun t hf y => ?_
  have ht := flush4 t hf
  have hN : t.val < 66 := lt_of_lt_of_eq t.isLt N_0
  blk_simp
  rw [after0_4, outsAt0_B m c t (by omega)]
  frame_out
  rw [read_unread_whole]
  unfold k0_pay2
  refine (congrArg (outsAt0 m c (prev t).val (prev t).isLt).2.2.1 (eq_ix2 y)).trans (rows_blk m c (prev t) (by simp only [prev]; omega) _ _ (y 0) (y 1) ?_ ?_)
  · blk_simp [idx t]
    simp only [prev]
    omega
  · blk_simp [idx t]
    simp only [prev]
    omega

theorem final5 (c : Dev nD) : (dats m 0 c).arrAt 5 (cfgs 0).N
    = fun j : S8320x3072.Idx => conv (m ((c : Thread nD τ).loc main_arg0)) (m ((c : Thread nD τ).loc main_arg1))
      (m ((c : Thread nD τ).loc main_arg2)) (m ((c : Thread nD τ).loc main_arg3)) (j 0) (j 1) := by
  refine (dats m 0 c).arrAt_eq_of_covers 5 _ (by decide +kernel) fun t hf y => ?_
  have ht := flush5 t hf
  have hN : t.val < 66 := lt_of_lt_of_eq t.isLt N_0
  have hy : (y 0).val < 832 := (y 0).isLt
  blk_simp
  rw [after0_5, outsAt0_B m c t (by omega)]
  frame_out
  rw [read_unread_whole, read_unread_whole]
  refine (congrArg (k0_pay1 (F := Ideal) _ _ _ _ _) (eq_ix2 y)).trans ?_
  refine (conv_at _ _ _ _ _ _ _ _ (y 0) (y 1)).trans ?_
  obtain ⟨R, hR⟩ : ∃ R : Fin 8320, R = ((View.whole main_v0_1).slice (win0_5.rect t)).emb y 0 := ⟨_, rfl⟩
  obtain ⟨C, hC⟩ : ∃ C : Fin 3072, C = ((View.whole main_v0_1).slice (win0_5.rect t)).emb y 1 := ⟨_, rfl⟩
  have h0 : R.val = (t.val % 11 - 1) * 832 + (y 0).val := by
    rw [hR]
    blk_simp [idx t]
  have h1 : C.val = t.val / 11 * 512 + (y 1).val := by
    rw [hC]
    blk_simp [idx t]
  rw [← hR, ← hC]
  unfold conv
  have hb : iblk m c 3 t (ix2 0 (y 1)) = m ((c : Thread nD τ).loc main_arg3) (ix2 0 C) := by
    blk_point [iblk, V, idx t]
  refine Ideal.add_congr (Ideal.add_congr (Ideal.add_congr (Ideal.add_congr hb ?_) ?_) ?_) ?_
  · exact Ideal.mul_congr (tap0 m c t C (y 1) h1) (shift_blk m c t ht 3 (by omega) R C _ (y 1) (by simp only []; omega) (by simp only []; omega) h1)
  · exact Ideal.mul_congr (tap1 m c t C (y 1) h1) (shift_blk m c t ht 2 (by omega) R C _ (y 1) (by simp only []; omega) (by simp only []; omega) h1)
  · exact Ideal.mul_congr (tap2 m c t C (y 1) h1) (shift_blk m c t ht 1 (by omega) R C _ (y 1) (by simp only []; omega) (by simp only []; omega) h1)
  · exact Ideal.mul_congr (tap3 m c t C (y 1) h1) (shift_blk m c t ht 0 (by omega) R C _ (y 1) (by simp only []; omega) (by simp only []; omega) h1)

end Cert.Kernel26Ideal.EntryConv

namespace Cert.Reference26Ideal.EntryConvRef

open Cert.Reference26Ideal Cert.Reference26Ideal.Gen Cert.Reference26Ideal.Read Idealize.ShloMosaic Idealize.ShloMosaic.TcCoe Idealize.SL.Sem
open Cert.Kernel26Ideal.EntryConv (rows back conv)

variable (x0 : FVec Ideal S8320x1024 .bf16) (x1 : FVec Ideal S1024x3072 .bf16) (x2 : FVec Ideal S4x3072 .f32) (x3 : FVec Ideal S1x3072 .f32)

theorem res4 (j : S8320x3072.Idx) : val_main_v3 (F := Ideal) x0 x1 j = rows x0 x1 (j 0) (j 1) := by
  obtain ⟨r, c, rfl⟩ : ∃ r c, j = ix2 r c := ⟨j 0, j 1, eq_ix2 j⟩
  unfold rows
  pointwise [val_main_v3, val_main_v2, val_main_v1, val_main_v0]

theorem pad_eq (s : ℕ) (hs : s ≤ 3) (r : Fin 8320) (c : Fin 3072) (q : Fin 8323) (h : q.val + s = r.val + 3) :
    val_main_v5 (F := Ideal) x0 x1 (ix2 q c) = back x0 x1 s r c := by
  unfold back rows
  pointwise [val_main_v5, val_main_v4, val_main_v2, val_main_v1, val_main_v0, val_main_cst]
  by_cases hc : q.val < 3
  · rw [dif_pos hc, if_neg (by omega)]
  · rw [dif_neg hc]
    refine Eq.trans ?_ (if_pos (by omega)).symm
    exact Finset.sum_congr rfl fun k _ => Ideal.mul_congr (congrArg x0 (congrArg (fun a : Fin 8320 => ix2 a k) (Fin.ext (by simp only []; omega)))) rfl

theorem bias_first (a b c d e : EReal) : a + b + c + d + e = e + a + b + c + d := by
  rw [add_comm, ← add_assoc, ← add_assoc, ← add_assoc]

theorem res5 (j : S8320x3072.Idx) : val_main_v36 (F := Ideal) x0 x1 x2 x3 j = conv x0 x1 x2 x3 (j 0) (j 1) := by
  obtain ⟨r, c, rfl⟩ : ∃ r c, j = ix2 r c := ⟨j 0, j 1, eq_ix2 j⟩
  have hr := r.isLt
  unfold conv
  pointwise [val_main_v36, val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7,
    val_main_v6, val_main_cst_0]
  refine (bias_first _ _ _ _ _).trans ?_
  refine Ideal.add_congr (Ideal.add_congr (Ideal.add_congr (Ideal.add_congr rfl ?_) ?_) ?_) ?_
  · exact Ideal.mul_congr rfl (pad_eq x0 x1 3 (by omega) r c _ rfl)
  · exact Ideal.mul_congr rfl (pad_eq x0 x1 2 (by omega) r c _ (by simp only []; omega))
  · exact Ideal.mul_congr rfl (pad_eq x0 x1 1 (by omega) r c _ (by simp only []; omega))
  · exact Ideal.mul_congr rfl (pad_eq x0 x1 0 (by omega) r c _ (by simp only []; omega))

end Cert.Reference26Ideal.EntryConvRef

namespace Cert.EntryConv

open Idealize.ShloMosaic Idealize.ShloMosaic.TcCoe Idealize.SL.Sem

theorem reference_no_semaphore : ∀ s : SemLoc Cert.Reference26Ideal.sig, False := by decide

/-- The reference runs to the end on every input. -/
theorem reference_frame : Cert.quiescent_Reference26Ideal := fun m ρ _ =>
  (θ_run _ _ _).mono (fun _ h => ⟨fun c => (h c).2.2, funext fun s => (reference_no_semaphore s.2).elim⟩)
    (Cert.Reference26Ideal.Value.run m ρ)

/-- The kernel's two results are the reference's. -/
theorem algebraic : Cert.algebraic_Kernel26Ideal_Reference26Ideal := by
  intro m g m' g' _ hag
  refine ⟨_, _, Cert.Kernel26Ideal.Value.run_blocks m g, (θ_run _ _ _).mono (fun r h c => ?_) (Cert.Reference26Ideal.Value.run m' g')⟩
  obtain ⟨e0, e1, e2, e3⟩ := hag c
  obtain ⟨h0, h1, hrest⟩ := h c
  refine ⟨h0.trans ?_, h1.trans ?_, hrest⟩
  · rw [Cert.Reference26Ideal.Read.val_main_v3_eq, e0, e1]
    exact (funext fun j => Cert.Reference26Ideal.EntryConvRef.res4 _ _ j).trans (Cert.Kernel26Ideal.EntryConv.final4 m c).symm
  · rw [Cert.Reference26Ideal.Read.val_main_v36_eq, e0, e1, e2, e3]
    exact (funext fun j => Cert.Reference26Ideal.EntryConvRef.res5 _ _ _ _ j).trans (Cert.Kernel26Ideal.EntryConv.final5 m c).symm

end Cert.EntryConv

end
-- ==== Proof.FfnIn.lean ====
/- The entry projection of the feed-forward part, its causal convolution of three taps and the gated product: the kernel's results and the reference's. -/
module

public import proofs.«01_k».proof.Defs
public import proofs.«01_k».proof.Proof.Gen.Kernel27Ideal.Value
public import proofs.«01_k».proof.Proof.Gen.Reference27Ideal.Read
public import proofs.«01_k».proof.Proof.Gen.Reference27Ideal.Run
public import proofs.«01_k».proof.Proof.Scalars
public import Idealize.ShloMosaic.Lib.Pointwise
public import Idealize.ShloMosaic.Lib.WordCmp
public import Idealize.ShloMosaic.Lib.Pipeline.ValueKit
public import Idealize.ShloMosaic.Lib.Pipeline.ValueKit.Stack
public import Idealize.ShloMosaic.Lib.Pipeline.ReadBack
public import Idealize.ShloMosaic.Adequacy
public import Idealize.ShloMosaic.Init

@[expose] public section

set_option maxRecDepth 16384

noncomputable section

namespace Cert.Kernel27Ideal.FfnIn

open Cert.Kernel27Ideal Cert.Kernel27Ideal.Gen Idealize.ShloMosaic Idealize.ShloMosaic.TcCoe Idealize.SL.Sem
open Idealize.ShloMosaic.Pipeline (Dat)

variable (m : (ℓ : Loc nD τ sig) → Buf (Elt Ideal) ℓ)

/-- The projected rows. -/
def rows (U : FVec Ideal S8320x1024 .bf16) (W : FVec Ideal S1024x5632 .bf16) (r : Fin 8320) (c : Fin 5632) : EReal :=
  ∑ k : Fin 1024, U (ix2 r k) * W (ix2 k c)

/-- The projected rows `s` rows earlier, and zero before the first. -/
def back (U : FVec Ideal S8320x1024 .bf16) (W : FVec Ideal S1024x5632 .bf16) (s : ℕ) (r : Fin 8320) (c : Fin 5632) : EReal :=
  if s ≤ r.val then rows U W ⟨r.val - s, by omega⟩ c else 0

/-- The convolution along the rows. -/
def conv (U : FVec Ideal S8320x1024 .bf16) (W : FVec Ideal S1024x5632 .bf16) (K : FVec Ideal S3x5632 .f32) (B : FVec Ideal S1x5632 .f32)
    (r : Fin 8320) (c : Fin 5632) : EReal :=
  B (ix2 0 c) + K (ix2 0 c) * back U W 2 r c + K (ix2 1 c) * back U W 1 r c + K (ix2 2 c) * back U W 0 r c

/-- A column of the first half. -/
def upper (c : Fin 2816) : Fin 5632 := ⟨c.val, by omega⟩

/-- A column of the second half. -/
def lower (c : Fin 2816) : Fin 5632 := ⟨2816 + c.val, by omega⟩

theorem idx : ∀ t : Fin cfg0.N, win0_0.index t = ![min (t.val % 11) 9, 0] ∧ win0_1.index t = ![0, t.val / 11]
    ∧ win0_2.index t = ![0, t.val / 11 + 11] ∧ win0_3.index t = ![0, t.val / 11] ∧ win0_4.index t = ![0, t.val / 11 + 11]
    ∧ win0_5.index t = ![0, t.val / 11] ∧ win0_6.index t = ![0, t.val / 11 + 11]
    ∧ win0_7.index t = ![t.val % 11 - 1, t.val / 11] ∧ win0_8.index t = ![t.val % 11 - 1, t.val / 11]
    ∧ win0_9.index t = ![t.val % 11 - 1, t.val / 11] ∧ win0_10.index t = ![t.val % 11 - 1, t.val / 11]
    ∧ win0_11.index t = ![t.val % 11 - 1, t.val / 11]
    ∧ (grid0.coords t 1).val = t.val % 11 :=
  (by decide +kernel : ∀ t : Fin grid0.N, _)

theorem flush7 : ∀ t : Fin cfg0.N, (cfg0.win 7).flush t = true → t.val % 11 ≠ 0 :=
  (by decide +kernel : ∀ t : Fin grid0.N, win0_7.flush t = true → t.val % 11 ≠ 0)

theorem flush8 : ∀ t : Fin cfg0.N, (cfg0.win 8).flush t = true → t.val % 11 ≠ 0 :=
  (by decide +kernel : ∀ t : Fin grid0.N, win0_8.flush t = true → t.val % 11 ≠ 0)

theorem flush9 : ∀ t : Fin cfg0.N, (cfg0.win 9).flush t = true → t.val % 11 ≠ 0 :=
  (by decide +kernel : ∀ t : Fin grid0.N, win0_9.flush t = true → t.val % 11 ≠ 0)

theorem flush10 : ∀ t : Fin cfg0.N, (cfg0.win 10).flush t = true → t.val % 11 ≠ 0 :=
  (by decide +kernel : ∀ t : Fin grid0.N, win0_10.flush t = true → t.val % 11 ≠ 0)

theorem flush11 : ∀ t : Fin cfg0.N, (cfg0.win 11).flush t = true → t.val % 11 ≠ 0 :=
  (by decide +kernel : ∀ t : Fin grid0.N, win0_11.flush t = true → t.val % 11 ≠ 0)

/-- The two halves are convolved alike. -/
theorem same_conv (i : grid0.Coords) (x : FVec Ideal S1x832x256 .f32) (y : FVec Ideal S1x8x256 .f32) (b w0 w1 w2 : FVec Ideal S1x256 .f32) :
    k0_pay9 (F := Ideal) (k0_pay6 i x y) (k0_pay7 i x y b w0) w1 (k0_pay8 i x y) w2
    = k0_pay16 (F := Ideal) (k0_pay14 (BitVec.ofNat 32 (i 1).val) x y) (k0_pay15 (BitVec.ofNat 32 (i 1).val) x y b w0) w1 w2 := rfl

section Points
variable (c : Dev nD)

/-- The two halves' products at a point. -/
def prods (t : Fin cfg0.N) : Fin 2 → FVec Ideal S832x256 .f32
  | 0 => k0_pay4 (F := Ideal) (iblk m c 0 t) (iblk m c 1 t)
  | 1 => k0_pay4 (F := Ideal) (iblk m c 0 t) (iblk m c 2 t)

/-- The point before `t`. -/
def prev (t : Fin cfg0.N) : Fin cfg0.N := ⟨t.val - 1, Nat.lt_of_le_of_lt (Nat.sub_le _ _) t.isLt⟩

theorem stack_at {a b : ℕ} (f : Fin 2 → FVec Ideal ⟨2, ![a, b]⟩ .f32) (g : Fin 2) (r : Fin a) (k : Fin b) : stackAlong0 f (ix3 g r k) = f g (ix2 r k) :=
  congrArg (f g) (funext fun i => by fin_cases i <;> rfl)

theorem two_stores (f : Fin 2 → FVec Ideal S832x256 .f32) (y : S2x832x256.Idx) :
    View.canon (Val := Elt Ideal) (e := .f32) [⟨Rect.unit (s := S2x832x256) ![1, 0, 0] S1x832x256.size inb_S2x832x256_S1x832x256_1_0_0, k0_pay19 (F := Ideal) (f 1)⟩,
      ⟨Rect.unit (s := S2x832x256) ![0, 0, 0] S1x832x256.size inb_S2x832x256_S1x832x256_0_0_0, k0_pay12 (F := Ideal) (f 0)⟩] y = stackAlong0 f y := by
  canon_tiles x h
  · exact stack_piece (d := ![832, 256]) f 1 shapeCasts_S832x256_S1x832x256 x y (by simp only []; omega) (fun a => by fin_cases a <;> simp <;> omega)
  · exact stack_piece (d := ![832, 256]) f 0 shapeCasts_S832x256_S1x832x256 x y (by simp only []; omega) (fun a => by fin_cases a <;> simp <;> omega)

theorem two_stores_over (f : Fin 2 → FVec Ideal S832x256 .f32) (z : FVec Ideal S2x832x256 .f32) (y : S2x832x256.Idx) :
    View.canon (Val := Elt Ideal) (e := .f32) [⟨Rect.unit (s := S2x832x256) ![1, 0, 0] S1x832x256.size inb_S2x832x256_S1x832x256_1_0_0, k0_pay19 (F := Ideal) (f 1)⟩,
      ⟨Rect.unit (s := S2x832x256) ![0, 0, 0] S1x832x256.size inb_S2x832x256_S1x832x256_0_0_0, k0_pay12 (F := Ideal) (f 0)⟩,
      ⟨Rect.unit (s := S2x832x256) ![0, 0, 0] S2x832x256.size inb_S2x832x256_S2x832x256_0_0_0, z⟩] y = stackAlong0 f y :=
  View.canon_append_of_piecesOf (Val := Elt Ideal) (e := .f32) (s := S2x832x256) (stackAlong0 f)
    [⟨Rect.unit (s := S2x832x256) ![0, 0, 0] S2x832x256.size inb_S2x832x256_S2x832x256_0_0_0, z⟩]
    [⟨Rect.unit (s := S2x832x256) ![1, 0, 0] S1x832x256.size inb_S2x832x256_S1x832x256_1_0_0, k0_pay19 (F := Ideal) (f 1)⟩,
      ⟨Rect.unit (s := S2x832x256) ![0, 0, 0] S1x832x256.size inb_S2x832x256_S1x832x256_0_0_0, k0_pay12 (F := Ideal) (f 0)⟩]
    ⟨fun x => stack_piece_emb (G := 2) (d := ![832, 256]) f 1 shapeCasts_S832x256_S1x832x256 ![1, 0, 0] inb_S2x832x256_S1x832x256_1_0_0 rfl (fun a => by fin_cases a <;> rfl) x,
     fun x => stack_piece_emb (G := 2) (d := ![832, 256]) f 0 shapeCasts_S832x256_S1x832x256 ![0, 0, 0] inb_S2x832x256_S1x832x256_0_0_0 rfl (fun a => by fin_cases a <;> rfl) x, trivial⟩ y
    (View.cover_of_tiledL _ ![1, 832, 256] (by sl_kernel_rfl) y)

theorem two_last (f : Fin 2 → FVec Ideal S8x256 .f32) (y : S2x8x256.Idx) :
    View.canon (Val := Elt Ideal) (e := .f32) [⟨Rect.unit (s := S2x8x256) ![1, 0, 0] S1x8x256.size inb_S2x8x256_S1x8x256_1_0_0, shapeCast S1x8x256 (f 1) shapeCasts_S8x256_S1x8x256⟩,
      ⟨Rect.unit (s := S2x8x256) ![0, 0, 0] S1x8x256.size inb_S2x8x256_S1x8x256_0_0_0, shapeCast S1x8x256 (f 0) shapeCasts_S8x256_S1x8x256⟩] y = stackAlong0 f y := by
  canon_tiles x h
  · exact stack_piece (d := ![8, 256]) f 1 shapeCasts_S8x256_S1x8x256 x y (by simp only []; omega) (fun a => by fin_cases a <;> simp <;> omega)
  · exact stack_piece (d := ![8, 256]) f 0 shapeCasts_S8x256_S1x8x256 x y (by simp only []; omega) (fun a => by fin_cases a <;> simp <;> omega)

/-- What the products' buffer holds after a point. -/
theorem held (t : Fin cfg0.N) : (outsAt0 m c t.val t.isLt).2.2.2.2.2.1 = stackAlong0 (prods m c t) := by
  by_cases h : t.val % 121 = 0
  · rw [outsAt0_A m c t h]
    frame_out
    funext y
    exact two_stores_over (prods m c t) _ y
  · rw [outsAt0_B m c t h]
    frame_out
    funext y
    exact two_stores (prods m c t) y

theorem held_prev (t : Fin cfg0.N) (hp) : (outsAt0 m c (t.val - 1) hp).2.2.2.2.2.1 = stackAlong0 (prods m c (prev t)) := held m c (prev t)

/-- The products of the point before, as a point's convolution loads them. -/
def now (t : Fin cfg0.N) : Fin 2 → FVec Ideal S1x832x256 .f32
  | 0 => View.ld (Val := Elt Ideal) (e' := .f32) (outsAt0 m c (t.val - 1) (Nat.lt_of_le_of_lt (Nat.sub_le _ _) t.isLt)).2.2.2.2.2.1
    (Rect.unit (s := S2x832x256) ![0, 0, 0] ![1, 832, 256] inb_S2x832x256_S1x832x256_0_0_0)
  | 1 => View.ld (Val := Elt Ideal) (e' := .f32) (outsAt0 m c (t.val - 1) (Nat.lt_of_le_of_lt (Nat.sub_le _ _) t.isLt)).2.2.2.2.2.1
    (Rect.unit (s := S2x832x256) ![1, 0, 0] ![1, 832, 256] inb_S2x832x256_S1x832x256_1_0_0)

/-- The rows before those, as a point's convolution loads them. -/
def before (t : Fin cfg0.N) : Fin 2 → FVec Ideal S1x8x256 .f32
  | 0 => View.ld (Val := Elt Ideal) (e' := .f32) (outsAt0 m c (t.val - 1) (Nat.lt_of_le_of_lt (Nat.sub_le _ _) t.isLt)).2.2.2.2.2.2
    (Rect.unit (s := S2x8x256) ![0, 0, 0] ![1, 8, 256] inb_S2x8x256_S1x8x256_0_0_0)
  | 1 => View.ld (Val := Elt Ideal) (e' := .f32) (outsAt0 m c (t.val - 1) (Nat.lt_of_le_of_lt (Nat.sub_le _ _) t.isLt)).2.2.2.2.2.2
    (Rect.unit (s := S2x8x256) ![1, 0, 0] ![1, 8, 256] inb_S2x8x256_S1x8x256_1_0_0)

theorem now_at (t : Fin cfg0.N) (g : Fin 2) (r : Fin 832) (k : Fin 256) : now m c t g (ix3 0 r k) = prods m c (prev t) g (ix2 r k) := by
  match g with
  | 0 =>
    refine (View.ld_unit_apply_of _ _ _ _ _ (ix3 (0 : Fin 2) r k) (fun a => by fin_cases a <;> simp)).trans ?_
    exact (congrFun (held_prev m c t _) _).trans (stack_at _ 0 r k)
  | 1 =>
    refine (View.ld_unit_apply_of _ _ _ _ _ (ix3 (1 : Fin 2) r k) (fun a => by fin_cases a <;> simp)).trans ?_
    exact (congrFun (held_prev m c t _) _).trans (stack_at _ 1 r k)

/-- The two halves' last eight rows of the point before. -/
def lasts (t : Fin cfg0.N) (g : Fin 2) : FVec Ideal S8x256 .f32 :=
  extractStridedSlice S8x256 ![824, 0] (k0_pay13 (F := Ideal) (now m c t g)) slices_S832x256_o824_0_S8x256

theorem lasts_at (t : Fin cfg0.N) (g : Fin 2) (r : Fin 8) (k : Fin 256) : lasts m c t g (ix2 r k) = prods m c (prev t) g (ix2 ⟨824 + r.val, by omega⟩ k) := by
  unfold lasts
  refine Eq.trans ?_ (now_at m c t g _ k)
  pointwise [k0_pay13]

/-- What the buffer of the last rows holds after a point. -/
theorem tail (t : Fin cfg0.N) (h : ¬ t.val % 121 = 0) : (outsAt0 m c t.val t.isLt).2.2.2.2.2.2 = stackAlong0 (lasts m c t) := by
  rw [outsAt0_B m c t h]
  frame_out
  rw [read_unread_whole]
  funext y
  have e1 : k0_pay18 (F := Ideal) (k0_pay13 (now m c t 1)) = shapeCast S1x8x256 (lasts m c t 1) shapeCasts_S8x256_S1x8x256 := rfl
  have e0 : k0_pay11 (F := Ideal) (k0_pay5 (now m c t 0)) = shapeCast S1x8x256 (lasts m c t 0) shapeCasts_S8x256_S1x8x256 := rfl
  have h2 := two_last (lasts m c t) y
  rw [← e1, ← e0] at h2
  exact h2

theorem tail_prev (t : Fin cfg0.N) (h : ¬ (prev t).val % 121 = 0) (hp) : (outsAt0 m c (t.val - 1) hp).2.2.2.2.2.2 = stackAlong0 (lasts m c (prev t)) :=
  tail m c (prev t) h

theorem before_at (t : Fin cfg0.N) (g : Fin 2) (h : ¬ (prev t).val % 121 = 0) (q : Fin 8) (k : Fin 256) :
    before m c t g (ix3 0 q k) = prods m c (prev (prev t)) g (ix2 ⟨824 + q.val, by omega⟩ k) := by
  refine Eq.trans ?_ (lasts_at m c (prev t) g q k)
  match g with
  | 0 =>
    refine (View.ld_unit_apply_of _ _ _ _ _ (ix3 (0 : Fin 2) q k) (fun a => by fin_cases a <;> simp)).trans ?_
    exact (congrFun (tail_prev m c t h _) _).trans (stack_at _ 0 q k)
  | 1 =>
    refine (View.ld_unit_apply_of _ _ _ _ _ (ix3 (1 : Fin 2) q k) (fun a => by fin_cases a <;> simp)).trans ?_
    exact (congrFun (tail_prev m c t h _) _).trans (stack_at _ 1 q k)

/-- A point's products, where its block sits. -/
theorem rows_blk (t : Fin cfg0.N) (g : Fin 2) (ht : t.val % 11 < 10) (R : Fin 8320) (C : Fin 5632) (r : Fin 832) (k : Fin 256)
    (h0 : R.val = t.val % 11 * 832 + r.val) (h1 : C.val = (t.val / 11 + 11 * g.val) * 256 + k.val) :
    prods m c t g (ix2 r k) = rows (m ((c : Thread nD τ).loc main_arg0)) (m ((c : Thread nD τ).loc main_arg1)) R C := by
  have hm : min (t.val % 11) 9 = t.val % 11 := by omega
  unfold rows
  match g with
  | 0 =>
    have h1' : C.val = t.val / 11 * 256 + k.val := h1
    show k0_pay4 (F := Ideal) (iblk m c 0 t) (iblk m c 1 t) (ix2 r k) = _
    pointwise [k0_pay4]
    blk_point [iblk, V, idx t, hm]
  | 1 =>
    have h1' : C.val = (t.val / 11 + 11) * 256 + k.val := h1
    show k0_pay4 (F := Ideal) (iblk m c 0 t) (iblk m c 2 t) (ix2 r k) = _
    pointwise [k0_pay4]
    blk_point [iblk, V, idx t, hm]

theorem first_tile (a : ℕ) (ha : a < 11) : Scalar.cmpi .sge (BitVec.ofNat 32 a) 2#32 = BitVec.ofBool (decide (2 ≤ a)) := by
  unfold Scalar.cmpi
  rw [show (2#32 : BitVec 32) = BitVec.ofNat 32 2 from rfl, WordCmp.cmpi_sge_ofNat (by omega) (by omega)]

/-- The rows the convolution reads at a point: those of the point before, after the eight rows that precede them. -/
def window (t : Fin cfg0.N) (g : Fin 2) : FVec Ideal S840x256 .f32 :=
  k0_pay14 (F := Ideal) (BitVec.ofNat 32 (grid0.coords t 1).val) (now m c t g) (before m c t g)

theorem shift_blk (t : Fin cfg0.N) (g : Fin 2) (ht : t.val % 11 ≠ 0) (s : ℕ) (hs : s ≤ 8) (R : Fin 8320) (C : Fin 5632) (q : Fin 840) (k : Fin 256)
    (h0 : R.val + 840 = t.val % 11 * 832 + q.val + s) (hq : 8 ≤ q.val + s) (h1 : C.val = (t.val / 11 + 11 * g.val) * 256 + k.val) :
    window m c t g (ix2 q k) = back (m ((c : Thread nD τ).loc main_arg0)) (m ((c : Thread nD τ).loc main_arg1)) s R C := by
  have hN : t.val < 121 := lt_of_lt_of_eq t.isLt N_0
  have hq' := q.isLt
  have hp : (prev t).val = t.val - 1 := rfl
  have hd : (t.val - 1) / 11 = t.val / 11 := by omega
  unfold back window
  pointwise [k0_pay14, k0_pay13]
  rw [(idx t).2.2.2.2.2.2.2.2.2.2.2.2, first_tile _ (by omega)]
  by_cases hc : q.val < 8
  · rw [dif_pos hc]
    by_cases h2 : 2 ≤ t.val % 11
    · rw [decide_eq_true h2, if_pos (by omega)]
      have hd2 : (t.val - 1 - 1) / 11 = t.val / 11 := by omega
      refine (before_at m c t g (by omega) ⟨q.val, hc⟩ k).trans ?_
      exact rows_blk m c (prev (prev t)) g (by simp only [prev]; omega) ⟨R.val - s, by omega⟩ C ⟨824 + q.val, by omega⟩ k
        (by simp only [prev]; omega) (by simp only [prev]; rw [hd2]; exact h1)
    · rw [decide_eq_false h2, if_neg (by omega)]
      rfl
  · rw [dif_neg hc]
    refine Eq.trans ?_ (if_pos (by omega)).symm
    refine (now_at m c t g _ k).trans ?_
    exact rows_blk m c (prev t) g (by omega) ⟨R.val - s, by omega⟩ C _ k (by simp only []; omega) (by rw [hp, hd]; exact h1)

/-- The taps' rows, read where the point's block sits. -/
theorem tapU0 (t : Fin cfg0.N) (C : Fin 5632) (k : Fin 256) (h1 : C.val = t.val / 11 * 256 + k.val) :
    View.ld (iblk m c 3 t) (Rect.unit ![0, 0] ![1, 256] inb_S3x256_S1x256_0_0) (ix2 0 k) = m ((c : Thread nD τ).loc main_arg2) (ix2 0 C) := by
  blk_point [iblk, V, idx t]

theorem tapU1 (t : Fin cfg0.N) (C : Fin 5632) (k : Fin 256) (h1 : C.val = t.val / 11 * 256 + k.val) :
    View.ld (iblk m c 3 t) (Rect.unit ![1, 0] ![1, 256] inb_S3x256_S1x256_1_0) (ix2 0 k) = m ((c : Thread nD τ).loc main_arg2) (ix2 1 C) := by
  blk_point [iblk, V, idx t]

theorem tapU2 (t : Fin cfg0.N) (C : Fin 5632) (k : Fin 256) (h1 : C.val = t.val / 11 * 256 + k.val) :
    View.ld (iblk m c 3 t) (Rect.unit ![2, 0] ![1, 256] inb_S3x256_S1x256_2_0) (ix2 0 k) = m ((c : Thread nD τ).loc main_arg2) (ix2 2 C) := by
  blk_point [iblk, V, idx t]

theorem tapG0 (t : Fin cfg0.N) (C : Fin 5632) (k : Fin 256) (h1 : C.val = (t.val / 11 + 11) * 256 + k.val) :
    View.ld (iblk m c 4 t) (Rect.unit ![0, 0] ![1, 256] inb_S3x256_S1x256_0_0) (ix2 0 k) = m ((c : Thread nD τ).loc main_arg2) (ix2 0 C) := by
  blk_point [iblk, V, idx t]

theorem tapG1 (t : Fin cfg0.N) (C : Fin 5632) (k : Fin 256) (h1 : C.val = (t.val / 11 + 11) * 256 + k.val) :
    View.ld (iblk m c 4 t) (Rect.unit ![1, 0] ![1, 256] inb_S3x256_S1x256_1_0) (ix2 0 k) = m ((c : Thread nD τ).loc main_arg2) (ix2 1 C) := by
  blk_point [iblk, V, idx t]

theorem tapG2 (t : Fin cfg0.N) (C : Fin 5632) (k : Fin 256) (h1 : C.val = (t.val / 11 + 11) * 256 + k.val) :
    View.ld (iblk m c 4 t) (Rect.unit ![2, 0] ![1, 256] inb_S3x256_S1x256_2_0) (ix2 0 k) = m ((c : Thread nD τ).loc main_arg2) (ix2 2 C) := by
  blk_point [iblk, V, idx t]

/-- A point's convolution of a half, before it is placed. -/
theorem conv_at (a : BitVec 32) (x : FVec Ideal S1x832x256 .f32) (y : FVec Ideal S1x8x256 .f32) (b w0 w1 w2 : FVec Ideal S1x256 .f32) (r : Fin 832) (k : Fin 256) :
    k0_pay16 (F := Ideal) (k0_pay14 a x y) (k0_pay15 a x y b w0) w1 w2 (ix2 r k)
      = b (ix2 0 k) + w0 (ix2 0 k) * k0_pay14 (F := Ideal) a x y (ix2 ⟨r.val + 6, by omega⟩ k)
        + w1 (ix2 0 k) * k0_pay14 (F := Ideal) a x y (ix2 ⟨r.val + 7, by omega⟩ k)
        + w2 (ix2 0 k) * k0_pay14 (F := Ideal) a x y (ix2 ⟨r.val + 8, by omega⟩ k) := by
  generalize hx : k0_pay14 (F := Ideal) a x y = z
  have h15 : k0_pay15 (F := Ideal) a x y b w0 (ix2 r k) = b (ix2 0 k) + w0 (ix2 0 k) * z (ix2 ⟨r.val + 6, by omega⟩ k) := by
    unfold k0_pay15
    rw [hx]
    pointwise
    exact Ideal.add_congr rfl (Ideal.mul_congr rfl (congrArg z (congrArg (fun q : Fin 840 => ix2 q k) (Fin.ext (by show (8 + r.val + 840 - 2) % 840 = r.val + 6; omega)))))
  generalize k0_pay15 (F := Ideal) a x y b w0 = u at h15 ⊢
  pointwise [k0_pay16]
  rw [h15]
  exact Ideal.add_congr (Ideal.add_congr rfl (Ideal.mul_congr rfl (congrArg z (congrArg (fun q : Fin 840 => ix2 q k) (Fin.ext (by show (8 + r.val + 840 - 1) % 840 = r.val + 7; omega))))))
    (Ideal.mul_congr rfl (congrArg z (congrArg (fun q : Fin 840 => ix2 q k) (Fin.ext (by show 8 + r.val = r.val + 8; omega)))))

/-- A point's convolution of the first half. -/
def hidU (t : Fin cfg0.N) : FVec Ideal S832x256 .f32 :=
  k0_pay16 (F := Ideal) (window m c t 0)
    (k0_pay15 (BitVec.ofNat 32 (grid0.coords t 1).val) (now m c t 0) (before m c t 0) (iblk m c 5 t)
      (View.ld (iblk m c 3 t) (Rect.unit ![0, 0] ![1, 256] inb_S3x256_S1x256_0_0)))
    (View.ld (iblk m c 3 t) (Rect.unit ![1, 0] ![1, 256] inb_S3x256_S1x256_1_0)) (View.ld (iblk m c 3 t) (Rect.unit ![2, 0] ![1, 256] inb_S3x256_S1x256_2_0))

/-- A point's convolution of the second half. -/
def hidG (t : Fin cfg0.N) : FVec Ideal S832x256 .f32 :=
  k0_pay16 (F := Ideal) (window m c t 1)
    (k0_pay15 (BitVec.ofNat 32 (grid0.coords t 1).val) (now m c t 1) (before m c t 1) (iblk m c 6 t)
      (View.ld (iblk m c 4 t) (Rect.unit ![0, 0] ![1, 256] inb_S3x256_S1x256_0_0)))
    (View.ld (iblk m c 4 t) (Rect.unit ![1, 0] ![1, 256] inb_S3x256_S1x256_1_0)) (View.ld (iblk m c 4 t) (Rect.unit ![2, 0] ![1, 256] inb_S3x256_S1x256_2_0))

theorem hidU_blk (t : Fin cfg0.N) (ht : t.val % 11 ≠ 0) (R : Fin 8320) (C : Fin 5632) (r : Fin 832) (k : Fin 256)
    (h0 : R.val = (t.val % 11 - 1) * 832 + r.val) (h1 : C.val = t.val / 11 * 256 + k.val) :
    hidU m c t (ix2 r k) = conv (m ((c : Thread nD τ).loc main_arg0)) (m ((c : Thread nD τ).loc main_arg1))
      (m ((c : Thread nD τ).loc main_arg2)) (m ((c : Thread nD τ).loc main_arg3)) R C := by
  refine (conv_at _ _ _ _ _ _ _ r k).trans ?_
  unfold conv
  have hr := r.isLt
  have hb : iblk m c 5 t (ix2 0 k) = m ((c : Thread nD τ).loc main_arg3) (ix2 0 C) := by
    blk_point [iblk, V, idx t]
  refine Ideal.add_congr (Ideal.add_congr (Ideal.add_congr hb ?_) ?_) ?_
  · exact Ideal.mul_congr (tapU0 m c t C k h1) (shift_blk m c t 0 ht 2 (by omega) R C _ k (by simp only []; omega) (by simp only []; omega) h1)
  · exact Ideal.mul_congr (tapU1 m c t C k h1) (shift_blk m c t 0 ht 1 (by omega) R C _ k (by simp only []; omega) (by simp only []; omega) h1)
  · exact Ideal.mul_congr (tapU2 m c t C k h1) (shift_blk m c t 0 ht 0 (by omega) R C _ k (by simp only []; omega) (by simp only []; omega) h1)

theorem hidG_blk (t : Fin cfg0.N) (ht : t.val % 11 ≠ 0) (R : Fin 8320) (C : Fin 5632) (r : Fin 832) (k : Fin 256)
    (h0 : R.val = (t.val % 11 - 1) * 832 + r.val) (h1 : C.val = (t.val / 11 + 11) * 256 + k.val) :
    hidG m c t (ix2 r k) = conv (m ((c : Thread nD τ).loc main_arg0)) (m ((c : Thread nD τ).loc main_arg1))
      (m ((c : Thread nD τ).loc main_arg2)) (m ((c : Thread nD τ).loc main_arg3)) R C := by
  refine (conv_at _ _ _ _ _ _ _ r k).trans ?_
  unfold conv
  have hr := r.isLt
  have hb : iblk m c 6 t (ix2 0 k) = m ((c : Thread nD τ).loc main_arg3) (ix2 0 C) := by
    blk_point [iblk, V, idx t]
  refine Ideal.add_congr (Ideal.add_congr (Ideal.add_congr hb ?_) ?_) ?_
  · exact Ideal.mul_congr (tapG0 m c t C k h1) (shift_blk m c t 1 ht 2 (by omega) R C _ k (by simp only []; omega) (by simp only []; omega) h1)
  · exact Ideal.mul_congr (tapG1 m c t C k h1) (shift_blk m c t 1 ht 1 (by omega) R C _ k (by simp only []; omega) (by simp only []; omega) h1)
  · exact Ideal.mul_congr (tapG2 m c t C k h1) (shift_blk m c t 1 ht 0 (by omega) R C _ k (by simp only []; omega) (by simp only []; omega) h1)

end Points

theorem out10 (x : FVec Ideal S1x832x256 .f32) (y : S832x256.Idx) : k0_pay10 (F := Ideal) (k0_pay5 x) y = x (ix3 0 (y 0) (y 1)) := by
  obtain ⟨r, k, rfl⟩ : ∃ r k, y = ix2 r k := ⟨y 0, y 1, eq_ix2 y⟩
  pointwise [k0_pay10, k0_pay5]

theorem out17 (x : FVec Ideal S1x832x256 .f32) (y : S832x256.Idx) : k0_pay17 (F := Ideal) (k0_pay13 x) y = x (ix3 0 (y 0) (y 1)) := by
  obtain ⟨r, k, rfl⟩ : ∃ r k, y = ix2 r k := ⟨y 0, y 1, eq_ix2 y⟩
  pointwise [k0_pay17, k0_pay13]

theorem out20 (v : FVec Ideal S832x256 .f32) (y : S832x256.Idx) : k0_pay20 (F := Ideal) v y = v y := rfl

theorem out21 (z : FVec Ideal S840x256 .f32) (x : FVec Ideal S832x256 .f32) (w1 w2 : FVec Ideal S1x256 .f32) (y : S832x256.Idx) :
    k0_pay21 (F := Ideal) z x w1 w2 y = k0_pay16 (F := Ideal) z x w1 w2 y := rfl

theorem final7 (c : Dev nD) : (dats m 0 c).arrAt 7 (cfgs 0).N
    = fun j : S8320x2816.Idx => rows (m ((c : Thread nD τ).loc main_arg0)) (m ((c : Thread nD τ).loc main_arg1)) (j 0) (upper (j 1)) := by
  refine (dats m 0 c).arrAt_eq_of_covers 7 _ (by decide +kernel) fun t hf y => ?_
  have ht := flush7 t hf
  have hN : t.val < 121 := lt_of_lt_of_eq t.isLt N_0
  have hy : (y 0).val < 832 := (y 0).isLt
  have hd : (t.val - 1) / 11 = t.val / 11 := by omega
  blk_simp
  rw [after0_7, outsAt0_B m c t (by omega)]
  frame_out
  obtain ⟨R, hR⟩ : ∃ R : Fin 8320, R = ((View.whole main_v0_0).slice (win0_7.rect t)).emb y 0 := ⟨_, rfl⟩
  obtain ⟨C, hC⟩ : ∃ C : Fin 2816, C = ((View.whole main_v0_0).slice (win0_7.rect t)).emb y 1 := ⟨_, rfl⟩
  have h0 : R.val = (t.val % 11 - 1) * 832 + (y 0).val := by
    rw [hR]
    blk_simp [idx t]
  have h1 : C.val = t.val / 11 * 256 + (y 1).val := by
    rw [hC]
    blk_simp [idx t]
  have hup : (upper C).val = t.val / 11 * 256 + (y 1).val := h1
  have hlo : (lower C).val = (t.val / 11 + 11) * 256 + (y 1).val := by
    show 2816 + C.val = _
    omega
  rw [← hR, ← hC]
  simp only [read_unread_whole]
  refine Eq.trans ?_ (rows_blk m c (prev t) 0 (by simp only [prev]; omega) R (upper C) (y 0) (y 1) (by simp only [prev]; omega) (by simp only [prev]; rw [hd]; exact hup))
  refine Eq.trans ?_ (now_at m c t 0 (y 0) (y 1))
  exact out10 (now m c t 0) y

theorem final8 (c : Dev nD) : (dats m 0 c).arrAt 8 (cfgs 0).N
    = fun j : S8320x2816.Idx => rows (m ((c : Thread nD τ).loc main_arg0)) (m ((c : Thread nD τ).loc main_arg1)) (j 0) (lower (j 1)) := by
  refine (dats m 0 c).arrAt_eq_of_covers 8 _ (by decide +kernel) fun t hf y => ?_
  have ht := flush8 t hf
  have hN : t.val < 121 := lt_of_lt_of_eq t.isLt N_0
  have hy : (y 0).val < 832 := (y 0).isLt
  have hd : (t.val - 1) / 11 = t.val / 11 := by omega
  blk_simp
  rw [after0_8, outsAt0_B m c t (by omega)]
  frame_out
  obtain ⟨R, hR⟩ : ∃ R : Fin 8320, R = ((View.whole main_v0_1).slice (win0_8.rect t)).emb y 0 := ⟨_, rfl⟩
  obtain ⟨C, hC⟩ : ∃ C : Fin 2816, C = ((View.whole main_v0_1).slice (win0_8.rect t)).emb y 1 := ⟨_, rfl⟩
  have h0 : R.val = (t.val % 11 - 1) * 832 + (y 0).val := by
    rw [hR]
    blk_simp [idx t]
  have h1 : C.val = t.val / 11 * 256 + (y 1).val := by
    rw [hC]
    blk_simp [idx t]
  have hup : (upper C).val = t.val / 11 * 256 + (y 1).val := h1
  have hlo : (lower C).val = (t.val / 11 + 11) * 256 + (y 1).val := by
    show 2816 + C.val = _
    omega
  rw [← hR, ← hC]
  simp only [read_unread_whole]
  refine Eq.trans ?_ (rows_blk m c (prev t) 1 (by simp only [prev]; omega) R (lower C) (y 0) (y 1) (by simp only [prev]; omega) (by simp only [prev]; rw [hd]; exact hlo))
  refine Eq.trans ?_ (now_at m c t 1 (y 0) (y 1))
  exact out17 (now m c t 1) y

theorem final9 (c : Dev nD) : (dats m 0 c).arrAt 9 (cfgs 0).N
    = fun j : S8320x2816.Idx => conv (m ((c : Thread nD τ).loc main_arg0)) (m ((c : Thread nD τ).loc main_arg1))
      (m ((c : Thread nD τ).loc main_arg2)) (m ((c : Thread nD τ).loc main_arg3)) (j 0) (upper (j 1)) := by
  refine (dats m 0 c).arrAt_eq_of_covers 9 _ (by decide +kernel) fun t hf y => ?_
  have ht := flush9 t hf
  have hN : t.val < 121 := lt_of_lt_of_eq t.isLt N_0
  have hy : (y 0).val < 832 := (y 0).isLt
  have hd : (t.val - 1) / 11 = t.val / 11 := by omega
  blk_simp
  rw [after0_9, outsAt0_B m c t (by omega)]
  frame_out
  obtain ⟨R, hR⟩ : ∃ R : Fin 8320, R = ((View.whole main_v0_2).slice (win0_9.rect t)).emb y 0 := ⟨_, rfl⟩
  obtain ⟨C, hC⟩ : ∃ C : Fin 2816, C = ((View.whole main_v0_2).slice (win0_9.rect t)).emb y 1 := ⟨_, rfl⟩
  have h0 : R.val = (t.val % 11 - 1) * 832 + (y 0).val := by
    rw [hR]
    blk_simp [idx t]
  have h1 : C.val = t.val / 11 * 256 + (y 1).val := by
    rw [hC]
    blk_simp [idx t]
  have hup : (upper C).val = t.val / 11 * 256 + (y 1).val := h1
  have hlo : (lower C).val = (t.val / 11 + 11) * 256 + (y 1).val := by
    show 2816 + C.val = _
    omega
  rw [← hR, ← hC]
  simp only [read_unread_whole]
  rw [out20, same_conv]
  refine Eq.trans ?_ (hidU_blk m c t ht R (upper C) (y 0) (y 1) h0 hup)
  exact congrArg (hidU m c t) (eq_ix2 y)
theorem final10 (c : Dev nD) : (dats m 0 c).arrAt 10 (cfgs 0).N
    = fun j : S8320x2816.Idx => conv (m ((c : Thread nD τ).loc main_arg0)) (m ((c : Thread nD τ).loc main_arg1))
      (m ((c : Thread nD τ).loc main_arg2)) (m ((c : Thread nD τ).loc main_arg3)) (j 0) (lower (j 1)) := by
  refine (dats m 0 c).arrAt_eq_of_covers 10 _ (by decide +kernel) fun t hf y => ?_
  have ht := flush10 t hf
  have hN : t.val < 121 := lt_of_lt_of_eq t.isLt N_0
  have hy : (y 0).val < 832 := (y 0).isLt
  have hd : (t.val - 1) / 11 = t.val / 11 := by omega
  blk_simp
  rw [after0_10, outsAt0_B m c t (by omega)]
  frame_out
  obtain ⟨R, hR⟩ : ∃ R : Fin 8320, R = ((View.whole main_v0_3).slice (win0_10.rect t)).emb y 0 := ⟨_, rfl⟩
  obtain ⟨C, hC⟩ : ∃ C : Fin 2816, C = ((View.whole main_v0_3).slice (win0_10.rect t)).emb y 1 := ⟨_, rfl⟩
  have h0 : R.val = (t.val % 11 - 1) * 832 + (y 0).val := by
    rw [hR]
    blk_simp [idx t]
  have h1 : C.val = t.val / 11 * 256 + (y 1).val := by
    rw [hC]
    blk_simp [idx t]
  have hup : (upper C).val = t.val / 11 * 256 + (y 1).val := h1
  have hlo : (lower C).val = (t.val / 11 + 11) * 256 + (y 1).val := by
    show 2816 + C.val = _
    omega
  rw [← hR, ← hC]
  simp only [read_unread_whole]
  rw [out21]
  refine Eq.trans ?_ (hidG_blk m c t ht R (lower C) (y 0) (y 1) h0 hlo)
  exact congrArg (hidG m c t) (eq_ix2 y)
/-- A gated product. -/
def gated (u g : EReal) : EReal := g * Ideal.div 1 (1 + Ideal.exp (-g)) * u

theorem gated_at (v : FVec Ideal S832x256 .f32) (z : FVec Ideal S840x256 .f32) (x : FVec Ideal S832x256 .f32) (w1 w2 : FVec Ideal S1x256 .f32) (y : S832x256.Idx) :
    k0_pay22 (F := Ideal) v z x w1 w2 y = gated (v y) (k0_pay16 (F := Ideal) z x w1 w2 y) := by
  unfold k0_pay22
  generalize k0_pay16 (F := Ideal) z x w1 w2 = g
  unfold gated
  obtain ⟨r, k, rfl⟩ : ∃ r k, y = ix2 r k := ⟨y 0, y 1, eq_ix2 y⟩
  pointwise
  exact Ideal.mul_congr (Ideal.mul_congr rfl (Cert.Scalars.logistic _)) rfl

theorem final11 (c : Dev nD) : (dats m 0 c).arrAt 11 (cfgs 0).N
    = fun j : S8320x2816.Idx => gated (conv (m ((c : Thread nD τ).loc main_arg0)) (m ((c : Thread nD τ).loc main_arg1))
      (m ((c : Thread nD τ).loc main_arg2)) (m ((c : Thread nD τ).loc main_arg3)) (j 0) (upper (j 1)))
      (conv (m ((c : Thread nD τ).loc main_arg0)) (m ((c : Thread nD τ).loc main_arg1))
      (m ((c : Thread nD τ).loc main_arg2)) (m ((c : Thread nD τ).loc main_arg3)) (j 0) (lower (j 1))) := by
  refine (dats m 0 c).arrAt_eq_of_covers 11 _ (by decide +kernel) fun t hf y => ?_
  have ht := flush11 t hf
  have hN : t.val < 121 := lt_of_lt_of_eq t.isLt N_0
  have hy : (y 0).val < 832 := (y 0).isLt
  have hd : (t.val - 1) / 11 = t.val / 11 := by omega
  blk_simp
  rw [after0_11, outsAt0_B m c t (by omega)]
  frame_out
  obtain ⟨R, hR⟩ : ∃ R : Fin 8320, R = ((View.whole main_v0_4).slice (win0_11.rect t)).emb y 0 := ⟨_, rfl⟩
  obtain ⟨C, hC⟩ : ∃ C : Fin 2816, C = ((View.whole main_v0_4).slice (win0_11.rect t)).emb y 1 := ⟨_, rfl⟩
  have h0 : R.val = (t.val % 11 - 1) * 832 + (y 0).val := by
    rw [hR]
    blk_simp [idx t]
  have h1 : C.val = t.val / 11 * 256 + (y 1).val := by
    rw [hC]
    blk_simp [idx t]
  have hup : (upper C).val = t.val / 11 * 256 + (y 1).val := h1
  have hlo : (lower C).val = (t.val / 11 + 11) * 256 + (y 1).val := by
    show 2816 + C.val = _
    omega
  rw [← hR, ← hC]
  simp only [read_unread_whole]
  rw [same_conv, gated_at]
  refine congrArg₂ gated ?_ ?_
  · refine Eq.trans ?_ (hidU_blk m c t ht R (upper C) (y 0) (y 1) h0 hup)
    exact congrArg (hidU m c t) (eq_ix2 y)
  · refine Eq.trans ?_ (hidG_blk m c t ht R (lower C) (y 0) (y 1) h0 hlo)
    exact congrArg (hidG m c t) (eq_ix2 y)
end Cert.Kernel27Ideal.FfnIn

namespace Cert.Reference27Ideal.FfnInRef

open Cert.Reference27Ideal Cert.Reference27Ideal.Gen Cert.Reference27Ideal.Read Idealize.ShloMosaic Idealize.ShloMosaic.TcCoe Idealize.SL.Sem
open Cert.Kernel27Ideal.FfnIn (rows back conv upper lower gated)

variable (x0 : FVec Ideal S8320x1024 .bf16) (x1 : FVec Ideal S1024x5632 .bf16) (x2 : FVec Ideal S3x5632 .f32) (x3 : FVec Ideal S1x5632 .f32)

theorem res7 (j : S8320x2816.Idx) : val_main_v35 (F := Ideal) x0 x1 j = rows x0 x1 (j 0) (upper (j 1)) := by
  obtain ⟨r, c, rfl⟩ : ∃ r c, j = ix2 r c := ⟨j 0, j 1, eq_ix2 j⟩
  unfold rows
  pointwise [val_main_v35, val_main_v31, val_main_v2, val_main_v1, val_main_v0]
  rfl

theorem res8 (j : S8320x2816.Idx) : val_main_v36 (F := Ideal) x0 x1 j = rows x0 x1 (j 0) (lower (j 1)) := by
  obtain ⟨r, c, rfl⟩ : ∃ r c, j = ix2 r c := ⟨j 0, j 1, eq_ix2 j⟩
  unfold rows
  pointwise [val_main_v36, val_main_v32, val_main_v2, val_main_v1, val_main_v0]
  rfl

theorem pad_eq (s : ℕ) (hs : s ≤ 2) (r : Fin 8320) (c : Fin 5632) (q : Fin 8322) (h : q.val + s = r.val + 2) :
    val_main_v4 (F := Ideal) x0 x1 (ix2 q c) = back x0 x1 s r c := by
  unfold back rows
  pointwise [val_main_v4, val_main_v3, val_main_v2, val_main_v1, val_main_v0, val_main_cst]
  by_cases hc : q.val < 2
  · rw [dif_pos hc, if_neg (by omega)]
  · rw [dif_neg hc]
    refine Eq.trans ?_ (if_pos (by omega)).symm
    exact Finset.sum_congr rfl fun k _ => Ideal.mul_congr (congrArg x0 (congrArg (fun a : Fin 8320 => ix2 a k) (Fin.ext (by simp only []; omega)))) rfl

theorem bias_first (a b c e : EReal) : a + b + c + e = e + a + b + c := by
  rw [add_comm, ← add_assoc, ← add_assoc]

theorem hidden (r : Fin 8320) (c : Fin 5632) : val_main_v28 (F := Ideal) x0 x1 x2 x3 (ix2 r c) = conv x0 x1 x2 x3 r c := by
  have hr := r.isLt
  unfold conv
  pointwise [val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9, val_main_v8,
    val_main_v7, val_main_v6, val_main_v5, val_main_cst_0]
  refine (bias_first _ _ _ _).trans ?_
  refine Ideal.add_congr (Ideal.add_congr (Ideal.add_congr rfl ?_) ?_) ?_
  · exact Ideal.mul_congr rfl (pad_eq x0 x1 2 (by omega) r c _ rfl)
  · exact Ideal.mul_congr rfl (pad_eq x0 x1 1 (by omega) r c _ (by simp only []; omega))
  · exact Ideal.mul_congr rfl (pad_eq x0 x1 0 (by omega) r c _ (by simp only []; omega))

theorem up (r : Fin 8320) (c : Fin 2816) : val_main_v29 (F := Ideal) x0 x1 x2 x3 (ix2 r c) = conv x0 x1 x2 x3 r (upper c) := by
  refine Eq.trans ?_ (hidden x0 x1 x2 x3 r (upper c))
  unfold val_main_v29
  generalize val_main_v28 (F := Ideal) x0 x1 x2 x3 = z
  pointwise
  rfl

theorem gate (r : Fin 8320) (c : Fin 2816) : val_main_v30 (F := Ideal) x0 x1 x2 x3 (ix2 r c) = conv x0 x1 x2 x3 r (lower c) := by
  refine Eq.trans ?_ (hidden x0 x1 x2 x3 r (lower c))
  unfold val_main_v30
  generalize val_main_v28 (F := Ideal) x0 x1 x2 x3 = z
  pointwise
  rfl

theorem res9 (j : S8320x2816.Idx) : val_main_v37 (F := Ideal) x0 x1 x2 x3 j = conv x0 x1 x2 x3 (j 0) (upper (j 1)) := by
  obtain ⟨r, c, rfl⟩ : ∃ r c, j = ix2 r c := ⟨j 0, j 1, eq_ix2 j⟩
  exact up x0 x1 x2 x3 r c

theorem res10 (j : S8320x2816.Idx) : val_main_v38 (F := Ideal) x0 x1 x2 x3 j = conv x0 x1 x2 x3 (j 0) (lower (j 1)) := by
  obtain ⟨r, c, rfl⟩ : ∃ r c, j = ix2 r c := ⟨j 0, j 1, eq_ix2 j⟩
  exact gate x0 x1 x2 x3 r c

theorem res11 (j : S8320x2816.Idx) : val_main_v39 (F := Ideal) x0 x1 x2 x3 j = gated (conv x0 x1 x2 x3 (j 0) (upper (j 1))) (conv x0 x1 x2 x3 (j 0) (lower (j 1))) := by
  obtain ⟨r, c, rfl⟩ : ∃ r c, j = ix2 r c := ⟨j 0, j 1, eq_ix2 j⟩
  refine Eq.trans ?_ (congrArg₂ gated (up x0 x1 x2 x3 r c) (gate x0 x1 x2 x3 r c))
  unfold gated val_main_v39 val_main_v34 val_main_v33 val_main_call0_v5 val_main_call0_v4 val_main_call0_cst_0 val_main_call0_v3 val_main_call0_v2 val_main_call0_cst
    val_main_call0_v1 val_main_call0_v0
  generalize val_main_v29 (F := Ideal) x0 x1 x2 x3 = u
  generalize val_main_v30 (F := Ideal) x0 x1 x2 x3 = g
  pointwise

end Cert.Reference27Ideal.FfnInRef

namespace Cert.FfnIn

open Idealize.ShloMosaic Idealize.ShloMosaic.TcCoe Idealize.SL.Sem

theorem reference_no_semaphore : ∀ s : SemLoc Cert.Reference27Ideal.sig, False := by decide

/-- The reference runs to the end on every input. -/
theorem reference_frame : Cert.quiescent_Reference27Ideal := fun m ρ _ =>
  (θ_run _ _ _).mono (fun _ h => ⟨fun c => (h c).2.2.2.2.2, funext fun s => (reference_no_semaphore s.2).elim⟩)
    (Cert.Reference27Ideal.Value.run m ρ)

/-- The kernel's five results are the reference's. -/
theorem algebraic : Cert.algebraic_Kernel27Ideal_Reference27Ideal := by
  intro m g m' g' _ hag
  refine ⟨_, _, _, _, _, Cert.Kernel27Ideal.Value.run_blocks m g, (θ_run _ _ _).mono (fun r h c => ?_) (Cert.Reference27Ideal.Value.run m' g')⟩
  obtain ⟨e0, e1, e2, e3⟩ := hag c
  obtain ⟨h7, h8, h9, h10, h11, hrest⟩ := h c
  refine ⟨h7.trans ?_, h8.trans ?_, h9.trans ?_, h10.trans ?_, h11.trans ?_, hrest⟩
  · rw [Cert.Reference27Ideal.Read.val_main_v35_eq, e0, e1]
    exact (funext fun j => Cert.Reference27Ideal.FfnInRef.res7 _ _ j).trans (Cert.Kernel27Ideal.FfnIn.final7 m c).symm
  · rw [Cert.Reference27Ideal.Read.val_main_v36_eq, e0, e1]
    exact (funext fun j => Cert.Reference27Ideal.FfnInRef.res8 _ _ j).trans (Cert.Kernel27Ideal.FfnIn.final8 m c).symm
  · rw [Cert.Reference27Ideal.Read.val_main_v37_eq, e0, e1, e2, e3]
    exact (funext fun j => Cert.Reference27Ideal.FfnInRef.res9 _ _ _ _ j).trans (Cert.Kernel27Ideal.FfnIn.final9 m c).symm
  · rw [Cert.Reference27Ideal.Read.val_main_v38_eq, e0, e1, e2, e3]
    exact (funext fun j => Cert.Reference27Ideal.FfnInRef.res10 _ _ _ _ j).trans (Cert.Kernel27Ideal.FfnIn.final10 m c).symm
  · rw [Cert.Reference27Ideal.Read.val_main_v39_eq, e0, e1, e2, e3]
    exact (funext fun j => Cert.Reference27Ideal.FfnInRef.res11 _ _ _ _ j).trans (Cert.Kernel27Ideal.FfnIn.final11 m c).symm

end Cert.FfnIn

end
-- ==== Proof.LossRun.lean ====
/- The run of the loss kernel, over any float values: what each point leaves, the whole run, and the arguments unchanged. -/
module

public import proofs.«01_k».proof.Proof.Gen.Kernel28Ideal.Frame.RunB
public import Idealize.ShloMosaic.Lib.Claim
public import Idealize.ShloMosaic.Lib.Pipeline.Value

@[expose] public section

set_option maxRecDepth 16384

noncomputable section

namespace Cert.Kernel28Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_9 (c : Dev nD) (i : grid0.Coords) (arg1 : Memref sig .tc .vmem S640x2816 .bf16) (harg1 : arg1.IsWhole) (arg2 : Memref sig .tc .vmem S2816x1024 .bf16) (harg2 : arg2.IsWhole) (arg3 : Memref sig .tc .vmem S640x1024 .f32) (harg3 : arg3.IsWhole) (arg4 : Memref sig .tc .vmem S1x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S640x1024 .f32) (harg10 : arg10.IsWhole) (arg11 : Memref sig .tc .vmem S640x1024 .bf16) (harg11 : arg11.IsWhole) (arg12 : Memref sig .tc .vmem S1x128 .f32) (harg12 : arg12.IsWhole) (arg13 : Memref sig .tc .vmem S1x1024 .f32) (harg13 : arg13.IsWhole) (hc0 : cond0_0 i) (hc1 : ¬cond0_1 i)
    (x0 : Vec F S640x2816 .bf16) (x1 : Vec F S2816x1024 .bf16) (x2 : Vec F S640x1024 .f32) (x3 : Vec F S1x1024 .f32) (x4 : Vec F S1x128x1024 .f32) (x5 : Vec F S1x128x1024 .f32) (x6 : Vec F S1x128x1024 .f32) (x7 : Vec F S1x128x1024 .f32) (x8 : Vec F S1x128x1024 .f32) (y : S640x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1 S640x1024.size (by sl_kernel_rfl) y

/-- What the first point leaves in the outputs, one after the other. -/
def out0_A_9 (c : Dev nD) (i : grid0.Coords) (arg1 : Memref sig .tc .vmem S640x2816 .bf16) (harg1 : arg1.IsWhole) (arg2 : Memref sig .tc .vmem S2816x1024 .bf16) (harg2 : arg2.IsWhole) (arg3 : Memref sig .tc .vmem S640x1024 .f32) (harg3 : arg3.IsWhole) (arg4 : Memref sig .tc .vmem S1x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S640x1024 .f32) (harg10 : arg10.IsWhole) (arg11 : Memref sig .tc .vmem S640x1024 .bf16) (harg11 : arg11.IsWhole) (arg12 : Memref sig .tc .vmem S1x128 .f32) (harg12 : arg12.IsWhole) (arg13 : Memref sig .tc .vmem S1x1024 .f32) (harg13 : arg13.IsWhole) (hc0 : cond0_0 i) (hc1 : ¬cond0_1 i)
    (x0 : Vec F S640x2816 .bf16) (x1 : Vec F S2816x1024 .bf16) (x2 : Vec F S640x1024 .f32) (x3 : Vec F S1x1024 .f32) (x4 : Vec F S1x128x1024 .f32) (x5 : Vec F S1x128x1024 .f32) (x6 : Vec F S1x128x1024 .f32) (x7 : Vec F S1x128x1024 .f32) (x8 : Vec F S1x128x1024 .f32) : Vec F S640x1024 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1)

theorem cover0_A_10 (c : Dev nD) (i : grid0.Coords) (arg1 : Memref sig .tc .vmem S640x2816 .bf16) (harg1 : arg1.IsWhole) (arg2 : Memref sig .tc .vmem S2816x1024 .bf16) (harg2 : arg2.IsWhole) (arg3 : Memref sig .tc .vmem S640x1024 .f32) (harg3 : arg3.IsWhole) (arg4 : Memref sig .tc .vmem S1x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S640x1024 .f32) (harg10 : arg10.IsWhole) (arg11 : Memref sig .tc .vmem S640x1024 .bf16) (harg11 : arg11.IsWhole) (arg12 : Memref sig .tc .vmem S1x128 .f32) (harg12 : arg12.IsWhole) (arg13 : Memref sig .tc .vmem S1x1024 .f32) (harg13 : arg13.IsWhole) (hc0 : cond0_0 i) (hc1 : ¬cond0_1 i)
    (x0 : Vec F S640x2816 .bf16) (x1 : Vec F S2816x1024 .bf16) (x2 : Vec F S640x1024 .f32) (x3 : Vec F S1x1024 .f32) (x4 : Vec F S1x128x1024 .f32) (x5 : Vec F S1x128x1024 .f32) (x6 : Vec F S1x128x1024 .f32) (x7 : Vec F S1x128x1024 .f32) (x8 : Vec F S1x128x1024 .f32) (y : S640x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 S640x1024.size (by sl_kernel_rfl) y

def out0_A_10 (c : Dev nD) (i : grid0.Coords) (arg1 : Memref sig .tc .vmem S640x2816 .bf16) (harg1 : arg1.IsWhole) (arg2 : Memref sig .tc .vmem S2816x1024 .bf16) (harg2 : arg2.IsWhole) (arg3 : Memref sig .tc .vmem S640x1024 .f32) (harg3 : arg3.IsWhole) (arg4 : Memref sig .tc .vmem S1x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S640x1024 .f32) (harg10 : arg10.IsWhole) (arg11 : Memref sig .tc .vmem S640x1024 .bf16) (harg11 : arg11.IsWhole) (arg12 : Memref sig .tc .vmem S1x128 .f32) (harg12 : arg12.IsWhole) (arg13 : Memref sig .tc .vmem S1x1024 .f32) (harg13 : arg13.IsWhole) (hc0 : cond0_0 i) (hc1 : ¬cond0_1 i)
    (x0 : Vec F S640x2816 .bf16) (x1 : Vec F S2816x1024 .bf16) (x2 : Vec F S640x1024 .f32) (x3 : Vec F S1x1024 .f32) (x4 : Vec F S1x128x1024 .f32) (x5 : Vec F S1x128x1024 .f32) (x6 : Vec F S1x128x1024 .f32) (x7 : Vec F S1x128x1024 .f32) (x8 : Vec F S1x128x1024 .f32) : Vec F S640x1024 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1)

theorem cover0_A_11 (c : Dev nD) (i : grid0.Coords) (arg1 : Memref sig .tc .vmem S640x2816 .bf16) (harg1 : arg1.IsWhole) (arg2 : Memref sig .tc .vmem S2816x1024 .bf16) (harg2 : arg2.IsWhole) (arg3 : Memref sig .tc .vmem S640x1024 .f32) (harg3 : arg3.IsWhole) (arg4 : Memref sig .tc .vmem S1x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S640x1024 .f32) (harg10 : arg10.IsWhole) (arg11 : Memref sig .tc .vmem S640x1024 .bf16) (harg11 : arg11.IsWhole) (arg12 : Memref sig .tc .vmem S1x128 .f32) (harg12 : arg12.IsWhole) (arg13 : Memref sig .tc .vmem S1x1024 .f32) (harg13 : arg13.IsWhole) (hc0 : cond0_0 i) (hc1 : ¬cond0_1 i)
    (x0 : Vec F S640x2816 .bf16) (x1 : Vec F S2816x1024 .bf16) (x2 : Vec F S640x1024 .f32) (x3 : Vec F S1x1024 .f32) (x4 : Vec F S1x128x1024 .f32) (x5 : Vec F S1x128x1024 .f32) (x6 : Vec F S1x128x1024 .f32) (x7 : Vec F S1x128x1024 .f32) (x8 : Vec F S1x128x1024 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1 S1x128.size (by sl_kernel_rfl) y

def out0_A_11 (c : Dev nD) (i : grid0.Coords) (arg1 : Memref sig .tc .vmem S640x2816 .bf16) (harg1 : arg1.IsWhole) (arg2 : Memref sig .tc .vmem S2816x1024 .bf16) (harg2 : arg2.IsWhole) (arg3 : Memref sig .tc .vmem S640x1024 .f32) (harg3 : arg3.IsWhole) (arg4 : Memref sig .tc .vmem S1x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S640x1024 .f32) (harg10 : arg10.IsWhole) (arg11 : Memref sig .tc .vmem S640x1024 .bf16) (harg11 : arg11.IsWhole) (arg12 : Memref sig .tc .vmem S1x128 .f32) (harg12 : arg12.IsWhole) (arg13 : Memref sig .tc .vmem S1x1024 .f32) (harg13 : arg13.IsWhole) (hc0 : cond0_0 i) (hc1 : ¬cond0_1 i)
    (x0 : Vec F S640x2816 .bf16) (x1 : Vec F S2816x1024 .bf16) (x2 : Vec F S640x1024 .f32) (x3 : Vec F S1x1024 .f32) (x4 : Vec F S1x128x1024 .f32) (x5 : Vec F S1x128x1024 .f32) (x6 : Vec F S1x128x1024 .f32) (x7 : Vec F S1x128x1024 .f32) (x8 : Vec F S1x128x1024 .f32) : Vec F S1x128 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1)

theorem cover0_A_12 (c : Dev nD) (i : grid0.Coords) (arg1 : Memref sig .tc .vmem S640x2816 .bf16) (harg1 : arg1.IsWhole) (arg2 : Memref sig .tc .vmem S2816x1024 .bf16) (harg2 : arg2.IsWhole) (arg3 : Memref sig .tc .vmem S640x1024 .f32) (harg3 : arg3.IsWhole) (arg4 : Memref sig .tc .vmem S1x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S640x1024 .f32) (harg10 : arg10.IsWhole) (arg11 : Memref sig .tc .vmem S640x1024 .bf16) (harg11 : arg11.IsWhole) (arg12 : Memref sig .tc .vmem S1x128 .f32) (harg12 : arg12.IsWhole) (arg13 : Memref sig .tc .vmem S1x1024 .f32) (harg13 : arg13.IsWhole) (hc0 : cond0_0 i) (hc1 : ¬cond0_1 i)
    (x0 : Vec F S640x2816 .bf16) (x1 : Vec F S2816x1024 .bf16) (x2 : Vec F S640x1024 .f32) (x3 : Vec F S1x1024 .f32) (x4 : Vec F S1x128x1024 .f32) (x5 : Vec F S1x128x1024 .f32) (x6 : Vec F S1x128x1024 .f32) (x7 : Vec F S1x128x1024 .f32) (x8 : Vec F S1x128x1024 .f32) (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.2.1 S1x1024.size (by sl_kernel_rfl) y

def out0_A_12 (c : Dev nD) (i : grid0.Coords) (arg1 : Memref sig .tc .vmem S640x2816 .bf16) (harg1 : arg1.IsWhole) (arg2 : Memref sig .tc .vmem S2816x1024 .bf16) (harg2 : arg2.IsWhole) (arg3 : Memref sig .tc .vmem S640x1024 .f32) (harg3 : arg3.IsWhole) (arg4 : Memref sig .tc .vmem S1x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S640x1024 .f32) (harg10 : arg10.IsWhole) (arg11 : Memref sig .tc .vmem S640x1024 .bf16) (harg11 : arg11.IsWhole) (arg12 : Memref sig .tc .vmem S1x128 .f32) (harg12 : arg12.IsWhole) (arg13 : Memref sig .tc .vmem S1x1024 .f32) (harg13 : arg13.IsWhole) (hc0 : cond0_0 i) (hc1 : ¬cond0_1 i)
    (x0 : Vec F S640x2816 .bf16) (x1 : Vec F S2816x1024 .bf16) (x2 : Vec F S640x1024 .f32) (x3 : Vec F S1x1024 .f32) (x4 : Vec F S1x128x1024 .f32) (x5 : Vec F S1x128x1024 .f32) (x6 : Vec F S1x128x1024 .f32) (x7 : Vec F S1x128x1024 .f32) (x8 : Vec F S1x128x1024 .f32) : Vec F S1x1024 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.2.1)

theorem cover0_B_9 (c : Dev nD) (i : grid0.Coords) (arg1 : Memref sig .tc .vmem S640x2816 .bf16) (harg1 : arg1.IsWhole) (arg2 : Memref sig .tc .vmem S2816x1024 .bf16) (harg2 : arg2.IsWhole) (arg3 : Memref sig .tc .vmem S640x1024 .f32) (harg3 : arg3.IsWhole) (arg4 : Memref sig .tc .vmem S1x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S640x1024 .f32) (harg10 : arg10.IsWhole) (arg11 : Memref sig .tc .vmem S640x1024 .bf16) (harg11 : arg11.IsWhole) (arg12 : Memref sig .tc .vmem S1x128 .f32) (harg12 : arg12.IsWhole) (arg13 : Memref sig .tc .vmem S1x1024 .f32) (harg13 : arg13.IsWhole) (hc0 : ¬cond0_0 i) (hc1 : cond0_1 i)
    (x0 : Vec F S640x2816 .bf16) (x1 : Vec F S2816x1024 .bf16) (x2 : Vec F S640x1024 .f32) (x3 : Vec F S1x1024 .f32) (x4 : Vec F S1x128x1024 .f32) (x5 : Vec F S1x128x1024 .f32) (x6 : Vec F S1x128x1024 .f32) (x7 : Vec F S1x128x1024 .f32) (x8 : Vec F S1x128x1024 .f32) (xo11 : Vec F S1x128 .f32) (xo12 : Vec F S1x1024 .f32) (y : S640x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo11 xo12).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo11 xo12).1 S640x1024.size (by sl_kernel_rfl) y

/-- What a later point leaves in the outputs. -/
def out0_B_9 (c : Dev nD) (i : grid0.Coords) (arg1 : Memref sig .tc .vmem S640x2816 .bf16) (harg1 : arg1.IsWhole) (arg2 : Memref sig .tc .vmem S2816x1024 .bf16) (harg2 : arg2.IsWhole) (arg3 : Memref sig .tc .vmem S640x1024 .f32) (harg3 : arg3.IsWhole) (arg4 : Memref sig .tc .vmem S1x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S640x1024 .f32) (harg10 : arg10.IsWhole) (arg11 : Memref sig .tc .vmem S640x1024 .bf16) (harg11 : arg11.IsWhole) (arg12 : Memref sig .tc .vmem S1x128 .f32) (harg12 : arg12.IsWhole) (arg13 : Memref sig .tc .vmem S1x1024 .f32) (harg13 : arg13.IsWhole) (hc0 : ¬cond0_0 i) (hc1 : cond0_1 i)
    (x0 : Vec F S640x2816 .bf16) (x1 : Vec F S2816x1024 .bf16) (x2 : Vec F S640x1024 .f32) (x3 : Vec F S1x1024 .f32) (x4 : Vec F S1x128x1024 .f32) (x5 : Vec F S1x128x1024 .f32) (x6 : Vec F S1x128x1024 .f32) (x7 : Vec F S1x128x1024 .f32) (x8 : Vec F S1x128x1024 .f32) (xo11 : Vec F S1x128 .f32) (xo12 : Vec F S1x1024 .f32) : Vec F S640x1024 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo11 xo12).1)

theorem cover0_B_10 (c : Dev nD) (i : grid0.Coords) (arg1 : Memref sig .tc .vmem S640x2816 .bf16) (harg1 : arg1.IsWhole) (arg2 : Memref sig .tc .vmem S2816x1024 .bf16) (harg2 : arg2.IsWhole) (arg3 : Memref sig .tc .vmem S640x1024 .f32) (harg3 : arg3.IsWhole) (arg4 : Memref sig .tc .vmem S1x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S640x1024 .f32) (harg10 : arg10.IsWhole) (arg11 : Memref sig .tc .vmem S640x1024 .bf16) (harg11 : arg11.IsWhole) (arg12 : Memref sig .tc .vmem S1x128 .f32) (harg12 : arg12.IsWhole) (arg13 : Memref sig .tc .vmem S1x1024 .f32) (harg13 : arg13.IsWhole) (hc0 : ¬cond0_0 i) (hc1 : cond0_1 i)
    (x0 : Vec F S640x2816 .bf16) (x1 : Vec F S2816x1024 .bf16) (x2 : Vec F S640x1024 .f32) (x3 : Vec F S1x1024 .f32) (x4 : Vec F S1x128x1024 .f32) (x5 : Vec F S1x128x1024 .f32) (x6 : Vec F S1x128x1024 .f32) (x7 : Vec F S1x128x1024 .f32) (x8 : Vec F S1x128x1024 .f32) (xo11 : Vec F S1x128 .f32) (xo12 : Vec F S1x1024 .f32) (y : S640x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo11 xo12).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo11 xo12).2.1 S640x1024.size (by sl_kernel_rfl) y

def out0_B_10 (c : Dev nD) (i : grid0.Coords) (arg1 : Memref sig .tc .vmem S640x2816 .bf16) (harg1 : arg1.IsWhole) (arg2 : Memref sig .tc .vmem S2816x1024 .bf16) (harg2 : arg2.IsWhole) (arg3 : Memref sig .tc .vmem S640x1024 .f32) (harg3 : arg3.IsWhole) (arg4 : Memref sig .tc .vmem S1x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S640x1024 .f32) (harg10 : arg10.IsWhole) (arg11 : Memref sig .tc .vmem S640x1024 .bf16) (harg11 : arg11.IsWhole) (arg12 : Memref sig .tc .vmem S1x128 .f32) (harg12 : arg12.IsWhole) (arg13 : Memref sig .tc .vmem S1x1024 .f32) (harg13 : arg13.IsWhole) (hc0 : ¬cond0_0 i) (hc1 : cond0_1 i)
    (x0 : Vec F S640x2816 .bf16) (x1 : Vec F S2816x1024 .bf16) (x2 : Vec F S640x1024 .f32) (x3 : Vec F S1x1024 .f32) (x4 : Vec F S1x128x1024 .f32) (x5 : Vec F S1x128x1024 .f32) (x6 : Vec F S1x128x1024 .f32) (x7 : Vec F S1x128x1024 .f32) (x8 : Vec F S1x128x1024 .f32) (xo11 : Vec F S1x128 .f32) (xo12 : Vec F S1x1024 .f32) : Vec F S640x1024 .bf16 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo11 xo12).2.1)

theorem cover0_B_11 (c : Dev nD) (i : grid0.Coords) (arg1 : Memref sig .tc .vmem S640x2816 .bf16) (harg1 : arg1.IsWhole) (arg2 : Memref sig .tc .vmem S2816x1024 .bf16) (harg2 : arg2.IsWhole) (arg3 : Memref sig .tc .vmem S640x1024 .f32) (harg3 : arg3.IsWhole) (arg4 : Memref sig .tc .vmem S1x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S640x1024 .f32) (harg10 : arg10.IsWhole) (arg11 : Memref sig .tc .vmem S640x1024 .bf16) (harg11 : arg11.IsWhole) (arg12 : Memref sig .tc .vmem S1x128 .f32) (harg12 : arg12.IsWhole) (arg13 : Memref sig .tc .vmem S1x1024 .f32) (harg13 : arg13.IsWhole) (hc0 : ¬cond0_0 i) (hc1 : cond0_1 i)
    (x0 : Vec F S640x2816 .bf16) (x1 : Vec F S2816x1024 .bf16) (x2 : Vec F S640x1024 .f32) (x3 : Vec F S1x1024 .f32) (x4 : Vec F S1x128x1024 .f32) (x5 : Vec F S1x128x1024 .f32) (x6 : Vec F S1x128x1024 .f32) (x7 : Vec F S1x128x1024 .f32) (x8 : Vec F S1x128x1024 .f32) (xo11 : Vec F S1x128 .f32) (xo12 : Vec F S1x1024 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo11 xo12).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo11 xo12).2.2.1 S1x128.size (by sl_kernel_rfl) y

def out0_B_11 (c : Dev nD) (i : grid0.Coords) (arg1 : Memref sig .tc .vmem S640x2816 .bf16) (harg1 : arg1.IsWhole) (arg2 : Memref sig .tc .vmem S2816x1024 .bf16) (harg2 : arg2.IsWhole) (arg3 : Memref sig .tc .vmem S640x1024 .f32) (harg3 : arg3.IsWhole) (arg4 : Memref sig .tc .vmem S1x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S640x1024 .f32) (harg10 : arg10.IsWhole) (arg11 : Memref sig .tc .vmem S640x1024 .bf16) (harg11 : arg11.IsWhole) (arg12 : Memref sig .tc .vmem S1x128 .f32) (harg12 : arg12.IsWhole) (arg13 : Memref sig .tc .vmem S1x1024 .f32) (harg13 : arg13.IsWhole) (hc0 : ¬cond0_0 i) (hc1 : cond0_1 i)
    (x0 : Vec F S640x2816 .bf16) (x1 : Vec F S2816x1024 .bf16) (x2 : Vec F S640x1024 .f32) (x3 : Vec F S1x1024 .f32) (x4 : Vec F S1x128x1024 .f32) (x5 : Vec F S1x128x1024 .f32) (x6 : Vec F S1x128x1024 .f32) (x7 : Vec F S1x128x1024 .f32) (x8 : Vec F S1x128x1024 .f32) (xo11 : Vec F S1x128 .f32) (xo12 : Vec F S1x1024 .f32) : Vec F S1x128 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo11 xo12).2.2.1)

theorem cover0_B_12 (c : Dev nD) (i : grid0.Coords) (arg1 : Memref sig .tc .vmem S640x2816 .bf16) (harg1 : arg1.IsWhole) (arg2 : Memref sig .tc .vmem S2816x1024 .bf16) (harg2 : arg2.IsWhole) (arg3 : Memref sig .tc .vmem S640x1024 .f32) (harg3 : arg3.IsWhole) (arg4 : Memref sig .tc .vmem S1x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S640x1024 .f32) (harg10 : arg10.IsWhole) (arg11 : Memref sig .tc .vmem S640x1024 .bf16) (harg11 : arg11.IsWhole) (arg12 : Memref sig .tc .vmem S1x128 .f32) (harg12 : arg12.IsWhole) (arg13 : Memref sig .tc .vmem S1x1024 .f32) (harg13 : arg13.IsWhole) (hc0 : ¬cond0_0 i) (hc1 : cond0_1 i)
    (x0 : Vec F S640x2816 .bf16) (x1 : Vec F S2816x1024 .bf16) (x2 : Vec F S640x1024 .f32) (x3 : Vec F S1x1024 .f32) (x4 : Vec F S1x128x1024 .f32) (x5 : Vec F S1x128x1024 .f32) (x6 : Vec F S1x128x1024 .f32) (x7 : Vec F S1x128x1024 .f32) (x8 : Vec F S1x128x1024 .f32) (xo11 : Vec F S1x128 .f32) (xo12 : Vec F S1x1024 .f32) (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo11 xo12).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo11 xo12).2.2.2.1 S1x1024.size (by sl_kernel_rfl) y

def out0_B_12 (c : Dev nD) (i : grid0.Coords) (arg1 : Memref sig .tc .vmem S640x2816 .bf16) (harg1 : arg1.IsWhole) (arg2 : Memref sig .tc .vmem S2816x1024 .bf16) (harg2 : arg2.IsWhole) (arg3 : Memref sig .tc .vmem S640x1024 .f32) (harg3 : arg3.IsWhole) (arg4 : Memref sig .tc .vmem S1x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S640x1024 .f32) (harg10 : arg10.IsWhole) (arg11 : Memref sig .tc .vmem S640x1024 .bf16) (harg11 : arg11.IsWhole) (arg12 : Memref sig .tc .vmem S1x128 .f32) (harg12 : arg12.IsWhole) (arg13 : Memref sig .tc .vmem S1x1024 .f32) (harg13 : arg13.IsWhole) (hc0 : ¬cond0_0 i) (hc1 : cond0_1 i)
    (x0 : Vec F S640x2816 .bf16) (x1 : Vec F S2816x1024 .bf16) (x2 : Vec F S640x1024 .f32) (x3 : Vec F S1x1024 .f32) (x4 : Vec F S1x128x1024 .f32) (x5 : Vec F S1x128x1024 .f32) (x6 : Vec F S1x128x1024 .f32) (x7 : Vec F S1x128x1024 .f32) (x8 : Vec F S1x128x1024 .f32) (xo11 : Vec F S1x128 .f32) (xo12 : Vec F S1x1024 .f32) : Vec F S1x1024 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo11 xo12).2.2.2.1)

/-- What the four outputs hold after a point. -/
def outsAt0 (c : Dev nD) : (n : ℕ) → n < cfg0.N → Vec F S640x1024 .f32 × Vec F S640x1024 .bf16 × Vec F S1x128 .f32 × Vec F S1x1024 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 13 = 0 then
      if h1 : 1 ≤ (n + 1) then
        False.elim (by have hN : n + 1 < 13 := lt_of_lt_of_eq hn (show cfg0.N = 13 from N_0); omega)
      else
        (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      if h1 : 1 ≤ (n + 1) then
        (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2)
      else
        False.elim (by have hN : n + 1 < 13 := lt_of_lt_of_eq hn (show cfg0.N = 13 from N_0); omega)

/-- After the first point: what that point computes. -/
theorem outsAt0_A (c : Dev nD) (t : Fin cfg0.N) (h0 : t.val % 13 = 0) (h1 : ¬1 ≤ t.val) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact outsAt0.eq_1 m c hn
  | succ n => exact absurd (Nat.succ_le_succ (Nat.zero_le n)) h1

/-- After a later point: what it computes from what the point before left. -/
theorem outsAt0_B (c : Dev nD) (t : Fin cfg0.N) (h0 : ¬t.val % 13 = 0) (h1 : 1 ≤ t.val) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact absurd (Nat.zero_mod _) h0
  | succ n => exact (outsAt0.eq_2 m c n hn).trans ((dif_neg h0).trans (dif_pos h1))

/-- What the arrays and blocks hold along the run. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
    | ⟨12, _⟩ => (outsAt0 m c t.val t.isLt).2.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]
theorem after0_12 (c : Dev nD) (t : Fin cfg0.N) : (dats m 0 c).after 12 t = (outsAt0 m c t.val t.isLt).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  have hN : t.val < 13 := lt_of_lt_of_eq t.isLt (show cfg0.N = 13 from N_0)
  rw [after0_11, after0_11]
  by_cases h0 : t.val % 13 = 0
  · by_cases h1 : 1 ≤ t.val
    · exfalso; omega
    · rw [liveAt0_11_A t ((hcond0_0 t).mpr h0) (fun h => h1 ((hcond0_1 t).mp h))] at hi
      exact absurd hi Bool.false_ne_true
  · by_cases h1 : 1 ≤ t.val
    · rw [liveAt0_11_B t (fun h => h0 ((hcond0_0 t).mp h)) ((hcond0_1 t).mpr h1)] at hi
      exact absurd hi Bool.false_ne_true
    · exfalso; omega

theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  have hN : t.val < 13 := lt_of_lt_of_eq t.isLt (show cfg0.N = 13 from N_0)
  rw [after0_12, after0_12]
  by_cases h0 : t.val % 13 = 0
  · by_cases h1 : 1 ≤ t.val
    · exfalso; omega
    · rw [liveAt0_12_A t ((hcond0_0 t).mpr h0) (fun h => h1 ((hcond0_1 t).mp h))] at hi
      exact absurd hi Bool.false_ne_true
  · by_cases h1 : 1 ≤ t.val
    · rw [liveAt0_12_B t (fun h => h0 ((hcond0_0 t).mp h)) ((hcond0_1 t).mpr h1)] at hi
      exact absurd hi Bool.false_ne_true
    · exfalso; omega
theorem before0_11_B (c : Dev nD) (t : Fin cfg0.N) (h0 : ¬t.val % 13 = 0) (h1 : 1 ≤ t.val) (d) :
    (dats m 0 c).before 11 t d = (outsAt0 m c (t.val - 1) (Nat.lt_of_le_of_lt (Nat.sub_le _ _) t.isLt)).2.2.1 := by
  rw [Dat.before_out_traj _ 11 rfl (fun _ _ => rfl) (hcarry0_11 m c) t.val t rfl d,
    if_neg (by rw [notFresh0_11_B t (fun h => h0 ((hcond0_0 t).mp h)) ((hcond0_1 t).mpr h1)]; exact Bool.false_ne_true)]
  dsimp only [dats]
theorem before0_12_B (c : Dev nD) (t : Fin cfg0.N) (h0 : ¬t.val % 13 = 0) (h1 : 1 ≤ t.val) (d) :
    (dats m 0 c).before 12 t d = (outsAt0 m c (t.val - 1) (Nat.lt_of_le_of_lt (Nat.sub_le _ _) t.isLt)).2.2.2 := by
  rw [Dat.before_out_traj _ 12 rfl (fun _ _ => rfl) (hcarry0_12 m c) t.val t rfl d,
    if_neg (by rw [notFresh0_12_B t (fun h => h0 ((hcond0_0 t).mp h)) ((hcond0_1 t).mpr h1)]; exact Bool.false_ne_true)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 2400000 in
/-- The body at any point computes what `outsAt0` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl]
  have hN : t.val < 13 := lt_of_lt_of_eq t.isLt (show cfg0.N = 13 from N_0)
  by_cases h0 : t.val % 13 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11_A t ((hcond0_0 t).mpr h0) (fun h => h1 ((hcond0_1 t).mp h))], after0_11]
      rw [show (dats m 0 c).leavesExact 12 t = owns (c : Thread nD τ) (ms0_12 t) fullShare ((dats m 0 c).after 12 t) from by
      unfold Dat.leavesExact; rw [liveAt0_12_A t ((hcond0_0 t).mpr h0) (fun h => h1 ((hcond0_1 t).mp h))], after0_12]
      rw [outsAt0_A m c t h0 h1]
      unfold out0_A_9 out0_A_10 out0_A_11 out0_A_12; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      iintro ⟨H0, H1, H2, H3, H4, H5, H6, H7, H8, ⟨%e9, H9⟩, ⟨%e10, H10⟩, ⟨%e11, H11⟩, ⟨%e12, H12⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _)
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11_B t (fun h => h0 ((hcond0_0 t).mp h)) ((hcond0_1 t).mpr h1)], after0_11]
      rw [show (dats m 0 c).leavesExact 12 t = owns (c : Thread nD τ) (ms0_12 t) fullShare ((dats m 0 c).after 12 t) from by
      unfold Dat.leavesExact; rw [liveAt0_12_B t (fun h => h0 ((hcond0_0 t).mp h)) ((hcond0_1 t).mpr h1)], after0_12]
      rw [outsAt0_B m c t h0 h1]
      simp only [before0_11_B m c t h0 h1, before0_12_B m c t h0 h1]
      unfold out0_B_9 out0_B_10 out0_B_11 out0_B_12; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_B c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [H12]; · iexact H12
      iintro ⟨H0, H1, H2, H3, H4, H5, H6, H7, H8, ⟨%e9, H9⟩, ⟨%e10, H10⟩, ⟨%e11, H11⟩, ⟨%e12, H12⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _)
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The whole run: every output array ends as the points leave it, every other array as it was. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- Every run ends, with the arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel28Ideal.Gen

namespace Cert.Kernel28Ideal.Value

open Cert.Kernel28Ideal Cert.Kernel28Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem post9 (r : PUnit × MemSt nD τ sig (Elt F)) (h : Pipeline.FramePost cfgs (dats m) 0 (V m) r) (c : Dev nD) :
    r.2.mem ((c : Thread nD τ).loc main_v1_0) = (dats m 0 c).arrAt 9 cfg0.N :=
  (h c).1 9

theorem post10 (r : PUnit × MemSt nD τ sig (Elt F)) (h : Pipeline.FramePost cfgs (dats m) 0 (V m) r) (c : Dev nD) :
    r.2.mem ((c : Thread nD τ).loc main_v1_1) = (dats m 0 c).arrAt 10 cfg0.N :=
  (h c).1 10

theorem post11 (r : PUnit × MemSt nD τ sig (Elt F)) (h : Pipeline.FramePost cfgs (dats m) 0 (V m) r) (c : Dev nD) :
    r.2.mem ((c : Thread nD τ).loc main_v1_2) = (dats m 0 c).arrAt 11 cfg0.N :=
  (h c).1 11

theorem post12 (r : PUnit × MemSt nD τ sig (Elt F)) (h : Pipeline.FramePost cfgs (dats m) 0 (V m) r) (c : Dev nD) :
    r.2.mem ((c : Thread nD τ).loc main_v1_3) = (dats m 0 c).arrAt 12 cfg0.N :=
  (h c).1 12

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The whole run, each result by name and the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 9 cfg0.N
      ∧ r.2.mem ((c : Thread nD τ).loc main_v1_1) = (dats m 0 c).arrAt 10 cfg0.N
      ∧ r.2.mem ((c : Thread nD τ).loc main_v1_2) = (dats m 0 c).arrAt 11 cfg0.N
      ∧ r.2.mem ((c : Thread nD τ).loc main_v1_3) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post9 m r h c,
      post10 m r h c,
      post11 m r h c,
      post12 m r h c,
      kept_main_arg0 m r h c,
      kept_main_arg1 m r h c,
      kept_main_arg2 m r h c,
      kept_main_arg3 m r h c,
      kept_main_arg4 m r h c⟩)
    (run_main m ρ)

end Cert.Kernel28Ideal.Value

end
-- ==== Proof.Scalars2.lean ====
/- More facts about extended reals that the value claims share: the constants of the mean squared error. -/
module

public import proofs.«01_k».proof.Proof.Scalars

@[expose] public section

noncomputable section

namespace Cert.Scalars

open Idealize.ShloMosaic

/-- The pattern of `1 / 1024`. -/
theorem inv_width_bits : Ideal.ofBits .f32 0x3A800000#32 = ((1 / 1024 : ℝ) : EReal) := by
  simp [Ideal.ofBits, Ideal.ieee, -EReal.coe_mul]; norm_num

/-- The pattern of `2`. -/
theorem two_bits : Ideal.ofBits .f32 0x40000000#32 = ((2 : ℝ) : EReal) := by
  simp [Ideal.ofBits, Ideal.ieee, -EReal.coe_mul]; norm_num

/-- The gradient of half a mean square, from the rule for a product and from the quotient taken at once. -/
theorem half_mean_grad (x : EReal) :
    Ideal.div (Ideal.ofBits .f32 0x3F000000#32) (Ideal.ofBits .f32 0x44800000#32)
        * (Ideal.ofBits .f32 0x40000000#32 * x) = x * Ideal.ofBits .f32 0x3A800000#32 := by
  rw [half_bits, width_bits, two_bits, inv_width_bits, Ideal.div_coe (by norm_num), ← mul_assoc, ← EReal.coe_mul, ← EReal.coe_mul,
    mul_comm x]
  congr 2
  norm_num

/-- Half the mean squares' sum, tile by tile and at once. -/
theorem half_mean_tiles {n : ℕ} (f : Fin n → EReal) :
    ∑ s, Ideal.ofBits .f32 0x3F000000#32 * f s * Ideal.ofBits .f32 0x3A800000#32
      = Ideal.ofBits .f32 0x3F000000#32 * (Ideal.ofBits .f32 0x3A800000#32 * ∑ s, f s) := by
  rw [half_bits, inv_width_bits, mul_sum (by exact_mod_cast (by norm_num : (0 : ℝ) ≤ 1 / 1024)) (EReal.coe_ne_top _),
    mul_sum (by exact_mod_cast (by norm_num : (0 : ℝ) ≤ 1 / 2)) (EReal.coe_ne_top _)]
  exact Finset.sum_congr rfl fun s _ => by rw [mul_assoc, mul_comm (f s)]

/-- The same with a quotient for every row. -/
theorem mean_rows {n : ℕ} (f : Fin n → EReal) :
    ∑ s, Ideal.div (f s) (Ideal.ofBits .f32 0x44800000#32) = Ideal.ofBits .f32 0x3A800000#32 * ∑ s, f s := by
  rw [width_bits, inv_width_bits, mul_sum (by exact_mod_cast (by norm_num : (0 : ℝ) ≤ 1 / 1024)) (EReal.coe_ne_top _)]
  exact Finset.sum_congr rfl fun s _ => by rw [Ideal.div_coe (by norm_num), mul_comm]

end Cert.Scalars

end
-- ==== Proof.Loss.lean ====
/- The second projection, the residual, the final normalisation and the loss with its gradient: the kernel's results. -/
module

public import proofs.«01_k».proof.Proof.LossRun
public import proofs.«01_k».proof.Proof.Scalars2
public import Idealize.ShloMosaic.Lib.Pointwise
public import Idealize.ShloMosaic.Lib.WordCmp
public import Idealize.ShloMosaic.Lib.Claim
public import Idealize.ShloMosaic.Lib.Pipeline.ValueKit

@[expose] public section

set_option maxRecDepth 16384

noncomputable section

namespace Cert.Kernel28Ideal.Loss

open Cert.Kernel28Ideal Cert.Kernel28Ideal.Gen Idealize.ShloMosaic Idealize.ShloMosaic.TcCoe Idealize.SL.Sem
open Idealize.ShloMosaic.Pipeline (Dat)

variable (m : (ℓ : Loc nD τ sig) → Buf (Elt Ideal) ℓ)

section Closed
variable (A : FVec Ideal S8320x2816 .bf16) (W : FVec Ideal S2816x1024 .bf16) (H : FVec Ideal S8320x1024 .f32) (N : FVec Ideal S1x1024 .f32)
  (T : FVec Ideal S8192x1024 .f32)

/-- The rows after the residual; the padding rows keep what they had. -/
def h2 (r : Fin 8320) (c : Fin 1024) : EReal :=
  (if 112 ≤ r.val then ∑ k : Fin 2816, A (ix2 r k) * W (ix2 k c) else 0) + H (ix2 r c)

/-- A row's mean square plus the constant. -/
def ms (r : Fin 8320) : EReal :=
  Ideal.div (∑ k : Fin 1024, h2 A W H r k * h2 A W H r k) (Ideal.ofBits .f32 0x44800000#32) + Ideal.ofBits .f32 0x358637BD#32

/-- The rows normalised, before the weights. -/
def xh (r : Fin 8320) (c : Fin 1024) : EReal := h2 A W H r c * Ideal.rsqrt (ms A W H r)

/-- The prediction's error; the rows before the first target have none. -/
def err (r : Fin 8320) (c : Fin 1024) : EReal :=
  if 128 ≤ r.val then xh A W H r c * N (ix2 0 c) - T (ix2 ⟨r.val - 128, by omega⟩ c) else 0

/-- The gradient of the loss by the prediction. -/
def dy (r : Fin 8320) (c : Fin 1024) : EReal := err A W H N T r c * Ideal.ofBits .f32 0x3A800000#32

/-- The gradient by the rows. -/
def dh (r : Fin 8320) (c : Fin 1024) : EReal :=
  Ideal.rsqrt (ms A W H r) * (dy A W H N T r c * N (ix2 0 c)
    - xh A W H r c * Ideal.div (∑ k : Fin 1024, dy A W H N T r k * N (ix2 0 k) * xh A W H r k) (Ideal.ofBits .f32 0x44800000#32))

/-- One row's part of the gradient by the normalisation's weights. -/
def dw (r : Fin 8320) (c : Fin 1024) : EReal := dy A W H N T r c * xh A W H r c

/-- A row's squared errors. -/
def sq (r : Fin 8320) : EReal := ∑ k : Fin 1024, err A W H N T r k * err A W H N T r k

/-- The loss. -/
def loss : EReal := Ideal.ofBits .f32 0x3F000000#32 * (Ideal.ofBits .f32 0x3A800000#32 * ∑ r : Fin 8320, sq A W H N T r)

end Closed

theorem idx : ∀ t : Fin cfg0.N, win0_0.index t = ![t.val, 0] ∧ win0_1.index t = ![0, 0] ∧ win0_2.index t = ![t.val, 0]
    ∧ win0_3.index t = ![0, 0] ∧ win0_4.index t = ![5 * t.val - 1, 0, 0] ∧ win0_5.index t = ![5 * t.val, 0, 0]
    ∧ win0_6.index t = ![5 * t.val + 1, 0, 0] ∧ win0_7.index t = ![5 * t.val + 2, 0, 0] ∧ win0_8.index t = ![5 * t.val + 3, 0, 0]
    ∧ win0_9.index t = ![t.val, 0] ∧ win0_10.index t = ![t.val, 0] ∧ win0_11.index t = ![0, 0] ∧ win0_12.index t = ![0, 0]
    ∧ (grid0.coords t 0).val = t.val :=
  (by decide +kernel : ∀ t : Fin grid0.N, _)

/-- A point's normalised rows. -/
def xhBlk (c : Dev nD) (t : Fin cfg0.N) : FVec Ideal S640x1024 .f32 :=
  k0_pay7 (F := Ideal) (grid0.coords t) (iblk m c 0 t) (iblk m c 1 t) (iblk m c 2 t)

/-- A point's errors. -/
def errBlk (c : Dev nD) (t : Fin cfg0.N) : FVec Ideal S640x1024 .f32 :=
  k0_pay11 (F := Ideal) (k0_pay4 (grid0.coords t)) (xhBlk m c t) (iblk m c 3 t) (k0_pay8 (iblk m c 4 t)) (k0_pay9 (iblk m c 5 t))
    (k0_pay10 (iblk m c 6 t)) (iblk m c 7 t) (iblk m c 8 t)

/-- A point's gradients by the prediction. -/
def dyBlk (c : Dev nD) (t : Fin cfg0.N) : FVec Ideal S640x1024 .f32 :=
  k0_pay12 (F := Ideal) (k0_pay4 (grid0.coords t)) (xhBlk m c t) (iblk m c 3 t) (k0_pay8 (iblk m c 4 t)) (k0_pay9 (iblk m c 5 t))
    (k0_pay10 (iblk m c 6 t)) (iblk m c 7 t) (iblk m c 8 t)

theorem select_true (x y : EReal) : Scalar.select (BitVec.ofBool true) x y = x := rfl

/-- A row of the five blocks of 128 rows one under the other. -/
theorem pieces (x0 x1 x2 x3 x4 : FVec Ideal S1x128x1024 .f32) (g : EReal) (r : Fin 640) (k : Fin 1024)
    (h0 : ∀ q : Fin 128, r.val = q.val → x0 (ix3 0 q k) = g) (h1 : ∀ q : Fin 128, r.val = 128 + q.val → x1 (ix3 0 q k) = g)
    (h2 : ∀ q : Fin 128, r.val = 256 + q.val → x2 (ix3 0 q k) = g) (h3 : ∀ q : Fin 128, r.val = 384 + q.val → x3 (ix3 0 q k) = g)
    (h4 : ∀ q : Fin 128, r.val = 512 + q.val → x4 (ix3 0 q k) = g) :
    (if h : r.val < 128 then x0 (ix3 0 ⟨r.val, h⟩ k)
      else if h : r.val - 128 < 128 then x1 (ix3 0 ⟨r.val - 128, h⟩ k)
      else if h : r.val - 128 - 128 < 128 then x2 (ix3 0 ⟨r.val - 128 - 128, h⟩ k)
      else if h : r.val - 128 - 128 - 128 < 128 then x3 (ix3 0 ⟨r.val - 128 - 128 - 128, h⟩ k)
      else x4 (ix3 0 ⟨r.val - 128 - 128 - 128 - 128, by omega⟩ k)) = g := by
  by_cases a : r.val < 128
  · rw [dif_pos a]; exact h0 _ rfl
  rw [dif_neg a]
  by_cases b : r.val - 128 < 128
  · rw [dif_pos b]; exact h1 _ (by simp only []; omega)
  rw [dif_neg b]
  by_cases d : r.val - 128 - 128 < 128
  · rw [dif_pos d]; exact h2 _ (by simp only []; omega)
  rw [dif_neg d]
  by_cases e : r.val - 128 - 128 - 128 < 128
  · rw [dif_pos e]; exact h3 _ (by simp only []; omega)
  rw [dif_neg e]; exact h4 _ (by simp only []; omega)

section Points
variable (c : Dev nD) (t : Fin cfg0.N)

theorem rows_ge (b : ℕ) (hb : b < 8320) (R : Fin 8320) (r : Fin 640) (h0 : R.val = t.val * 640 + r.val) :
    IntOp.cmpi CmpIPredicate.sge (IntOp.addi (Scalar.muli (BitVec.ofNat 32 (grid0.coords t 0).val) 640#32) (BitVec.ofNat 32 ↑r)) (BitVec.ofNat 32 b)
      = BitVec.ofBool (decide (b ≤ R.val)) := by
  have hw := r.isLt
  have hR := R.isLt
  unfold Scalar.muli
  rw [(idx t).2.2.2.2.2.2.2.2.2.2.2.2.2, WordCmp.muli_ofNat, WordCmp.addi_ofNat, WordCmp.cmpi_sge_ofNat (by omega) (by omega), h0]

theorem h2_blk (R : Fin 8320) (C : Fin 1024) (r : Fin 640) (k : Fin 1024) (h0 : R.val = t.val * 640 + r.val) (h1 : C.val = k.val) :
    k0_pay5 (F := Ideal) (grid0.coords t) (iblk m c 0 t) (iblk m c 1 t) (iblk m c 2 t) (ix2 r k)
      = h2 (m ((c : Thread nD τ).loc main_arg0)) (m ((c : Thread nD τ).loc main_arg1)) (m ((c : Thread nD τ).loc main_arg2)) R C := by
  unfold h2
  pointwise [k0_pay5, k0_pay4]
  rw [show (112#32 : BitVec 32) = BitVec.ofNat 32 112 from rfl, rows_ge t 112 (by omega) R r h0]
  refine Ideal.add_congr ?_ ?_
  · by_cases h : 112 ≤ R.val
    · rw [if_pos h, decide_eq_true h]
      refine (select_true _ _).trans (Finset.sum_congr rfl fun q _ => Ideal.mul_congr ?_ ?_)
      · blk_point [iblk, V_main_arg0, idx t]
      · blk_point [iblk, V_main_arg1, idx t]
    · rw [if_neg h, decide_eq_false h]; rfl
  · blk_point [iblk, V, idx t]

theorem rs_blk (R : Fin 8320) (r : Fin 640) (h0 : R.val = t.val * 640 + r.val) :
    k0_pay6 (F := Ideal) (grid0.coords t) (iblk m c 0 t) (iblk m c 1 t) (iblk m c 2 t) (ix2 r 0)
      = Ideal.rsqrt (ms (m ((c : Thread nD τ).loc main_arg0)) (m ((c : Thread nD τ).loc main_arg1)) (m ((c : Thread nD τ).loc main_arg2)) R) := by
  unfold ms
  pointwise [k0_pay6]
  refine congrArg Ideal.rsqrt (Ideal.add_congr (congrArg₂ Ideal.div (Finset.sum_congr rfl fun k _ => ?_) rfl) rfl)
  rw [h2_blk m c t R k r k h0 rfl]

theorem xh_blk (R : Fin 8320) (C : Fin 1024) (r : Fin 640) (k : Fin 1024) (h0 : R.val = t.val * 640 + r.val) (h1 : C.val = k.val) :
    xhBlk m c t (ix2 r k)
      = xh (m ((c : Thread nD τ).loc main_arg0)) (m ((c : Thread nD τ).loc main_arg1)) (m ((c : Thread nD τ).loc main_arg2)) R C := by
  unfold xhBlk xh
  pointwise [k0_pay7]
  rw [h2_blk m c t R C r k h0 h1, rs_blk m c t R r h0]

theorem V_target : V m c main_v0 = shapeCast _ (m ((c : Thread nD τ).loc main_arg4)) shapeCasts_S8192x1024_S64x128x1024 := by
  entry_read
  rfl

theorem tgt0 (R : Fin 8192) (q : Fin 128) (k : Fin 1024) (h : R.val + 128 = t.val * 640 + q.val) :
    iblk m c 4 t (ix3 0 q k) = m ((c : Thread nD τ).loc main_arg4) (ix2 R k) := by
  blk_point [iblk, V_target, idx t]

theorem tgt1 (R : Fin 8192) (q : Fin 128) (k : Fin 1024) (h : R.val = t.val * 640 + q.val) :
    iblk m c 5 t (ix3 0 q k) = m ((c : Thread nD τ).loc main_arg4) (ix2 R k) := by
  blk_point [iblk, V_target, idx t]

theorem tgt2 (R : Fin 8192) (q : Fin 128) (k : Fin 1024) (h : R.val = t.val * 640 + 128 + q.val) :
    iblk m c 6 t (ix3 0 q k) = m ((c : Thread nD τ).loc main_arg4) (ix2 R k) := by
  blk_point [iblk, V_target, idx t]

theorem tgt3 (R : Fin 8192) (q : Fin 128) (k : Fin 1024) (h : R.val = t.val * 640 + 256 + q.val) :
    iblk m c 7 t (ix3 0 q k) = m ((c : Thread nD τ).loc main_arg4) (ix2 R k) := by
  blk_point [iblk, V_target, idx t]

theorem tgt4 (R : Fin 8192) (q : Fin 128) (k : Fin 1024) (h : R.val = t.val * 640 + 384 + q.val) :
    iblk m c 8 t (ix3 0 q k) = m ((c : Thread nD τ).loc main_arg4) (ix2 R k) := by
  blk_point [iblk, V_target, idx t]

theorem err_blk (R : Fin 8320) (C : Fin 1024) (r : Fin 640) (k : Fin 1024) (h0 : R.val = t.val * 640 + r.val) (h1 : C = k) :
    errBlk m c t (ix2 r k)
      = err (m ((c : Thread nD τ).loc main_arg0)) (m ((c : Thread nD τ).loc main_arg1)) (m ((c : Thread nD τ).loc main_arg2))
          (m ((c : Thread nD τ).loc main_arg3)) (m ((c : Thread nD τ).loc main_arg4)) R C := by
  subst h1
  unfold errBlk err
  pointwise [k0_pay11, k0_pay4, k0_pay8, k0_pay9, k0_pay10]
  rw [show (128#32 : BitVec 32) = BitVec.ofNat 32 128 from rfl, rows_ge t 128 (by omega) R r h0, xh_blk m c t R C r C h0 rfl]
  by_cases h : 128 ≤ R.val
  · rw [if_pos h, decide_eq_true h]
    refine (congrArg₂ (· - ·) (Ideal.mul_congr rfl ?_) ?_ : _ = _)
    · blk_point [iblk, V, idx t]
    · exact pieces (iblk m c 4 t) (iblk m c 5 t) (iblk m c 6 t) (iblk m c 7 t) (iblk m c 8 t) _ r C
        (fun q e => tgt0 m c t _ q C (by simp only []; omega)) (fun q e => tgt1 m c t _ q C (by simp only []; omega))
        (fun q e => tgt2 m c t _ q C (by simp only []; omega)) (fun q e => tgt3 m c t _ q C (by simp only []; omega))
        (fun q e => tgt4 m c t _ q C (by simp only []; omega))
  · rw [if_neg h, decide_eq_false h]; rfl

theorem dy_blk (R : Fin 8320) (C : Fin 1024) (r : Fin 640) (k : Fin 1024) (h0 : R.val = t.val * 640 + r.val) (h1 : C = k) :
    dyBlk m c t (ix2 r k)
      = dy (m ((c : Thread nD τ).loc main_arg0)) (m ((c : Thread nD τ).loc main_arg1)) (m ((c : Thread nD τ).loc main_arg2))
          (m ((c : Thread nD τ).loc main_arg3)) (m ((c : Thread nD τ).loc main_arg4)) R C := by
  refine Eq.trans (?_ : _ = errBlk m c t (ix2 r k) * Ideal.ofBits .f32 0x3A800000#32) (Ideal.mul_congr (err_blk m c t R C r k h0 h1) rfl)
  unfold dyBlk errBlk
  pointwise [k0_pay12]

theorem dh_blk (R : Fin 8320) (C : Fin 1024) (r : Fin 640) (k : Fin 1024) (h0 : R.val = t.val * 640 + r.val) (h1 : C = k) :
    k0_pay13 (F := Ideal) (k0_pay4 (grid0.coords t)) (k0_pay6 (grid0.coords t) (iblk m c 0 t) (iblk m c 1 t) (iblk m c 2 t)) (xhBlk m c t)
        (iblk m c 3 t) (k0_pay8 (iblk m c 4 t)) (k0_pay9 (iblk m c 5 t)) (k0_pay10 (iblk m c 6 t)) (iblk m c 7 t) (iblk m c 8 t) (ix2 r k)
      = dh (m ((c : Thread nD τ).loc main_arg0)) (m ((c : Thread nD τ).loc main_arg1)) (m ((c : Thread nD τ).loc main_arg2))
          (m ((c : Thread nD τ).loc main_arg3)) (m ((c : Thread nD τ).loc main_arg4)) R C := by
  subst h1
  have hw : ∀ q : Fin 1024, iblk m c 3 t (ix2 0 q) = m ((c : Thread nD τ).loc main_arg3) (ix2 0 q) := fun q => by
    blk_point [iblk, V, idx t]
  have hy : ∀ q : Fin 1024, k0_pay12 (F := Ideal) (k0_pay4 (grid0.coords t)) (xhBlk m c t) (iblk m c 3 t) (k0_pay8 (iblk m c 4 t))
      (k0_pay9 (iblk m c 5 t)) (k0_pay10 (iblk m c 6 t)) (iblk m c 7 t) (iblk m c 8 t) (ix2 r q) = _ := fun q => dy_blk m c t R q r q h0 rfl
  unfold dh
  pointwise [k0_pay13]
  simp only [hw, hy, xh_blk m c t R _ r _ h0 rfl, rs_blk m c t R r h0]

theorem dw_blk (R : Fin 8320) (C : Fin 1024) (r : Fin 640) (k : Fin 1024) (h0 : R.val = t.val * 640 + r.val) (h1 : C = k) :
    dyBlk m c t (ix2 r k) * xhBlk m c t (ix2 r k)
      = dw (m ((c : Thread nD τ).loc main_arg0)) (m ((c : Thread nD τ).loc main_arg1)) (m ((c : Thread nD τ).loc main_arg2))
          (m ((c : Thread nD τ).loc main_arg3)) (m ((c : Thread nD τ).loc main_arg4)) R C :=
  Ideal.mul_congr (dy_blk m c t R C r k h0 h1) (xh_blk m c t R C r k h0 (congrArg Fin.val h1))

theorem sq_blk (R : Fin 8320) (r : Fin 640) (h0 : R.val = t.val * 640 + r.val) :
    ∑ k : Fin 1024, errBlk m c t (ix2 r k) * errBlk m c t (ix2 r k)
      = sq (m ((c : Thread nD τ).loc main_arg0)) (m ((c : Thread nD τ).loc main_arg1)) (m ((c : Thread nD τ).loc main_arg2))
          (m ((c : Thread nD τ).loc main_arg3)) (m ((c : Thread nD τ).loc main_arg4)) R :=
  Finset.sum_congr rfl fun k _ => Ideal.mul_congr (err_blk m c t R k r k h0 rfl) (err_blk m c t R k r k h0 rfl)

end Points

/-- The rows' gradient. -/
theorem final9 (c : Dev nD) : (dats m 0 c).arrAt 9 (cfgs 0).N
    = fun j : S8320x1024.Idx => dh (m ((c : Thread nD τ).loc main_arg0)) (m ((c : Thread nD τ).loc main_arg1)) (m ((c : Thread nD τ).loc main_arg2))
        (m ((c : Thread nD τ).loc main_arg3)) (m ((c : Thread nD τ).loc main_arg4)) (j 0) (j 1) := by
  refine (dats m 0 c).arrAt_eq_of_covers 9 _ (by decide +kernel) fun t _ y => ?_
  blk_simp
  rw [after0_9]
  have hN : t.val < 13 := lt_of_lt_of_eq t.isLt N_0
  refine Eq.trans (?_ : _ = k0_pay13 (F := Ideal) (k0_pay4 (grid0.coords t)) (k0_pay6 (grid0.coords t) (iblk m c 0 t) (iblk m c 1 t) (iblk m c 2 t)) (xhBlk m c t)
        (iblk m c 3 t) (k0_pay8 (iblk m c 4 t)) (k0_pay9 (iblk m c 5 t)) (k0_pay10 (iblk m c 6 t)) (iblk m c 7 t) (iblk m c 8 t) y) ?_
  · by_cases h : t.val % 13 = 0
    · rw [outsAt0_A m c t h (by omega)]
      frame_out
      rfl
    · rw [outsAt0_B m c t h (by omega)]
      frame_out
      rfl
  · refine (congrArg (k0_pay13 (F := Ideal) _ _ _ _ _ _ _ _ _) (eq_ix2 y)).trans (dh_blk m c t _ _ (y 0) (y 1) ?_ ?_)
    · blk_simp [idx t]
    · exact Fin.ext (by blk_simp [idx t])

/-- The rows' gradient once more, in the narrow format. -/
theorem final10 (c : Dev nD) : (dats m 0 c).arrAt 10 (cfgs 0).N
    = fun j : S8320x1024.Idx => dh (m ((c : Thread nD τ).loc main_arg0)) (m ((c : Thread nD τ).loc main_arg1)) (m ((c : Thread nD τ).loc main_arg2))
        (m ((c : Thread nD τ).loc main_arg3)) (m ((c : Thread nD τ).loc main_arg4)) (j 0) (j 1) := by
  refine (dats m 0 c).arrAt_eq_of_covers 10 _ (by decide +kernel) fun t _ y => ?_
  blk_simp
  rw [after0_10]
  have hN : t.val < 13 := lt_of_lt_of_eq t.isLt N_0
  refine Eq.trans (?_ : _ = k0_pay13 (F := Ideal) (k0_pay4 (grid0.coords t)) (k0_pay6 (grid0.coords t) (iblk m c 0 t) (iblk m c 1 t) (iblk m c 2 t)) (xhBlk m c t)
        (iblk m c 3 t) (k0_pay8 (iblk m c 4 t)) (k0_pay9 (iblk m c 5 t)) (k0_pay10 (iblk m c 6 t)) (iblk m c 7 t) (iblk m c 8 t) y) ?_
  · by_cases h : t.val % 13 = 0
    · rw [outsAt0_A m c t h (by omega)]
      frame_out
      rfl
    · rw [outsAt0_B m c t h (by omega)]
      frame_out
      rfl
  · refine (congrArg (k0_pay13 (F := Ideal) _ _ _ _ _ _ _ _ _) (eq_ix2 y)).trans (dh_blk m c t _ _ (y 0) (y 1) ?_ ?_)
    · blk_simp [idx t]
    · exact Fin.ext (by blk_simp [idx t])

/-- What point `t` adds to the loss. -/
def part11 (c : Dev nD) (t : Fin cfg0.N) : FVec Ideal S1x128 .f32 :=
  k0_pay15 (F := Ideal) (k0_pay4 (grid0.coords t)) (xhBlk m c t) (iblk m c 3 t) (k0_pay8 (iblk m c 4 t)) (k0_pay9 (iblk m c 5 t))
    (k0_pay10 (iblk m c 6 t)) (iblk m c 7 t) (iblk m c 8 t)

/-- What point `t` adds to the weights' gradient. -/
def part12 (c : Dev nD) (t : Fin cfg0.N) : FVec Ideal S1x1024 .f32 := k0_pay1 (F := Ideal) (xhBlk m c t) (dyBlk m c t)

theorem part11_at (c : Dev nD) (t : Fin cfg0.N) (y : S1x128.Idx) : part11 m c t y
    = Ideal.ofBits .f32 0x3F000000#32 * (∑ r : Fin 640, ∑ k : Fin 1024, errBlk m c t (ix2 r k) * errBlk m c t (ix2 r k)) * Ideal.ofBits .f32 0x3A800000#32 := by
  unfold part11 errBlk
  pointwise [k0_pay15]

theorem part12_at (c : Dev nD) (t : Fin cfg0.N) (y : S1x1024.Idx) : part12 m c t y
    = ∑ r : Fin 640, dyBlk m c t (ix2 r (y 1)) * xhBlk m c t (ix2 r (y 1)) := by
  unfold part12
  pointwise [k0_pay1]

theorem reset11 (c : Dev nD) (t : Fin cfg0.N) (h : t.val % 13 = 0) (y : S1x128.Idx) :
    (outsAt0 m c t.val t.isLt).2.2.1 y = (fun _ => 0 : S1x128.Idx → EReal) y + part11 m c t y := by
  rw [outsAt0_A m c t h (by have := lt_of_lt_of_eq t.isLt N_0; omega)]
  frame_out
  exact (zero_add _).symm

theorem step11 (c : Dev nD) (t : Fin cfg0.N) (h : ¬ t.val % 13 = 0) (y : S1x128.Idx) :
    (outsAt0 m c t.val t.isLt).2.2.1 y
      = (outsAt0 m c (t.val - 1) (Nat.lt_of_le_of_lt (Nat.sub_le _ _) t.isLt)).2.2.1 y + part11 m c t y := by
  rw [outsAt0_B m c t h (by omega)]
  frame_out
  pointwise [k0_pay2]
  rfl

theorem reset12 (c : Dev nD) (t : Fin cfg0.N) (h : t.val % 13 = 0) (y : S1x1024.Idx) :
    (outsAt0 m c t.val t.isLt).2.2.2 y = (fun _ => 0 : S1x1024.Idx → EReal) y + part12 m c t y := by
  rw [outsAt0_A m c t h (by have := lt_of_lt_of_eq t.isLt N_0; omega)]
  frame_out
  exact (zero_add _).symm

theorem step12 (c : Dev nD) (t : Fin cfg0.N) (h : ¬ t.val % 13 = 0) (y : S1x1024.Idx) :
    (outsAt0 m c t.val t.isLt).2.2.2 y
      = (outsAt0 m c (t.val - 1) (Nat.lt_of_le_of_lt (Nat.sub_le _ _) t.isLt)).2.2.2 y + part12 m c t y := by
  rw [outsAt0_B m c t h (by omega)]
  frame_out
  pointwise [k0_pay3]
  rfl

/-- The loss, at every place of its row. -/
theorem final11 (c : Dev nD) : (dats m 0 c).arrAt 11 (cfgs 0).N
    = fun _ : S1x128.Idx => loss (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 11 _ (by decide +kernel) fun t hf y => ?_
  blk_simp
  rw [after0_11]
  refine (Pipeline.eq_sum_fin_of_reset_step_apply_of_flush (fun n h => (outsAt0 m c n h).2.2.1) 13 (fun _ => 0) (part11 m c)
    (reset11 m c) (step11 m c) t ((flush0_11 t).mp hf) y).trans ?_
  have hN : t.val < 13 := lt_of_lt_of_eq t.isLt N_0
  rw [zero_add]
  refine (Finset.sum_congr rfl fun s _ => part11_at m c _ y).trans ((Scalars.half_mean_tiles _).trans ?_)
  refine Ideal.mul_congr rfl (Ideal.mul_congr rfl (Fin.sum_mul_add_congr fun s r hl => sq_blk m c _ _ r ?_))
  simp only []; omega

/-- The weights' gradient. -/
theorem final12 (c : Dev nD) : (dats m 0 c).arrAt 12 (cfgs 0).N
    = fun j : S1x1024.Idx => ∑ r : Fin 8320, dw (m ((c : Thread nD τ).loc main_arg0)) (m ((c : Thread nD τ).loc main_arg1)) (m ((c : Thread nD τ).loc main_arg2))
        (m ((c : Thread nD τ).loc main_arg3)) (m ((c : Thread nD τ).loc main_arg4)) r (j 1) := by
  refine (dats m 0 c).arrAt_eq_of_covers 12 _ (by decide +kernel) fun t hf y => ?_
  blk_simp
  rw [after0_12]
  refine (Pipeline.eq_sum_fin_of_reset_step_apply_of_flush (fun n h => (outsAt0 m c n h).2.2.2) 13 (fun _ => 0) (part12 m c)
    (reset12 m c) (step12 m c) t ((flush0_12 t).mp hf) y).trans ?_
  have hN : t.val < 13 := lt_of_lt_of_eq t.isLt N_0
  rw [zero_add]
  refine (Finset.sum_congr rfl fun s _ => part12_at m c _ y).trans ?_
  refine Fin.sum_mul_add_congr fun s r hl => dw_blk m c _ _ _ r (y 1) ?_ ?_
  · simp only []; omega
  · exact Fin.ext (by blk_simp [idx t])

end Cert.Kernel28Ideal.Loss

end
-- ==== Proof.LossRef.lean ====
/- The second projection, the residual, the final normalisation and the loss with its gradient: what the reference computes, in the
   same closed forms, and the claims. -/
module

public import proofs.«01_k».proof.Defs
public import proofs.«01_k».proof.Proof.Loss
public import proofs.«01_k».proof.Proof.Gen.Kernel28
public import proofs.«01_k».proof.Proof.Gen.Reference28Ideal.Run
public import proofs.«01_k».proof.Proof.Gen.Reference28Ideal.Read
public import Idealize.ShloMosaic.Adequacy
public import Idealize.ShloMosaic.Init

@[expose] public section

set_option maxRecDepth 16384

noncomputable section

namespace Cert.Reference28Ideal.LossRef

open Cert.Reference28Ideal Cert.Reference28Ideal.Gen Cert.Reference28Ideal.Read Idealize.ShloMosaic Idealize.ShloMosaic.TcCoe Idealize.SL.Sem
open Cert.Kernel28Ideal.Loss (h2 ms xh err dy dh dw loss)

variable (x0 : FVec Ideal S8320x2816 .bf16) (x1 : FVec Ideal S2816x1024 .bf16) (x2 : FVec Ideal S8320x1024 .f32) (x3 : FVec Ideal S1x1024 .f32)
  (x4 : FVec Ideal S8192x1024 .f32)

theorem one_of_true : (FloatOps.uitofp (F := Ideal) FTy.f32 (BitVec.ofBool true) : EReal) = 1 := by
  show (((_ : ℕ) : ℝ) : EReal) = _
  simp

theorem zero_of_false : (FloatOps.uitofp (F := Ideal) FTy.f32 (BitVec.ofBool false) : EReal) = 0 := by
  show (((_ : ℕ) : ℝ) : EReal) = _
  simp

theorem h2_eq (r : Fin 8320) (c : Fin 1024) : val_main_v10 (F := Ideal) x0 x1 x2 (ix2 r c) = h2 x0 x1 x2 r c := by
  unfold h2
  pointwise [val_main_v10, val_main_v9, val_main_v8, val_main_v7, val_main_v6, val_main_v5, val_main_v4, val_main_v3, val_main_v2,
    val_main_v1, val_main_v0, val_main_c]
  rw [show (112#32 : BitVec 32) = BitVec.ofNat 32 112 from rfl, WordCmp.cmpi_sge_ofNat (by omega) (by omega)]
  refine (add_comm _ _).trans (Ideal.add_congr ?_ rfl)
  by_cases h : 112 ≤ r.val
  · rw [if_pos h, decide_eq_true h]
    exact (Ideal.mul_congr one_of_true rfl).trans (one_mul _)
  · rw [if_neg h, decide_eq_false h]
    exact (Ideal.mul_congr zero_of_false rfl).trans (zero_mul _)

theorem ms_eq (r : Fin 8320) : val_main_v17 (F := Ideal) x0 x1 x2 (ix2 r 0) = ms x0 x1 x2 r := by
  unfold ms
  pointwise [val_main_v17, val_main_v16, val_main_v15, val_main_v14, val_main_v13, val_main_v12, val_main_v11, val_main_cst, val_main_cst_0,
    val_main_cst_1]
  simp only [h2_eq]

theorem rsqrt_eq (r : Fin 8320) : val_main_v18 (F := Ideal) x0 x1 x2 (ix2 r 0) = Ideal.rsqrt (ms x0 x1 x2 r) := by
  rw [← ms_eq]
  pointwise [val_main_v18]

theorem xh_eq (r : Fin 8320) (c : Fin 1024) : val_main_v23 (F := Ideal) x0 x1 x2 (ix2 r c) = xh x0 x1 x2 r c := by
  unfold xh
  pointwise [val_main_v23, val_main_v22]
  rw [h2_eq, rsqrt_eq]

theorem err_eq (q : Fin 8192) (r : Fin 8320) (c : Fin 1024) (h : r.val = 128 + q.val) :
    val_main_v27 (F := Ideal) x0 x1 x2 x3 x4 (ix2 q c) = err x0 x1 x2 x3 x4 r c := by
  unfold err
  rw [if_pos (by omega)]
  pointwise [val_main_v27, val_main_v26, val_main_v25, val_main_v24]
  rw [xh_eq]
  rw [show (⟨128 + q.val, by omega⟩ : Fin 8320) = r from Fin.ext h.symm]
  exact congrArg₂ (· - ·) rfl (congrArg x4 (congrArg (fun a : Fin 8192 => ix2 a c) (Fin.ext (by simp only []; omega))))

theorem dy_eq (r : Fin 8320) (c : Fin 1024) : val_main_v42 (F := Ideal) x0 x1 x2 x3 x4 (ix2 r c) = dy x0 x1 x2 x3 x4 r c := by
  unfold dy
  pointwise [val_main_v42, val_main_v41, val_main_v40, val_main_v39, val_main_v38, val_main_v37, val_main_v36, val_main_v30, val_main_v29,
    val_main_cst_3, val_main_cst_8, val_main_cst_9, val_main_cst_10, val_main_cst_11]
  have hr := r.isLt
  by_cases h : 128 ≤ r.val
  · rw [dif_pos ⟨h, by omega⟩]
    refine (Scalars.half_mean_grad _).trans (Ideal.mul_congr (err_eq x0 x1 x2 x3 x4 _ r c (by simp only []; omega)) rfl)
  · rw [dif_neg (fun e => h e.1)]
    unfold err
    rw [if_neg h, zero_mul]

theorem g_eq (r : Fin 8320) (c : Fin 1024) : val_main_v47 (F := Ideal) x0 x1 x2 x3 x4 (ix2 r c) = dy x0 x1 x2 x3 x4 r c * x3 (ix2 0 c) := by
  pointwise [val_main_v47, val_main_v46]
  rw [dy_eq]

theorem t_eq (r : Fin 8320) (c : Fin 1024) : val_main_v57 (F := Ideal) x0 x1 x2 x3 x4 (ix2 r c)
    = Ideal.div ((∑ k : Fin 1024, h2 x0 x1 x2 r k * (dy x0 x1 x2 x3 x4 r k * x3 (ix2 0 k)))
        * (Ideal.ofBits .f32 0xBF000000#32 * Ideal.div (Ideal.rsqrt (ms x0 x1 x2 r)) (ms x0 x1 x2 r))) (Ideal.ofBits .f32 0x44800000#32) := by
  pointwise [val_main_v57, val_main_v56, val_main_v55, val_main_v54, val_main_v53, val_main_v50, val_main_v49, val_main_v48, val_main_v21,
    val_main_v20, val_main_v19, val_main_cst_2, val_main_cst_13, val_main_cst_14, val_main_cst_15]
  simp only [g_eq, h2_eq, ms_eq, rsqrt_eq, Fin.sum_univ_one, zero_add]

theorem res9 (j : S8320x1024.Idx) : val_main_v61 (F := Ideal) x0 x1 x2 x3 x4 j = dh x0 x1 x2 x3 x4 (j 0) (j 1) := by
  obtain ⟨r, c, rfl⟩ : ∃ r c, j = ix2 r c := ⟨j 0, j 1, eq_ix2 j⟩
  unfold dh
  pointwise [val_main_v61, val_main_v60, val_main_v59, val_main_v58, val_main_v52, val_main_v51]
  simp only [g_eq, t_eq, rsqrt_eq, h2_eq]
  have e := Scalars.rms_grad (fun k => h2 x0 x1 x2 r k) (fun k => dy x0 x1 x2 x3 x4 r k * x3 (ix2 0 k)) 0 (ms x0 x1 x2 r) rfl c
  rw [add_zero, zero_add] at e
  exact e.symm

theorem res10 (j : S8320x1024.Idx) : val_main_v62 (F := Ideal) x0 x1 x2 x3 x4 j = dh x0 x1 x2 x3 x4 (j 0) (j 1) :=
  res9 x0 x1 x2 x3 x4 j

/-- Only the rows with a target count. -/
theorem sum_rows : ∑ r : Fin 8320, Cert.Kernel28Ideal.Loss.sq x0 x1 x2 x3 x4 r = ∑ q : Fin 8192, Cert.Kernel28Ideal.Loss.sq x0 x1 x2 x3 x4 ⟨128 + q.val, by omega⟩ := by
  refine (Fin.sum_univ_add (a := 128) (b := 8192) (Cert.Kernel28Ideal.Loss.sq x0 x1 x2 x3 x4)).trans ?_
  rw [Finset.sum_eq_zero, zero_add]
  · rfl
  · intro r _
    have hr := r.isLt
    unfold Cert.Kernel28Ideal.Loss.sq err
    refine Finset.sum_eq_zero fun k _ => ?_
    rw [if_neg (by show ¬ 128 ≤ r.val; omega), zero_mul]

theorem res11 (j : S1x128.Idx) : val_main_v63 (F := Ideal) x0 x1 x2 x3 x4 j = loss x0 x1 x2 x3 x4 := by
  unfold loss
  pointwise [val_main_v63, val_main_v35, val_main_v34, val_main_v33, val_main_v32, val_main_v31, val_main_v28, val_main_cst_4,
    val_main_cst_5, val_main_cst_6, val_main_cst_7]
  refine Ideal.mul_congr rfl ((Scalars.mean_rows _).trans (Ideal.mul_congr rfl ?_))
  refine Eq.trans (Finset.sum_congr rfl fun q _ => ?_) (sum_rows x0 x1 x2 x3 x4).symm
  unfold Cert.Kernel28Ideal.Loss.sq
  exact Finset.sum_congr rfl fun k _ => Ideal.mul_congr (err_eq x0 x1 x2 x3 x4 q _ k rfl) (err_eq x0 x1 x2 x3 x4 q _ k rfl)

theorem res12 (j : S1x1024.Idx) : val_main_v45 (F := Ideal) x0 x1 x2 x3 x4 j = ∑ r : Fin 8320, dw x0 x1 x2 x3 x4 r (j 1) := by
  obtain ⟨r, c, rfl⟩ : ∃ r c, j = ix2 r c := ⟨j 0, j 1, eq_ix2 j⟩
  pointwise [val_main_v45, val_main_v44, val_main_v43, val_main_cst_12]
  simp only [dy_eq, xh_eq, zero_add]
  exact Finset.sum_congr rfl fun k _ => mul_comm _ _

end Cert.Reference28Ideal.LossRef

namespace Cert.Loss

open Idealize.ShloMosaic Idealize.ShloMosaic.TcCoe Idealize.SL.Sem

section
variable {F : FTy → Type} [FloatOps F]

/-- The two programs have the same text. -/
theorem body_same : Cert.Kernel28.defs₀ (F := F) = Cert.Kernel28Ideal.defs₀ (F := F) := by
  unfold Cert.Kernel28.defs₀ Cert.Kernel28Ideal.defs₀
  refine congrArg Defs.onTc (funext fun l => funext fun a => ?_)
  match l, a with
  | 0, (t, s) => rfl

theorem defs_same : Cert.Kernel28.defs (F := F) = Cert.Kernel28Ideal.defs (F := F) :=
  congrArg (Pipeline.defs (Cert.Kernel28Ideal.pcfgs (F := F))) body_same

end

/-- The kernel's run ends with the arguments unchanged, on the machine's floats. -/
theorem kernel_frame : Cert.quiescent_Kernel28 := fun m ρ _ =>
  (congrArg (fun d => θ_run d (onTc (τ := Cert.Kernel28Ideal.τ) (Cert.Kernel28Ideal.main (F := Bits))) ⟨m, fun _ => 0, ρ⟩ _) defs_same).mpr
    (Cert.Kernel28Ideal.Gen.frame (F := Bits) m ρ)

/-- The same over the extended reals. -/
theorem ideal_frame : Cert.quiescent_Kernel28Ideal := fun m ρ _ => Cert.Kernel28Ideal.Gen.frame (F := Ideal) m ρ

theorem reference_no_semaphore : ∀ s : SemLoc Cert.Reference28Ideal.sig, False := by decide

/-- The reference runs to the end on every input. -/
theorem reference_frame : Cert.quiescent_Reference28Ideal := fun m ρ _ =>
  (θ_run _ _ _).mono (fun _ h => ⟨fun c => (h c).2.2.2.2, funext fun s => (reference_no_semaphore s.2).elim⟩)
    (Cert.Reference28Ideal.Value.run m ρ)

/-- The kernel's four results are the reference's. -/
theorem algebraic : Cert.algebraic_Kernel28Ideal_Reference28Ideal := by
  intro m g m' g' _ hag
  refine ⟨_, _, _, _, Cert.Kernel28Ideal.Value.run_blocks m g, (θ_run _ _ _).mono (fun r h c => ?_) (Cert.Reference28Ideal.Value.run m' g')⟩
  obtain ⟨e0, e1, e2, e3, e4⟩ := hag c
  obtain ⟨h0, h1, h2, h3, hrest⟩ := h c
  refine ⟨h0.trans ?_, h1.trans ?_, h2.trans ?_, h3.trans ?_, hrest⟩
  · rw [Cert.Reference28Ideal.Read.val_main_v61_eq, e0, e1, e2, e3, e4]
    exact (funext fun j => Cert.Reference28Ideal.LossRef.res9 _ _ _ _ _ j).trans (Cert.Kernel28Ideal.Loss.final9 m c).symm
  · rw [Cert.Reference28Ideal.Read.val_main_v62_eq, e0, e1, e2, e3, e4]
    exact (funext fun j => Cert.Reference28Ideal.LossRef.res10 _ _ _ _ _ j).trans (Cert.Kernel28Ideal.Loss.final10 m c).symm
  · rw [Cert.Reference28Ideal.Read.val_main_v63_eq, e0, e1, e2, e3, e4]
    exact (funext fun j => Cert.Reference28Ideal.LossRef.res11 _ _ _ _ _ j).trans (Cert.Kernel28Ideal.Loss.final11 m c).symm
  · rw [Cert.Reference28Ideal.Read.val_main_v45_eq, e0, e1, e2, e3, e4]
    exact (funext fun j => Cert.Reference28Ideal.LossRef.res12 _ _ _ _ _ j).trans (Cert.Kernel28Ideal.Loss.final12 m c).symm

end Cert.Loss

end
-- ==== Proof.lean ====
/- The proof of every claim: the frames of the generated modules, and the values of the modules named for each call. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame.Runs
public import proofs.«01_k».proof.Proof.Gen.Kernel28Ideal.Frame.RunA
public import proofs.«01_k».proof.Proof.Gen.Kernel28Ideal.Frame.RunB
public import proofs.«01_k».proof.Proof.Gen.Reference28Ideal
public import proofs.«01_k».proof.Proof.Gen.Reference28Ideal.Run
public import proofs.«01_k».proof.Proof.Gen.Reference28Ideal.Read
public import proofs.«01_k».proof.Proof.MergeClaim
public import proofs.«01_k».proof.Proof.Rms2Claim
public import proofs.«01_k».proof.Proof.Rms3Claim
public import proofs.«01_k».proof.Proof.Prod4
public import proofs.«01_k».proof.Proof.Prod5
public import proofs.«01_k».proof.Proof.Prod6
public import proofs.«01_k».proof.Proof.Prod7
public import proofs.«01_k».proof.Proof.Prod8
public import proofs.«01_k».proof.Proof.Prod9
public import proofs.«01_k».proof.Proof.Prod10
public import proofs.«01_k».proof.Proof.Prod11
public import proofs.«01_k».proof.Proof.Prod12
public import proofs.«01_k».proof.Proof.Prod13
public import proofs.«01_k».proof.Proof.Prod14
public import proofs.«01_k».proof.Proof.Prod15
public import proofs.«01_k».proof.Proof.Prod16
public import proofs.«01_k».proof.Proof.Prod17
public import proofs.«01_k».proof.Proof.Prod18
public import proofs.«01_k».proof.Proof.Prod19
public import proofs.«01_k».proof.Proof.Adam20
public import proofs.«01_k».proof.Proof.Adam21
public import proofs.«01_k».proof.Proof.Adam22
public import proofs.«01_k».proof.Proof.Adam23
public import proofs.«01_k».proof.Proof.MergeFwd
public import proofs.«01_k».proof.Proof.RmsFwd
public import proofs.«01_k».proof.Proof.EntryConv
public import proofs.«01_k».proof.Proof.FfnIn
public import proofs.«01_k».proof.Proof.LossRef
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Kernel24.Gen.facts,
    Cert.Kernel24Ideal.Gen.facts,
    Cert.Reference24Ideal.Gen.facts,
    Cert.Kernel25.Gen.facts,
    Cert.Kernel25Ideal.Gen.facts,
    Cert.Reference25Ideal.Gen.facts,
    Cert.Kernel26.Gen.facts,
    Cert.Kernel26Ideal.Gen.facts,
    Cert.Reference26Ideal.Gen.facts,
    Cert.Kernel27.Gen.facts,
    Cert.Kernel27Ideal.Gen.facts,
    Cert.Reference27Ideal.Gen.facts,
    Cert.Kernel28.Gen.facts,
    Cert.Kernel28Ideal.Gen.facts,
    Cert.Reference28Ideal.Gen.facts,
    fun m ρ _ => Cert.Kernel.Gen.frame m ρ,
    fun m ρ _ => Cert.KernelIdeal.Gen.frame m ρ,
    Cert.Merge.reference_frame,
    fun m ρ _ => Cert.Kernel2.Gen.frame m ρ,
    fun m ρ _ => Cert.Kernel2Ideal.Gen.frame m ρ,
    Cert.Rms2.reference_frame,
    fun m ρ _ => Cert.Kernel3.Gen.frame m ρ,
    fun m ρ _ => Cert.Kernel3Ideal.Gen.frame m ρ,
    Cert.Rms3.reference_frame,
    fun m ρ _ => Cert.Kernel4.Gen.frame m ρ,
    fun m ρ _ => Cert.Kernel4Ideal.Gen.frame m ρ,
    Cert.Prod4.reference_frame,
    fun m ρ _ => Cert.Kernel5.Gen.frame m ρ,
    fun m ρ _ => Cert.Kernel5Ideal.Gen.frame m ρ,
    Cert.Prod5.reference_frame,
    fun m ρ _ => Cert.Kernel6.Gen.frame m ρ,
    fun m ρ _ => Cert.Kernel6Ideal.Gen.frame m ρ,
    Cert.Prod6.reference_frame,
    fun m ρ _ => Cert.Kernel7.Gen.frame m ρ,
    fun m ρ _ => Cert.Kernel7Ideal.Gen.frame m ρ,
    Cert.Prod7.reference_frame,
    fun m ρ _ => Cert.Kernel8.Gen.frame m ρ,
    fun m ρ _ => Cert.Kernel8Ideal.Gen.frame m ρ,
    Cert.Prod8.reference_frame,
    fun m ρ _ => Cert.Kernel9.Gen.frame m ρ,
    fun m ρ _ => Cert.Kernel9Ideal.Gen.frame m ρ,
    Cert.Prod9.reference_frame,
    fun m ρ _ => Cert.Kernel10.Gen.frame m ρ,
    fun m ρ _ => Cert.Kernel10Ideal.Gen.frame m ρ,
    Cert.Prod10.reference_frame,
    fun m ρ _ => Cert.Kernel11.Gen.frame m ρ,
    fun m ρ _ => Cert.Kernel11Ideal.Gen.frame m ρ,
    Cert.Prod11.reference_frame,
    fun m ρ _ => Cert.Kernel12.Gen.frame m ρ,
    fun m ρ _ => Cert.Kernel12Ideal.Gen.frame m ρ,
    Cert.Prod12.reference_frame,
    fun m ρ _ => Cert.Kernel13.Gen.frame m ρ,
    fun m ρ _ => Cert.Kernel13Ideal.Gen.frame m ρ,
    Cert.Prod13.reference_frame,
    fun m ρ _ => Cert.Kernel14.Gen.frame m ρ,
    fun m ρ _ => Cert.Kernel14Ideal.Gen.frame m ρ,
    Cert.Prod14.reference_frame,
    fun m ρ _ => Cert.Kernel15.Gen.frame m ρ,
    fun m ρ _ => Cert.Kernel15Ideal.Gen.frame m ρ,
    Cert.Prod15.reference_frame,
    fun m ρ _ => Cert.Kernel16.Gen.frame m ρ,
    fun m ρ _ => Cert.Kernel16Ideal.Gen.frame m ρ,
    Cert.Prod16.reference_frame,
    fun m ρ _ => Cert.Kernel17.Gen.frame m ρ,
    fun m ρ _ => Cert.Kernel17Ideal.Gen.frame m ρ,
    Cert.Prod17.reference_frame,
    fun m ρ _ => Cert.Kernel18.Gen.frame m ρ,
    fun m ρ _ => Cert.Kernel18Ideal.Gen.frame m ρ,
    Cert.Prod18.reference_frame,
    fun m ρ _ => Cert.Kernel19.Gen.frame m ρ,
    fun m ρ _ => Cert.Kernel19Ideal.Gen.frame m ρ,
    Cert.Prod19.reference_frame,
    fun m ρ _ => Cert.Kernel20.Gen.frame m ρ,
    fun m ρ _ => Cert.Kernel20Ideal.Gen.frame m ρ,
    Cert.Adam20.reference_frame,
    fun m ρ _ => Cert.Kernel21.Gen.frame m ρ,
    fun m ρ _ => Cert.Kernel21Ideal.Gen.frame m ρ,
    Cert.Adam21.reference_frame,
    fun m ρ _ => Cert.Kernel22.Gen.frame m ρ,
    fun m ρ _ => Cert.Kernel22Ideal.Gen.frame m ρ,
    Cert.Adam22.reference_frame,
    fun m ρ _ => Cert.Kernel23.Gen.frame m ρ,
    fun m ρ _ => Cert.Kernel23Ideal.Gen.frame m ρ,
    Cert.Adam23.reference_frame,
    fun m ρ _ => Cert.Kernel24.Gen.frame m ρ,
    fun m ρ _ => Cert.Kernel24Ideal.Gen.frame m ρ,
    Cert.MergeFwd.reference_frame,
    fun m ρ _ => Cert.Kernel25.Gen.frame m ρ,
    fun m ρ _ => Cert.Kernel25Ideal.Gen.frame m ρ,
    Cert.RmsFwd.reference_frame,
    fun m ρ _ => Cert.Kernel26.Gen.frame m ρ,
    fun m ρ _ => Cert.Kernel26Ideal.Gen.frame m ρ,
    Cert.EntryConv.reference_frame,
    fun m ρ _ => Cert.Kernel27.Gen.frame m ρ,
    fun m ρ _ => Cert.Kernel27Ideal.Gen.frame m ρ,
    Cert.FfnIn.reference_frame,
    Cert.Loss.kernel_frame,
    Cert.Loss.ideal_frame,
    Cert.Loss.reference_frame,
    trivial,
    Cert.Merge.algebraic,
    trivial,
    Cert.Rms2.algebraic,
    trivial,
    Cert.Rms3.algebraic,
    trivial,
    Cert.Prod4.algebraic,
    trivial,
    Cert.Prod5.algebraic,
    trivial,
    Cert.Prod6.algebraic,
    trivial,
    Cert.Prod7.algebraic,
    trivial,
    Cert.Prod8.algebraic,
    trivial,
    Cert.Prod9.algebraic,
    trivial,
    Cert.Prod10.algebraic,
    trivial,
    Cert.Prod11.algebraic,
    trivial,
    Cert.Prod12.algebraic,
    trivial,
    Cert.Prod13.algebraic,
    trivial,
    Cert.Prod14.algebraic,
    trivial,
    Cert.Prod15.algebraic,
    trivial,
    Cert.Prod16.algebraic,
    trivial,
    Cert.Prod17.algebraic,
    trivial,
    Cert.Prod18.algebraic,
    trivial,
    Cert.Prod19.algebraic,
    trivial,
    Cert.Adam20.algebraic,
    trivial,
    Cert.Adam21.algebraic,
    trivial,
    Cert.Adam22.algebraic,
    trivial,
    Cert.Adam23.algebraic,
    trivial,
    Cert.MergeFwd.algebraic,
    trivial,
    Cert.RmsFwd.algebraic,
    trivial,
    Cert.EntryConv.algebraic,
    trivial,
    Cert.FfnIn.algebraic,
    trivial,
    Cert.Loss.algebraic⟩

end Cert.Proof

end
